-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_pointers [hPre_finite_pointers : Cert.Pre_finite_pointers.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pointers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pointers [hPre_finite_pointers : Cert.Pre_finite_pointers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pointers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_pointers [hKernelIdeal : Cert.KernelIdeal.Facts] [hPre_finite_pointers : Cert.Pre_finite_pointers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pointers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_pointers [hReferenceIdeal : Cert.ReferenceIdeal.Facts] [hPre_finite_pointers : Cert.Pre_finite_pointers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pointers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_pointers [hKernelIdeal : Cert.KernelIdeal.Facts] [hReferenceIdeal : Cert.ReferenceIdeal.Facts] [hPre_finite_pointers : Cert.Pre_finite_pointers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pointers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_pointers : Cert.Pre_finite_pointers.Facts),
    quiescent_Kernel (hKernel := hKernel)
    ∧ quiescent_KernelIdeal (hKernelIdeal := hKernelIdeal)
    ∧ quiescent_KernelIdeal_pre_finite_pointers (hKernelIdeal := hKernelIdeal) (hPre_finite_pointers := hPre_finite_pointers)
    ∧ quiescent_ReferenceIdeal (hReferenceIdeal := hReferenceIdeal)
    ∧ quiescent_ReferenceIdeal_pre_finite_pointers (hReferenceIdeal := hReferenceIdeal) (hPre_finite_pointers := hPre_finite_pointers)
    ∧ preserves_Kernel_KernelIdeal
    ∧ algebraic_KernelIdeal_ReferenceIdeal_pre_finite_pointers (hKernelIdeal := hKernelIdeal) (hReferenceIdeal := hReferenceIdeal) (hPre_finite_pointers := hPre_finite_pointers)
-- ==== Pre_finite_pointers.lean ====
abbrev S128x32x8 : Shape := ⟨3, ![128, 32, 8]⟩
abbrev S8x64 : Shape := ⟨2, ![8, 64]⟩
abbrev S64 : Shape := ⟨1, ![64]⟩
abbrev S64x8 : Shape := ⟨2, ![64, 8]⟩
abbrev S8 : Shape := ⟨1, ![8]⟩
abbrev S1x64x64 : Shape := ⟨3, ![1, 64, 64]⟩
abbrev S1x64 : Shape := ⟨2, ![1, 64]⟩
abbrev S4x2048 : Shape := ⟨2, ![4, 2048]⟩
abbrev S4x64 : Shape := ⟨2, ![4, 64]⟩
abbrev S4 : Shape := ⟨1, ![4]⟩
abbrev S4x16 : Shape := ⟨2, ![4, 16]⟩
abbrev S4x128 : Shape := ⟨2, ![4, 128]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S64x8 : S_.BroadcastsInDim S64x8 (![] : Fin 0 → Fin S64x8.rank)
  reducesTo_S64x8_S_d0_1 : S64x8.ReducesTo [0, 1] S_

variable [Facts]

def fn {F : FTy → Type} [FloatOps F] (main_arg0 : FVec F S128x32x8 .f32) (main_arg1 : FVec F S8x64 .f32) (main_arg2 : FVec F S64 .f32) (main_arg3 : FVec F S64x8 .f32) (main_arg4 : FVec F S8 .f32) (main_arg5 : FVec F S1x64x64 .f32) (main_arg6 : FVec F S1x64 .f32) (main_arg7 : FVec F S4x2048 .f32) (main_arg8 : FVec F S4x64 .f32) (main_arg9 : FVec F S4 .f32) (main_arg10 : FVec F S4 .f32) (main_arg11 : FVec F S4x16 .f32) (main_arg12 : FVec F S4x128 .f32) : IVec S_ 1 :=
  let main_v0 : FVec F S4x128 .f32 := Host.absf main_arg12
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_v4 : FVec F S4x2048 .f32 := Host.absf main_arg7
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S64x8 .f32 := Host.absf main_arg3
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  main_v13
-- ==== Kernel.lean ====
abbrev S128x32x8 : Shape := ⟨3, ![128, 32, 8]⟩
abbrev S8x64 : Shape := ⟨2, ![8, 64]⟩
abbrev S64 : Shape := ⟨1, ![64]⟩
abbrev S64x8 : Shape := ⟨2, ![64, 8]⟩
abbrev S8 : Shape := ⟨1, ![8]⟩
abbrev S1x64x64 : Shape := ⟨3, ![1, 64, 64]⟩
abbrev S1x64 : Shape := ⟨2, ![1, 64]⟩
abbrev S4x2048 : Shape := ⟨2, ![4, 2048]⟩
abbrev S4x64 : Shape := ⟨2, ![4, 64]⟩
abbrev S4 : Shape := ⟨1, ![4]⟩
abbrev S4x16 : Shape := ⟨2, ![4, 16]⟩
abbrev S4x128 : Shape := ⟨2, ![4, 128]⟩
abbrev S32x8x128 : Shape := ⟨3, ![32, 8, 128]⟩
abbrev S2048x4 : Shape := ⟨2, ![2048, 4]⟩
abbrev S_ : Shape := ⟨0, ![]⟩
abbrev S4x48 : Shape := ⟨2, ![4, 48]⟩
abbrev S64x1 : Shape := ⟨2, ![64, 1]⟩
abbrev S8x1 : Shape := ⟨2, ![8, 1]⟩
abbrev S1x64x1 : Shape := ⟨3, ![1, 64, 1]⟩
abbrev S4x64x1 : Shape := ⟨3, ![4, 64, 1]⟩
abbrev S4x1x1 : Shape := ⟨3, ![4, 1, 1]⟩
abbrev S128x64x128 : Shape := ⟨3, ![128, 64, 128]⟩
abbrev S5x128x128 : Shape := ⟨3, ![5, 128, 128]⟩
abbrev S128x128 : Shape := ⟨2, ![128, 128]⟩
abbrev S4x64x128 : Shape := ⟨3, ![4, 64, 128]⟩
abbrev S5x128 : Shape := ⟨2, ![5, 128]⟩
abbrev S128x1 : Shape := ⟨2, ![128, 1]⟩
abbrev S2048x128 : Shape := ⟨2, ![2048, 128]⟩
abbrev S1x8x128 : Shape := ⟨3, ![1, 8, 128]⟩
abbrev S8x128 : Shape := ⟨2, ![8, 128]⟩
abbrev S64x128 : Shape := ⟨2, ![64, 128]⟩
abbrev S1x128 : Shape := ⟨2, ![1, 128]⟩
abbrev S128 : Shape := ⟨1, ![128]⟩
abbrev S1x128x128 : Shape := ⟨3, ![1, 128, 128]⟩
abbrev S128x1x128 : Shape := ⟨3, ![128, 1, 128]⟩
abbrev S1x1x1 : Shape := ⟨3, ![1, 1, 1]⟩
abbrev S1x1 : Shape := ⟨2, ![1, 1]⟩
abbrev S1x64x128 : Shape := ⟨3, ![1, 64, 128]⟩
abbrev S64x64 : Shape := ⟨2, ![64, 64]⟩
abbrev S5x1x128 : Shape := ⟨3, ![5, 1, 128]⟩
abbrev S2048x1 : Shape := ⟨2, ![2048, 1]⟩

abbrev nBuf : Space → Nat
  | .hbm => 38
  | .vmem => 19
  | .smem => 0
  | _ => 0

abbrev bufTy : (tb : Table) → Fin (tcTables nBuf tb) → BufTy
  | .hbm, ⟨0, _⟩ => ⟨S128x32x8, .f32⟩
  | .hbm, ⟨1, _⟩ => ⟨S8x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S1x64x64, .f32⟩
  | .hbm, ⟨6, _⟩ => ⟨S1x64, .f32⟩
  | .hbm, ⟨7, _⟩ => ⟨S4x2048, .f32⟩
  | .hbm, ⟨8, _⟩ => ⟨S4x64, .f32⟩
  | .hbm, ⟨9, _⟩ => ⟨S4, .f32⟩
  | .hbm, ⟨10, _⟩ => ⟨S4, .f32⟩
  | .hbm, ⟨11, _⟩ => ⟨S4x16, .f32⟩
  | .hbm, ⟨12, _⟩ => ⟨S4x128, .f32⟩
  | .hbm, ⟨13, _⟩ => ⟨S32x8x128, .f32⟩
  | .hbm, ⟨14, _⟩ => ⟨S64x8, .f32⟩
  | .hbm, ⟨15, _⟩ => ⟨S8x64, .f32⟩
  | .hbm, ⟨16, _⟩ => ⟨S1x64x64, .f32⟩
  | .hbm, ⟨17, _⟩ => ⟨S2048x4, .f32⟩
  | .hbm, ⟨18, _⟩ => ⟨S_, .f32⟩
  | .hbm, ⟨19, _⟩ => ⟨S4x48, .f32⟩
  | .hbm, ⟨20, _⟩ => ⟨S4x64, .f32⟩
  | .hbm, ⟨21, _⟩ => ⟨S64x1, .f32⟩
  | .hbm, ⟨22, _⟩ => ⟨S8x1, .f32⟩
  | .hbm, ⟨23, _⟩ => ⟨S1x64x1, .f32⟩
  | .hbm, ⟨24, _⟩ => ⟨S4x64x1, .f32⟩
  | .hbm, ⟨25, _⟩ => ⟨S4x1x1, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4x1x1, .f32⟩
  | .hbm, ⟨35, _⟩ => ⟨S4x64x1, .f32⟩
  | .hbm, ⟨36, _⟩ => ⟨S32x8x128, .f32⟩
  | .hbm, ⟨37, _⟩ => ⟨S128x32x8, .f32⟩
  | .local _ .vmem, ⟨0, _⟩ => ⟨S32x8x128, .f32⟩
  | .local _ .vmem, ⟨1, _⟩ => ⟨S64x8, .f32⟩
  | .local _ .vmem, ⟨2, _⟩ => ⟨S64x1, .f32⟩
  | .local _ .vmem, ⟨3, _⟩ => ⟨S8x64, .f32⟩
  | .local _ .vmem, ⟨4, _⟩ => ⟨S8x1, .f32⟩
  | .local _ .vmem, ⟨5, _⟩ => ⟨S1x64x64, .f32⟩
  | .local _ .vmem, ⟨6, _⟩ => ⟨S1x64x1, .f32⟩
  | .local _ .vmem, ⟨7, _⟩ => ⟨S2048x4, .f32⟩
  | .local _ .vmem, ⟨8, _⟩ => ⟨S4x64x1, .f32⟩
  | .local _ .vmem, ⟨9, _⟩ => ⟨S4x1x1, .f32⟩
  | .local _ .vmem, ⟨10, _⟩ => ⟨S4x1x1, .f32⟩
  | .local _ .vmem, ⟨11, _⟩ => ⟨S4x64x1, .f32⟩
  | .local _ .vmem, ⟨12, _⟩ => ⟨S4x128, .f32⟩
  | .local _ .vmem, ⟨13, _⟩ => ⟨S32x8x128, .f32⟩
  | .local _ .vmem, ⟨14, _⟩ => ⟨S128x64x128, .f32⟩
  | .local _ .vmem, ⟨15, _⟩ => ⟨S5x128x128, .f32⟩
  | .local _ .vmem, ⟨16, _⟩ => ⟨S128x128, .f32⟩
  | .local _ .vmem, ⟨17, _⟩ => ⟨S4x128, .f32⟩
  | .local _ .vmem, ⟨18, _⟩ => ⟨S4x64x128, .f32⟩
  | _, _ => ⟨S128x32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v27 : BitVec 32 := Scalar.addi c0_i32 c32_i32
  let c1_i32 : BitVec 32 := 1#32
  ⟨c0_i32, v27, c1_i32⟩
def k0_off1 (k0_t1 : Fin k0_t1_loop.trips) : Fin 3 → Nat :=
  let c0_i32 : BitVec 32 := 0#32
  let c1_i32 : BitVec 32 := 1#32
  let arg19 : BitVec 32 := Scf.iv c0_i32 c1_i32 k0_t1
  let v28 : Index := Scalar.indexCast arg19
  let c0_19 : Index := 0#32
  let c0_20 : Index := 0#32
  ![v28.toNat, 0, 0]
def k0_off2 (k0_t1 : Fin k0_t1_loop.trips) (c0_i32_146 : BitVec 32) : Fin 3 → Nat :=
  let c0_i32 : BitVec 32 := 0#32
  let c1_i32 : BitVec 32 := 1#32
  let arg19 : BitVec 32 := Scf.iv c0_i32 c1_i32 k0_t1
  let c4_i32_145 : BitVec 32 := 4#32
  let v441 : BitVec 32 := Scalar.muli arg19 c4_i32_145
  let v442 : BitVec 32 := Scalar.addi v441 c0_i32_146
  let v443 : Index := Scalar.indexCast v442
  let c0_147 : Index := 0#32
  let c0_148 : Index := 0#32
  ![v443.toNat, 0, 0]
def k0_off3 (k0_t1 : Fin k0_t1_loop.trips) (c0_i32_150 : BitVec 32) : Fin 3 → Nat :=
  let c0_151 : Index := 0#32
  let c0_i32 : BitVec 32 := 0#32
  let c1_i32 : BitVec 32 := 1#32
  let arg19 : BitVec 32 := Scf.iv c0_i32 c1_i32 k0_t1
  let c4_i32_149 : BitVec 32 := 4#32
  let v448 : BitVec 32 := Scalar.muli arg19 c4_i32_149
  let v449 : BitVec 32 := Scalar.addi v448 c0_i32_150
  let v450 : Index := Scalar.indexCast v449
  let c0_152 : Index := 0#32
  ![0, v450.toNat, 0]
def k0_off4 (k0_t1 : Fin k0_t1_loop.trips) (c0_i32_154 : BitVec 32) : Fin 2 → Nat :=
  let c0_i32 : BitVec 32 := 0#32
  let c1_i32 : BitVec 32 := 1#32
  let arg19 : BitVec 32 := Scf.iv c0_i32 c1_i32 k0_t1
  let c4_i32_153 : BitVec 32 := 4#32
  let v454 : BitVec 32 := Scalar.muli arg19 c4_i32_153
  let v455 : BitVec 32 := Scalar.addi v454 c0_i32_154
  let v456 : Index := Scalar.indexCast v455
  let c0_155 : Index := 0#32
  ![v456.toNat, 0]
abbrev stage0_0 : Fin 1 → Memref sig .tc .vmem S32x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceIdeal.lean ====
abbrev S128x32x8 : Shape := ⟨3, ![128, 32, 8]⟩
abbrev S8x64 : Shape := ⟨2, ![8, 64]⟩
abbrev S64 : Shape := ⟨1, ![64]⟩
abbrev S64x8 : Shape := ⟨2, ![64, 8]⟩
abbrev S8 : Shape := ⟨1, ![8]⟩
abbrev S1x64x64 : Shape := ⟨3, ![1, 64, 64]⟩
abbrev S1x64 : Shape := ⟨2, ![1, 64]⟩
abbrev S4x2048 : Shape := ⟨2, ![4, 2048]⟩
abbrev S4x64 : Shape := ⟨2, ![4, 64]⟩
abbrev S4 : Shape := ⟨1, ![4]⟩
abbrev S4x16 : Shape := ⟨2, ![4, 16]⟩
abbrev S4x128 : Shape := ⟨2, ![4, 128]⟩
abbrev S128 : Shape := ⟨1, ![128]⟩
abbrev S_ : Shape := ⟨0, ![]⟩
abbrev S128x2048x64 : Shape := ⟨3, ![128, 2048, 64]⟩
abbrev S4x128x64 : Shape := ⟨3, ![4, 128, 64]⟩
abbrev S4x128x32x8 : Shape := ⟨4, ![4, 128, 32, 8]⟩
abbrev S128x1x8 : Shape := ⟨3, ![128, 1, 8]⟩
abbrev S128x8 : Shape := ⟨2, ![128, 8]⟩
abbrev S128x64 : Shape := ⟨2, ![128, 64]⟩
abbrev S1x128 : Shape := ⟨2, ![1, 128]⟩
abbrev S5 : Shape := ⟨1, ![5]⟩
abbrev S128x1 : Shape := ⟨2, ![128, 1]⟩
abbrev S1x5 : Shape := ⟨2, ![1, 5]⟩
abbrev S128x5 : Shape := ⟨2, ![128, 5]⟩
abbrev S128x5x1 : Shape := ⟨3, ![128, 5, 1]⟩
abbrev S128x5x2 : Shape := ⟨3, ![128, 5, 2]⟩
abbrev S128x5x64 : Shape := ⟨3, ![128, 5, 64]⟩
abbrev S1 : Shape := ⟨1, ![1]⟩
abbrev S1x16 : Shape := ⟨2, ![1, 16]⟩
abbrev S16 : Shape := ⟨1, ![16]⟩
abbrev S48 : Shape := ⟨1, ![48]⟩
abbrev S1x128x64 : Shape := ⟨3, ![1, 128, 64]⟩
abbrev S64x64 : Shape := ⟨2, ![64, 64]⟩
abbrev S128x1x64 : Shape := ⟨3, ![128, 1, 64]⟩
abbrev S1x2048 : Shape := ⟨2, ![1, 2048]⟩
abbrev S2048 : Shape := ⟨1, ![2048]⟩
abbrev S1x8 : Shape := ⟨2, ![1, 8]⟩
abbrev S4x1 : Shape := ⟨2, ![4, 1]⟩
abbrev S4x1x1 : Shape := ⟨3, ![4, 1, 1]⟩
abbrev S4x1x1x1 : Shape := ⟨4, ![4, 1, 1, 1]⟩
abbrev S32 : Shape := ⟨1, ![32]⟩
abbrev S1x1x32x1 : Shape := ⟨4, ![1, 1, 32, 1]⟩
abbrev S4x1x32x1 : Shape := ⟨4, ![4, 1, 32, 1]⟩
abbrev S1x128x1x8 : Shape := ⟨4, ![1, 128, 1, 8]⟩

abbrev nBuf : Space → Nat
  | .hbm => 435
  | .vmem => 0
  | .smem => 0
  | _ => 0

abbrev hbmTy0_0 (i : Nat) : BufTy := match i % 128 with
  | 0 => ⟨S128x32x8, .f32⟩
  | 1 => ⟨S8x64, .f32⟩
  | 2 => ⟨S64, .f32⟩
  | 3 => ⟨S64x8, .f32⟩
  | 4 => ⟨S8, .f32⟩
  | 5 => ⟨S1x64x64, .f32⟩
  | 6 => ⟨S1x64, .f32⟩
  | 7 => ⟨S4x2048, .f32⟩
  | 8 => ⟨S4x64, .f32⟩
  | 9 => ⟨S4, .f32⟩
  | 10 => ⟨S4, .f32⟩
  | 11 => ⟨S4x16, .f32⟩
  | 12 => ⟨S4x128, .f32⟩
  | 13 => ⟨S128, .i32⟩
  | 14 => ⟨S_, .f32⟩
  | 15 => ⟨S128x2048x64, .f32⟩
  | 16 => ⟨S_, .f32⟩
  | 17 => ⟨S4x128x64, .f32⟩
  | 18 => ⟨S_, .f32⟩
  | 19 => ⟨S4x128x32x8, .f32⟩
  | 20 => ⟨S_, .i32⟩
  | 21 => ⟨S_, .i32⟩
  | 22 => ⟨S128x32x8, .f32⟩
  | 23 => ⟨S8x64, .f32⟩
  | 24 => ⟨S64, .f32⟩
  | 25 => ⟨S128, .i32⟩
  | 26 => ⟨S4, .f32⟩
  | 27 => ⟨S4x16, .f32⟩
  | 28 => ⟨S1x64x64, .f32⟩
  | 29 => ⟨S1x64, .f32⟩
  | 30 => ⟨S4x64, .f32⟩
  | 31 => ⟨S4, .f32⟩
  | 32 => ⟨S4x2048, .f32⟩
  | 33 => ⟨S64x8, .f32⟩
  | 34 => ⟨S8, .f32⟩
  | 35 => ⟨S_, .i32⟩
  | 36 => ⟨S_, .i32⟩
  | 37 => ⟨S128x2048x64, .f32⟩
  | 38 => ⟨S4x128, .f32⟩
  | 39 => ⟨S4x128x64, .f32⟩
  | 40 => ⟨S4x128x32x8, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S128x1x8, .f32⟩
  | 58 => ⟨S128x8, .f32⟩
  | 59 => ⟨S128x64, .f32⟩
  | 60 => ⟨S1x64, .f32⟩
  | 61 => ⟨S128x64, .f32⟩
  | 62 => ⟨S128x64, .f32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S1x128, .f32⟩
  | 78 => ⟨S128, .f32⟩
  | 79 => ⟨S5, .i32⟩
  | 80 => ⟨S_, .i32⟩
  | 81 => ⟨S5, .i32⟩
  | 82 => ⟨S5, .i32⟩
  | 83 => ⟨S128, .f32⟩
  | 84 => ⟨S128, .i32⟩
  | 85 => ⟨S_, .i32⟩
  | 86 => ⟨S_, .i32⟩
  | 87 => ⟨S_, .i32⟩
  | 88 => ⟨S128, .i32⟩
  | 89 => ⟨S128, .i32⟩
  | 90 => ⟨S_, .i32⟩
  | 91 => ⟨S128, .i32⟩
  | 92 => ⟨S128, .i32⟩
  | 93 => ⟨S128x1, .i32⟩
  | 94 => ⟨S1x5, .i32⟩
  | 95 => ⟨S128x5, .i32⟩
  | 96 => ⟨S128x5, .i32⟩
  | 97 => ⟨S128x5, .i32⟩
  | 98 => ⟨S_, .i32⟩
  | 99 => ⟨S128x5, .i32⟩
  | 100 => ⟨S128x5, .i32⟩
  | 101 => ⟨S_, .i32⟩
  | 102 => ⟨S128x5, .i32⟩
  | 103 => ⟨S128x5, .i32⟩
  | 104 => ⟨S128x5, .f32⟩
  | 105 => ⟨S128x1, .f32⟩
  | 106 => ⟨S128x5, .f32⟩
  | 107 => ⟨S128x5, .f32⟩
  | 108 => ⟨S_, .f32⟩
  | 109 => ⟨S128x5, .f32⟩
  | 110 => ⟨S128x5, .f32⟩
  | 111 => ⟨S_, .i32⟩
  | 112 => ⟨S_, .f32⟩
  | 113 => ⟨S128x5, .f32⟩
  | 114 => ⟨S128x5, .f32⟩
  | 115 => ⟨S_, .f32⟩
  | 116 => ⟨S128x5, .f32⟩
  | 117 => ⟨S128x5, .i1⟩
  | 118 => ⟨S_, .f32⟩
  | 119 => ⟨S128x5, .f32⟩
  | 120 => ⟨S128x5, .i1⟩
  | 121 => ⟨S_, .f32⟩
  | 122 => ⟨S_, .i1⟩
  | 123 => ⟨S128x5, .i1⟩
  | 124 => ⟨S128x5, .i1⟩
  | 125 => ⟨S128x5, .i1⟩
  | 126 => ⟨S128x5, .f32⟩
  | 127 => ⟨S128x5, .f32⟩
  | _ => ⟨S128x32x8, .f32⟩

abbrev hbmTy0_1 (i : Nat) : BufTy := match i % 128 with
  | 0 => ⟨S128x5, .f32⟩
  | 1 => ⟨S_, .f32⟩
  | 2 => ⟨S128x5, .f32⟩
  | 3 => ⟨S128x5, .f32⟩
  | 4 => ⟨S128x5, .f32⟩
  | 5 => ⟨S128x5, .f32⟩
  | 6 => ⟨S_, .f32⟩
  | 7 => ⟨S128x5, .f32⟩
  | 8 => ⟨S128x5, .f32⟩
  | 9 => ⟨S_, .f32⟩
  | 10 => ⟨S128, .f32⟩
  | 11 => ⟨S_, .f32⟩
  | 12 => ⟨S128, .f32⟩
  | 13 => ⟨S128, .f32⟩
  | 14 => ⟨S128x1, .f32⟩
  | 15 => ⟨S128x5, .f32⟩
  | 16 => ⟨S128x5, .f32⟩
  | 17 => ⟨S128x5, .f32⟩
  | 18 => ⟨S_, .f32⟩
  | 19 => ⟨S128, .f32⟩
  | 20 => ⟨S128x1, .f32⟩
  | 21 => ⟨S128x5, .f32⟩
  | 22 => ⟨S128x5, .f32⟩
  | 23 => ⟨S128x1, .i32⟩
  | 24 => ⟨S_, .i32⟩
  | 25 => ⟨S128x1, .i32⟩
  | 26 => ⟨S128x1, .i1⟩
  | 27 => ⟨S_, .i32⟩
  | 28 => ⟨S128x1, .i32⟩
  | 29 => ⟨S128x1, .i32⟩
  | 30 => ⟨S128x1, .i32⟩
  | 31 => ⟨S_, .i32⟩
  | 32 => ⟨S128x5, .i32⟩
  | 33 => ⟨S128x5, .i1⟩
  | 34 => ⟨S_, .i32⟩
  | 35 => ⟨S128x5, .i32⟩
  | 36 => ⟨S128x5, .i32⟩
  | 37 => ⟨S128x5, .i32⟩
  | 38 => ⟨S128x5, .i32⟩
  | 39 => ⟨S128x5x1, .i32⟩
  | 40 => ⟨S128x5x1, .i32⟩
  | 41 => ⟨S128x5x2, .i32⟩
  | 42 => ⟨S128x5x64, .f32⟩
  | 43 => ⟨S128x5x1, .f32⟩
  | 44 => ⟨S128x5x64, .f32⟩
  | 45 => ⟨S128x5x64, .f32⟩
  | 46 => ⟨S_, .f32⟩
  | 47 => ⟨S128x64, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S1, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S128x64, .f32⟩
  | 63 => ⟨S128x64, .f32⟩
  | 64 => ⟨S128x64, .f32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S1x16, .f32⟩
  | 80 => ⟨S16, .f32⟩
  | 81 => ⟨S_, .f32⟩
  | 82 => ⟨S48, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S128x64, .f32⟩
  | 89 => ⟨S128x64, .f32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1x128x64, .f32⟩
  | 113 => ⟨S128x64, .f32⟩
  | 114 => ⟨S128x64, .f32⟩
  | 115 => ⟨S128x64, .f32⟩
  | 116 => ⟨S64x64, .f32⟩
  | 117 => ⟨S128x64, .f32⟩
  | 118 => ⟨S64, .f32⟩
  | 119 => ⟨S1x64, .f32⟩
  | 120 => ⟨S128x64, .f32⟩
  | 121 => ⟨S128x64, .f32⟩
  | 122 => ⟨S128x64, .f32⟩
  | 123 => ⟨S128x1, .i32⟩
  | 124 => ⟨S128x5x1, .f32⟩
  | 125 => ⟨S128x1x64, .f32⟩
  | 126 => ⟨S128x5x64, .f32⟩
  | 127 => ⟨S128x5x64, .f32⟩
  | _ => ⟨S128x32x8, .f32⟩

abbrev hbmTy0_2 (i : Nat) : BufTy := match i % 128 with
  | 0 => ⟨S128x5x64, .f32⟩
  | 1 => ⟨S_, .i32⟩
  | 2 => ⟨S128x1, .i32⟩
  | 3 => ⟨S128x1, .i1⟩
  | 4 => ⟨S_, .i32⟩
  | 5 => ⟨S128x1, .i32⟩
  | 6 => ⟨S128x1, .i32⟩
  | 7 => ⟨S128x1, .i32⟩
  | 8 => ⟨S_, .i32⟩
  | 9 => ⟨S128x5, .i32⟩
  | 10 => ⟨S128x5, .i1⟩
  | 11 => ⟨S_, .i32⟩
  | 12 => ⟨S128x5, .i32⟩
  | 13 => ⟨S128x5, .i32⟩
  | 14 => ⟨S128x5, .i32⟩
  | 15 => ⟨S128x5, .i32⟩
  | 16 => ⟨S128x5x1, .i32⟩
  | 17 => ⟨S128x5x1, .i32⟩
  | 18 => ⟨S128x5x2, .i32⟩
  | 19 => ⟨S128x2048x64, .f32⟩
  | 20 => ⟨S128, .f32⟩
  | 21 => ⟨S128, .i32⟩
  | 22 => ⟨S_, .i32⟩
  | 23 => ⟨S_, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S1x64, .f32⟩
  | 45 => ⟨S64, .f32⟩
  | 46 => ⟨S128, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S1, .f32⟩
  | 54 => ⟨S_, .f32⟩
  | 55 => ⟨S128, .f32⟩
  | 56 => ⟨S128, .f32⟩
  | 57 => ⟨S128, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S_, .f32⟩
  | 66 => ⟨S128, .f32⟩
  | 67 => ⟨S128, .i1⟩
  | 68 => ⟨S128, .f32⟩
  | 69 => ⟨S128, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S128, .f32⟩
  | 78 => ⟨S_, .f32⟩
  | 79 => ⟨S128, .f32⟩
  | 80 => ⟨S128, .i1⟩
  | 81 => ⟨S_, .f32⟩
  | 82 => ⟨S128, .f32⟩
  | 83 => ⟨S128, .i1⟩
  | 84 => ⟨S_, .f32⟩
  | 85 => ⟨S_, .i1⟩
  | 86 => ⟨S128, .i1⟩
  | 87 => ⟨S128, .i1⟩
  | 88 => ⟨S128, .i1⟩
  | 89 => ⟨S128, .f32⟩
  | 90 => ⟨S128, .f32⟩
  | 91 => ⟨S128, .f32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S1x2048, .f32⟩
  | 107 => ⟨S2048, .f32⟩
  | 108 => ⟨S_, .i32⟩
  | 109 => ⟨S128, .i32⟩
  | 110 => ⟨S128, .i1⟩
  | 111 => ⟨S_, .i32⟩
  | 112 => ⟨S128, .i32⟩
  | 113 => ⟨S128, .i32⟩
  | 114 => ⟨S128, .i32⟩
  | 115 => ⟨S128x1, .i32⟩
  | 116 => ⟨S128, .f32⟩
  | 117 => ⟨S128, .f32⟩
  | 118 => ⟨S_, .f32⟩
  | 119 => ⟨S128, .f32⟩
  | 120 => ⟨S128, .f32⟩
  | 121 => ⟨S128, .f32⟩
  | 122 => ⟨S128, .f32⟩
  | 123 => ⟨S_, .i32⟩
  | 124 => ⟨S_, .f32⟩
  | 125 => ⟨S128, .f32⟩
  | 126 => ⟨S128, .f32⟩
  | 127 => ⟨S_, .f32⟩
  | _ => ⟨S128x32x8, .f32⟩

abbrev hbmTy0_3 (i : Nat) : BufTy := match i % 128 with
  | 0 => ⟨S128, .f32⟩
  | 1 => ⟨S128, .i1⟩
  | 2 => ⟨S_, .f32⟩
  | 3 => ⟨S128, .f32⟩
  | 4 => ⟨S128, .i1⟩
  | 5 => ⟨S_, .f32⟩
  | 6 => ⟨S_, .i1⟩
  | 7 => ⟨S128, .i1⟩
  | 8 => ⟨S128, .i1⟩
  | 9 => ⟨S128, .i1⟩
  | 10 => ⟨S128, .f32⟩
  | 11 => ⟨S128, .f32⟩
  | 12 => ⟨S128, .f32⟩
  | 13 => ⟨S128x8, .f32⟩
  | 14 => ⟨S1x8, .f32⟩
  | 15 => ⟨S128x8, .f32⟩
  | 16 => ⟨S128x8, .f32⟩
  | 17 => ⟨S4, .i32⟩
  | 18 => ⟨S_, .i32⟩
  | 19 => ⟨S4, .i32⟩
  | 20 => ⟨S4, .i1⟩
  | 21 => ⟨S4x1, .i1⟩
  | 22 => ⟨S1x128, .f32⟩
  | 23 => ⟨S4x128, .i1⟩
  | 24 => ⟨S4x128, .f32⟩
  | 25 => ⟨S4x128, .f32⟩
  | 26 => ⟨S4x1x1, .i1⟩
  | 27 => ⟨S1x128x64, .f32⟩
  | 28 => ⟨S4x128x64, .i1⟩
  | 29 => ⟨S4x128x64, .f32⟩
  | 30 => ⟨S4x128x64, .f32⟩
  | 31 => ⟨S4x1x1x1, .i1⟩
  | 32 => ⟨S32, .i32⟩
  | 33 => ⟨S_, .i32⟩
  | 34 => ⟨S32, .i32⟩
  | 35 => ⟨S32, .i1⟩
  | 36 => ⟨S1x1x32x1, .i1⟩
  | 37 => ⟨S4x1x32x1, .i1⟩
  | 38 => ⟨S4x1x32x1, .i1⟩
  | 39 => ⟨S4x1x32x1, .i1⟩
  | 40 => ⟨S1x128x1x8, .f32⟩
  | 41 => ⟨S4x128x32x8, .i1⟩
  | 42 => ⟨S4x128x32x8, .f32⟩
  | 43 => ⟨S4x128x32x8, .f32⟩
  | 44 => ⟨S_, .i32⟩
  | 45 => ⟨S_, .i32⟩
  | 46 => ⟨S_, .f32⟩
  | 47 => ⟨S128x32x8, .f32⟩
  | 48 => ⟨S_, .f32⟩
  | 49 => ⟨S128x32x8, .f32⟩
  | 50 => ⟨S128x32x8, .f32⟩
  | _ => ⟨S128x32x8, .f32⟩

abbrev hbmTy (i : Nat) : BufTy := match i / 128 with
  | 0 => hbmTy0_0 i
  | 1 => hbmTy0_1 i
  | 2 => hbmTy0_2 i
  | 3 => hbmTy0_3 i
  | _ => ⟨S128x32x8, .f32⟩

abbrev bufTy : (tb : Table) → Fin (tcTables nBuf tb) → BufTy
  | .hbm, ⟨i, _⟩ => hbmTy i
  | _, _ => ⟨S128x32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_c : Ref sig .tc := ⟨.hbm, 20, rfl⟩
abbrev main_c_2 : Ref sig .tc := ⟨.hbm, 21, rfl⟩
abbrev main_v4_0 : Ref sig .tc := ⟨.hbm, 22, rfl⟩
abbrev main_v4_1 : Ref sig .tc := ⟨.hbm, 23, rfl⟩
abbrev main_v4_2 : Ref sig .tc := ⟨.hbm, 24, rfl⟩
abbrev main_v4_3 : Ref sig .tc := ⟨.hbm, 25, rfl⟩
abbrev main_v4_4 : Ref sig .tc := ⟨.hbm, 26, rfl⟩
abbrev main_v4_5 : Ref sig .tc := ⟨.hbm, 27, rfl⟩
abbrev main_v4_6 : Ref sig .tc := ⟨.hbm, 28, rfl⟩
abbrev main_v4_7 : Ref sig .tc := ⟨.hbm, 29, rfl⟩
abbrev main_v4_8 : Ref sig .tc := ⟨.hbm, 30, rfl⟩
abbrev main_v4_9 : Ref sig .tc := ⟨.hbm, 31, rfl⟩
abbrev main_v4_10 : Ref sig .tc := ⟨.hbm, 32, rfl⟩
abbrev main_v4_11 : Ref sig .tc := ⟨.hbm, 33, rfl⟩
abbrev main_v4_12 : Ref sig .tc := ⟨.hbm, 34, rfl⟩
abbrev main_v4_13 : Ref sig .tc := ⟨.hbm, 35, rfl⟩
abbrev main_v4_14 : Ref sig .tc := ⟨.hbm, 36, rfl⟩
abbrev main_v4_15 : Ref sig .tc := ⟨.hbm, 37, rfl⟩
abbrev main_v4_16 : Ref sig .tc := ⟨.hbm, 38, rfl⟩
abbrev main_v4_17 : Ref sig .tc := ⟨.hbm, 39, rfl⟩
abbrev main_v4_18 : Ref sig .tc := ⟨.hbm, 40, rfl⟩
abbrev main_while0c_c_23 : Ref sig .tc := ⟨.hbm, 41, rfl⟩
abbrev main_while0c_v8 : Ref sig .tc := ⟨.hbm, 42, rfl⟩
abbrev main_while0b_c_23 : Ref sig .tc := ⟨.hbm, 43, rfl⟩
abbrev main_while0b_v8 : Ref sig .tc := ⟨.hbm, 44, rfl⟩
abbrev main_while0b_c_24 : Ref sig .tc := ⟨.hbm, 45, rfl⟩
abbrev main_while0b_v9 : Ref sig .tc := ⟨.hbm, 46, rfl⟩
abbrev main_while0b_c_25 : Ref sig .tc := ⟨.hbm, 47, rfl⟩
abbrev main_while0b_v10 : Ref sig .tc := ⟨.hbm, 48, rfl⟩
abbrev main_while0b_call0_c : Ref sig .tc := ⟨.hbm, 49, rfl⟩
abbrev main_while0b_call0_v0 : Ref sig .tc := ⟨.hbm, 50, rfl⟩
abbrev main_while0b_call0_v1 : Ref sig .tc := ⟨.hbm, 51, rfl⟩
abbrev main_while0b_call0_c_0 : Ref sig .tc := ⟨.hbm, 52, rfl⟩
abbrev main_while0b_call0_v2 : Ref sig .tc := ⟨.hbm, 53, rfl⟩
abbrev main_while0b_call0_v3 : Ref sig .tc := ⟨.hbm, 54, rfl⟩
abbrev main_while0b_call0_c_1 : Ref sig .tc := ⟨.hbm, 55, rfl⟩
abbrev main_while0b_call0_c_2 : Ref sig .tc := ⟨.hbm, 56, rfl⟩
abbrev main_while0b_call0_v4 : Ref sig .tc := ⟨.hbm, 57, rfl⟩
abbrev main_while0b_v11 : Ref sig .tc := ⟨.hbm, 58, rfl⟩
abbrev main_while0b_v12 : Ref sig .tc := ⟨.hbm, 59, rfl⟩
abbrev main_while0b_v13 : Ref sig .tc := ⟨.hbm, 60, rfl⟩
abbrev main_while0b_v14 : Ref sig .tc := ⟨.hbm, 61, rfl⟩
abbrev main_while0b_v15 : Ref sig .tc := ⟨.hbm, 62, rfl⟩
abbrev main_while0b_v16 : Ref sig .tc := ⟨.hbm, 63, rfl⟩
abbrev main_while0b_c_26 : Ref sig .tc := ⟨.hbm, 64, rfl⟩
abbrev main_while0b_v17 : Ref sig .tc := ⟨.hbm, 65, rfl⟩
abbrev main_while0b_c_27 : Ref sig .tc := ⟨.hbm, 66, rfl⟩
abbrev main_while0b_v18 : Ref sig .tc := ⟨.hbm, 67, rfl⟩
abbrev main_while0b_v19 : Ref sig .tc := ⟨.hbm, 68, rfl⟩
abbrev main_while0b_c_28 : Ref sig .tc := ⟨.hbm, 69, rfl⟩
abbrev main_while0b_c_29 : Ref sig .tc := ⟨.hbm, 70, rfl⟩
abbrev main_while0b_v20 : Ref sig .tc := ⟨.hbm, 71, rfl⟩
abbrev main_while0b_c_30 : Ref sig .tc := ⟨.hbm, 72, rfl⟩
abbrev main_while0b_c_31 : Ref sig .tc := ⟨.hbm, 73, rfl⟩
abbrev main_while0b_v21 : Ref sig .tc := ⟨.hbm, 74, rfl⟩
abbrev main_while0b_c_32 : Ref sig .tc := ⟨.hbm, 75, rfl⟩
abbrev main_while0b_v22 : Ref sig .tc := ⟨.hbm, 76, rfl⟩
abbrev main_while0b_v23 : Ref sig .tc := ⟨.hbm, 77, rfl⟩
abbrev main_while0b_v24 : Ref sig .tc := ⟨.hbm, 78, rfl⟩
abbrev main_while0b_v25 : Ref sig .tc := ⟨.hbm, 79, rfl⟩
abbrev main_while0b_c_33 : Ref sig .tc := ⟨.hbm, 80, rfl⟩
abbrev main_while0b_v26 : Ref sig .tc := ⟨.hbm, 81, rfl⟩
abbrev main_while0b_v27 : Ref sig .tc := ⟨.hbm, 82, rfl⟩
abbrev main_while0b_v28 : Ref sig .tc := ⟨.hbm, 83, rfl⟩
abbrev main_while0b_v29 : Ref sig .tc := ⟨.hbm, 84, rfl⟩
abbrev main_while0b_c_34 : Ref sig .tc := ⟨.hbm, 85, rfl⟩
abbrev main_while0b_c_35 : Ref sig .tc := ⟨.hbm, 86, rfl⟩
abbrev main_while0b_call1_v0 : Ref sig .tc := ⟨.hbm, 87, rfl⟩
abbrev main_while0b_call1_v1 : Ref sig .tc := ⟨.hbm, 88, rfl⟩
abbrev main_while0b_call1_v2 : Ref sig .tc := ⟨.hbm, 89, rfl⟩
abbrev main_while0b_call1_v3 : Ref sig .tc := ⟨.hbm, 90, rfl⟩
abbrev main_while0b_call1_v4 : Ref sig .tc := ⟨.hbm, 91, rfl⟩
abbrev main_while0b_v30 : Ref sig .tc := ⟨.hbm, 92, rfl⟩
abbrev main_while0b_v31 : Ref sig .tc := ⟨.hbm, 93, rfl⟩
abbrev main_while0b_v32 : Ref sig .tc := ⟨.hbm, 94, rfl⟩
abbrev main_while0b_v33 : Ref sig .tc := ⟨.hbm, 95, rfl⟩
abbrev main_while0b_v34 : Ref sig .tc := ⟨.hbm, 96, rfl⟩
abbrev main_while0b_v35 : Ref sig .tc := ⟨.hbm, 97, rfl⟩
abbrev main_while0b_c_36 : Ref sig .tc := ⟨.hbm, 98, rfl⟩
abbrev main_while0b_v36 : Ref sig .tc := ⟨.hbm, 99, rfl⟩
abbrev main_while0b_v37 : Ref sig .tc := ⟨.hbm, 100, rfl⟩
abbrev main_while0b_c_37 : Ref sig .tc := ⟨.hbm, 101, rfl⟩
abbrev main_while0b_v38 : Ref sig .tc := ⟨.hbm, 102, rfl⟩
abbrev main_while0b_v39 : Ref sig .tc := ⟨.hbm, 103, rfl⟩
abbrev main_while0b_v40 : Ref sig .tc := ⟨.hbm, 104, rfl⟩
abbrev main_while0b_v41 : Ref sig .tc := ⟨.hbm, 105, rfl⟩
abbrev main_while0b_v42 : Ref sig .tc := ⟨.hbm, 106, rfl⟩
abbrev main_while0b_v43 : Ref sig .tc := ⟨.hbm, 107, rfl⟩
abbrev main_while0b_cst_38 : Ref sig .tc := ⟨.hbm, 108, rfl⟩
abbrev main_while0b_v44 : Ref sig .tc := ⟨.hbm, 109, rfl⟩
abbrev main_while0b_v45 : Ref sig .tc := ⟨.hbm, 110, rfl⟩
abbrev main_while0b_c_39 : Ref sig .tc := ⟨.hbm, 111, rfl⟩
abbrev main_while0b_call2_v0 : Ref sig .tc := ⟨.hbm, 112, rfl⟩
abbrev main_while0b_call2_v1 : Ref sig .tc := ⟨.hbm, 113, rfl⟩
abbrev main_while0b_call2_v2 : Ref sig .tc := ⟨.hbm, 114, rfl⟩
abbrev main_while0b_call2_cst : Ref sig .tc := ⟨.hbm, 115, rfl⟩
abbrev main_while0b_call2_v3 : Ref sig .tc := ⟨.hbm, 116, rfl⟩
abbrev main_while0b_call2_v4 : Ref sig .tc := ⟨.hbm, 117, rfl⟩
abbrev main_while0b_call2_cst_0 : Ref sig .tc := ⟨.hbm, 118, rfl⟩
abbrev main_while0b_call2_v5 : Ref sig .tc := ⟨.hbm, 119, rfl⟩
abbrev main_while0b_call2_v6 : Ref sig .tc := ⟨.hbm, 120, rfl⟩
abbrev main_while0b_call2_cst_1 : Ref sig .tc := ⟨.hbm, 121, rfl⟩
abbrev main_while0b_call2_v7 : Ref sig .tc := ⟨.hbm, 122, rfl⟩
abbrev main_while0b_call2_v8 : Ref sig .tc := ⟨.hbm, 123, rfl⟩
abbrev main_while0b_call2_v9 : Ref sig .tc := ⟨.hbm, 124, rfl⟩
abbrev main_while0b_call2_v10 : Ref sig .tc := ⟨.hbm, 125, rfl⟩
abbrev main_while0b_call2_v11 : Ref sig .tc := ⟨.hbm, 126, rfl⟩
abbrev main_while0b_call2_v12 : Ref sig .tc := ⟨.hbm, 127, rfl⟩
abbrev main_while0b_v46 : Ref sig .tc := ⟨.hbm, 128, rfl⟩
abbrev main_while0b_cst_40 : Ref sig .tc := ⟨.hbm, 129, rfl⟩
abbrev main_while0b_v47 : Ref sig .tc := ⟨.hbm, 130, rfl⟩
abbrev main_while0b_v48 : Ref sig .tc := ⟨.hbm, 131, rfl⟩
abbrev main_while0b_v49 : Ref sig .tc := ⟨.hbm, 132, rfl⟩
abbrev main_while0b_v50 : Ref sig .tc := ⟨.hbm, 133, rfl⟩
abbrev main_while0b_cst_41 : Ref sig .tc := ⟨.hbm, 134, rfl⟩
abbrev main_while0b_v51 : Ref sig .tc := ⟨.hbm, 135, rfl⟩
abbrev main_while0b_v52 : Ref sig .tc := ⟨.hbm, 136, rfl⟩
abbrev main_while0b_cst_42 : Ref sig .tc := ⟨.hbm, 137, rfl⟩
abbrev main_while0b_v53 : Ref sig .tc := ⟨.hbm, 138, rfl⟩
abbrev main_while0b_cst_43 : Ref sig .tc := ⟨.hbm, 139, rfl⟩
abbrev main_while0b_v54 : Ref sig .tc := ⟨.hbm, 140, rfl⟩
abbrev main_while0b_v55 : Ref sig .tc := ⟨.hbm, 141, rfl⟩
abbrev main_while0b_v56 : Ref sig .tc := ⟨.hbm, 142, rfl⟩
abbrev main_while0b_v57 : Ref sig .tc := ⟨.hbm, 143, rfl⟩
abbrev main_while0b_v58 : Ref sig .tc := ⟨.hbm, 144, rfl⟩
abbrev main_while0b_v59 : Ref sig .tc := ⟨.hbm, 145, rfl⟩
abbrev main_while0b_cst_44 : Ref sig .tc := ⟨.hbm, 146, rfl⟩
abbrev main_while0b_v60 : Ref sig .tc := ⟨.hbm, 147, rfl⟩
abbrev main_while0b_v61 : Ref sig .tc := ⟨.hbm, 148, rfl⟩
abbrev main_while0b_v62 : Ref sig .tc := ⟨.hbm, 149, rfl⟩
abbrev main_while0b_v63 : Ref sig .tc := ⟨.hbm, 150, rfl⟩
abbrev main_while0b_v64 : Ref sig .tc := ⟨.hbm, 151, rfl⟩
abbrev main_while0b_c_45 : Ref sig .tc := ⟨.hbm, 152, rfl⟩
abbrev main_while0b_v65 : Ref sig .tc := ⟨.hbm, 153, rfl⟩
abbrev main_while0b_v66 : Ref sig .tc := ⟨.hbm, 154, rfl⟩
abbrev main_while0b_c_46 : Ref sig .tc := ⟨.hbm, 155, rfl⟩
abbrev main_while0b_v67 : Ref sig .tc := ⟨.hbm, 156, rfl⟩
abbrev main_while0b_v68 : Ref sig .tc := ⟨.hbm, 157, rfl⟩
abbrev main_while0b_v69 : Ref sig .tc := ⟨.hbm, 158, rfl⟩
abbrev main_while0b_c_47 : Ref sig .tc := ⟨.hbm, 159, rfl⟩
abbrev main_while0b_v70 : Ref sig .tc := ⟨.hbm, 160, rfl⟩
abbrev main_while0b_v71 : Ref sig .tc := ⟨.hbm, 161, rfl⟩
abbrev main_while0b_c_48 : Ref sig .tc := ⟨.hbm, 162, rfl⟩
abbrev main_while0b_v72 : Ref sig .tc := ⟨.hbm, 163, rfl⟩
abbrev main_while0b_v73 : Ref sig .tc := ⟨.hbm, 164, rfl⟩
abbrev main_while0b_v74 : Ref sig .tc := ⟨.hbm, 165, rfl⟩
abbrev main_while0b_v75 : Ref sig .tc := ⟨.hbm, 166, rfl⟩
abbrev main_while0b_v76 : Ref sig .tc := ⟨.hbm, 167, rfl⟩
abbrev main_while0b_v77 : Ref sig .tc := ⟨.hbm, 168, rfl⟩
abbrev main_while0b_v78 : Ref sig .tc := ⟨.hbm, 169, rfl⟩
abbrev main_while0b_v79 : Ref sig .tc := ⟨.hbm, 170, rfl⟩
abbrev main_while0b_v80 : Ref sig .tc := ⟨.hbm, 171, rfl⟩
abbrev main_while0b_v81 : Ref sig .tc := ⟨.hbm, 172, rfl⟩
abbrev main_while0b_v82 : Ref sig .tc := ⟨.hbm, 173, rfl⟩
abbrev main_while0b_cst_49 : Ref sig .tc := ⟨.hbm, 174, rfl⟩
abbrev main_while0b_v83 : Ref sig .tc := ⟨.hbm, 175, rfl⟩
abbrev main_while0b_c_50 : Ref sig .tc := ⟨.hbm, 176, rfl⟩
abbrev main_while0b_v84 : Ref sig .tc := ⟨.hbm, 177, rfl⟩
abbrev main_while0b_v85 : Ref sig .tc := ⟨.hbm, 178, rfl⟩
abbrev main_while0b_c_51 : Ref sig .tc := ⟨.hbm, 179, rfl⟩
abbrev main_while0b_v86 : Ref sig .tc := ⟨.hbm, 180, rfl⟩
abbrev main_while0b_v87 : Ref sig .tc := ⟨.hbm, 181, rfl⟩
abbrev main_while0b_v88 : Ref sig .tc := ⟨.hbm, 182, rfl⟩
abbrev main_while0b_v89 : Ref sig .tc := ⟨.hbm, 183, rfl⟩
abbrev main_while0b_v90 : Ref sig .tc := ⟨.hbm, 184, rfl⟩
abbrev main_while0b_v91 : Ref sig .tc := ⟨.hbm, 185, rfl⟩
abbrev main_while0b_cst_52 : Ref sig .tc := ⟨.hbm, 186, rfl⟩
abbrev main_while0b_v92 : Ref sig .tc := ⟨.hbm, 187, rfl⟩
abbrev main_while0b_cst_53 : Ref sig .tc := ⟨.hbm, 188, rfl⟩
abbrev main_while0b_v93 : Ref sig .tc := ⟨.hbm, 189, rfl⟩
abbrev main_while0b_v94 : Ref sig .tc := ⟨.hbm, 190, rfl⟩
abbrev main_while0b_v95 : Ref sig .tc := ⟨.hbm, 191, rfl⟩
abbrev main_while0b_v96 : Ref sig .tc := ⟨.hbm, 192, rfl⟩
abbrev main_while0b_v97 : Ref sig .tc := ⟨.hbm, 193, rfl⟩
abbrev main_while0b_c_54 : Ref sig .tc := ⟨.hbm, 194, rfl⟩
abbrev main_while0b_v98 : Ref sig .tc := ⟨.hbm, 195, rfl⟩
abbrev main_while0b_c_55 : Ref sig .tc := ⟨.hbm, 196, rfl⟩
abbrev main_while0b_v99 : Ref sig .tc := ⟨.hbm, 197, rfl⟩
abbrev main_while0b_v100 : Ref sig .tc := ⟨.hbm, 198, rfl⟩
abbrev main_while0b_c_56 : Ref sig .tc := ⟨.hbm, 199, rfl⟩
abbrev main_while0b_c_57 : Ref sig .tc := ⟨.hbm, 200, rfl⟩
abbrev main_while0b_v101 : Ref sig .tc := ⟨.hbm, 201, rfl⟩
abbrev main_while0b_c_58 : Ref sig .tc := ⟨.hbm, 202, rfl⟩
abbrev main_while0b_c_59 : Ref sig .tc := ⟨.hbm, 203, rfl⟩
abbrev main_while0b_v102 : Ref sig .tc := ⟨.hbm, 204, rfl⟩
abbrev main_while0b_c_60 : Ref sig .tc := ⟨.hbm, 205, rfl⟩
abbrev main_while0b_v103 : Ref sig .tc := ⟨.hbm, 206, rfl⟩
abbrev main_while0b_v104 : Ref sig .tc := ⟨.hbm, 207, rfl⟩
abbrev main_while0b_v105 : Ref sig .tc := ⟨.hbm, 208, rfl⟩
abbrev main_while0b_cst_61 : Ref sig .tc := ⟨.hbm, 209, rfl⟩
abbrev main_while0b_v106 : Ref sig .tc := ⟨.hbm, 210, rfl⟩
abbrev main_while0b_v107 : Ref sig .tc := ⟨.hbm, 211, rfl⟩
abbrev main_while0b_v108 : Ref sig .tc := ⟨.hbm, 212, rfl⟩
abbrev main_while0b_cst_62 : Ref sig .tc := ⟨.hbm, 213, rfl⟩
abbrev main_while0b_v109 : Ref sig .tc := ⟨.hbm, 214, rfl⟩
abbrev main_while0b_v110 : Ref sig .tc := ⟨.hbm, 215, rfl⟩
abbrev main_while0b_v111 : Ref sig .tc := ⟨.hbm, 216, rfl⟩
abbrev main_while0b_v112 : Ref sig .tc := ⟨.hbm, 217, rfl⟩
abbrev main_while0b_v113 : Ref sig .tc := ⟨.hbm, 218, rfl⟩
abbrev main_while0b_c_63 : Ref sig .tc := ⟨.hbm, 219, rfl⟩
abbrev main_while0b_v114 : Ref sig .tc := ⟨.hbm, 220, rfl⟩
abbrev main_while0b_c_64 : Ref sig .tc := ⟨.hbm, 221, rfl⟩
abbrev main_while0b_v115 : Ref sig .tc := ⟨.hbm, 222, rfl⟩
abbrev main_while0b_v116 : Ref sig .tc := ⟨.hbm, 223, rfl⟩
abbrev main_while0b_c_65 : Ref sig .tc := ⟨.hbm, 224, rfl⟩
abbrev main_while0b_c_66 : Ref sig .tc := ⟨.hbm, 225, rfl⟩
abbrev main_while0b_v117 : Ref sig .tc := ⟨.hbm, 226, rfl⟩
abbrev main_while0b_c_67 : Ref sig .tc := ⟨.hbm, 227, rfl⟩
abbrev main_while0b_c_68 : Ref sig .tc := ⟨.hbm, 228, rfl⟩
abbrev main_while0b_v118 : Ref sig .tc := ⟨.hbm, 229, rfl⟩
abbrev main_while0b_c_69 : Ref sig .tc := ⟨.hbm, 230, rfl⟩
abbrev main_while0b_v119 : Ref sig .tc := ⟨.hbm, 231, rfl⟩
abbrev main_while0b_c_70 : Ref sig .tc := ⟨.hbm, 232, rfl⟩
abbrev main_while0b_c_71 : Ref sig .tc := ⟨.hbm, 233, rfl⟩
abbrev main_while0b_v120 : Ref sig .tc := ⟨.hbm, 234, rfl⟩
abbrev main_while0b_c_72 : Ref sig .tc := ⟨.hbm, 235, rfl⟩
abbrev main_while0b_c_73 : Ref sig .tc := ⟨.hbm, 236, rfl⟩
abbrev main_while0b_v121 : Ref sig .tc := ⟨.hbm, 237, rfl⟩
abbrev main_while0b_c_74 : Ref sig .tc := ⟨.hbm, 238, rfl⟩
abbrev main_while0b_v122 : Ref sig .tc := ⟨.hbm, 239, rfl⟩
abbrev main_while0b_v123 : Ref sig .tc := ⟨.hbm, 240, rfl⟩
abbrev main_while0b_v124 : Ref sig .tc := ⟨.hbm, 241, rfl⟩
abbrev main_while0b_v125 : Ref sig .tc := ⟨.hbm, 242, rfl⟩
abbrev main_while0b_v126 : Ref sig .tc := ⟨.hbm, 243, rfl⟩
abbrev main_while0b_v127 : Ref sig .tc := ⟨.hbm, 244, rfl⟩
abbrev main_while0b_v128 : Ref sig .tc := ⟨.hbm, 245, rfl⟩
abbrev main_while0b_v129 : Ref sig .tc := ⟨.hbm, 246, rfl⟩
abbrev main_while0b_v130 : Ref sig .tc := ⟨.hbm, 247, rfl⟩
abbrev main_while0b_v131 : Ref sig .tc := ⟨.hbm, 248, rfl⟩
abbrev main_while0b_v132 : Ref sig .tc := ⟨.hbm, 249, rfl⟩
abbrev main_while0b_v133 : Ref sig .tc := ⟨.hbm, 250, rfl⟩
abbrev main_while0b_v134 : Ref sig .tc := ⟨.hbm, 251, rfl⟩
abbrev main_while0b_v135 : Ref sig .tc := ⟨.hbm, 252, rfl⟩
abbrev main_while0b_v136 : Ref sig .tc := ⟨.hbm, 253, rfl⟩
abbrev main_while0b_v137 : Ref sig .tc := ⟨.hbm, 254, rfl⟩
abbrev main_while0b_v138 : Ref sig .tc := ⟨.hbm, 255, rfl⟩
abbrev main_while0b_v139 : Ref sig .tc := ⟨.hbm, 256, rfl⟩
abbrev main_while0b_c_75 : Ref sig .tc := ⟨.hbm, 257, rfl⟩
abbrev main_while0b_v140 : Ref sig .tc := ⟨.hbm, 258, rfl⟩
abbrev main_while0b_v141 : Ref sig .tc := ⟨.hbm, 259, rfl⟩
abbrev main_while0b_c_76 : Ref sig .tc := ⟨.hbm, 260, rfl⟩
abbrev main_while0b_v142 : Ref sig .tc := ⟨.hbm, 261, rfl⟩
abbrev main_while0b_v143 : Ref sig .tc := ⟨.hbm, 262, rfl⟩
abbrev main_while0b_v144 : Ref sig .tc := ⟨.hbm, 263, rfl⟩
abbrev main_while0b_c_77 : Ref sig .tc := ⟨.hbm, 264, rfl⟩
abbrev main_while0b_v145 : Ref sig .tc := ⟨.hbm, 265, rfl⟩
abbrev main_while0b_v146 : Ref sig .tc := ⟨.hbm, 266, rfl⟩
abbrev main_while0b_c_78 : Ref sig .tc := ⟨.hbm, 267, rfl⟩
abbrev main_while0b_v147 : Ref sig .tc := ⟨.hbm, 268, rfl⟩
abbrev main_while0b_v148 : Ref sig .tc := ⟨.hbm, 269, rfl⟩
abbrev main_while0b_v149 : Ref sig .tc := ⟨.hbm, 270, rfl⟩
abbrev main_while0b_v150 : Ref sig .tc := ⟨.hbm, 271, rfl⟩
abbrev main_while0b_v151 : Ref sig .tc := ⟨.hbm, 272, rfl⟩
abbrev main_while0b_v152 : Ref sig .tc := ⟨.hbm, 273, rfl⟩
abbrev main_while0b_v153 : Ref sig .tc := ⟨.hbm, 274, rfl⟩
abbrev main_while0b_v154 : Ref sig .tc := ⟨.hbm, 275, rfl⟩
abbrev main_while0b_v155 : Ref sig .tc := ⟨.hbm, 276, rfl⟩
abbrev main_while0b_v156 : Ref sig .tc := ⟨.hbm, 277, rfl⟩
abbrev main_while0b_c_79 : Ref sig .tc := ⟨.hbm, 278, rfl⟩
abbrev main_while0b_c_80 : Ref sig .tc := ⟨.hbm, 279, rfl⟩
abbrev main_while0b_call3_v0 : Ref sig .tc := ⟨.hbm, 280, rfl⟩
abbrev main_while0b_call3_v1 : Ref sig .tc := ⟨.hbm, 281, rfl⟩
abbrev main_while0b_call3_v2 : Ref sig .tc := ⟨.hbm, 282, rfl⟩
abbrev main_while0b_call3_v3 : Ref sig .tc := ⟨.hbm, 283, rfl⟩
abbrev main_while0b_call3_v4 : Ref sig .tc := ⟨.hbm, 284, rfl⟩
abbrev main_while0b_v157 : Ref sig .tc := ⟨.hbm, 285, rfl⟩
abbrev main_while0b_v158 : Ref sig .tc := ⟨.hbm, 286, rfl⟩
abbrev main_while0b_c_81 : Ref sig .tc := ⟨.hbm, 287, rfl⟩
abbrev main_while0b_v159 : Ref sig .tc := ⟨.hbm, 288, rfl⟩
abbrev main_while0b_c_82 : Ref sig .tc := ⟨.hbm, 289, rfl⟩
abbrev main_while0b_v160 : Ref sig .tc := ⟨.hbm, 290, rfl⟩
abbrev main_while0b_v161 : Ref sig .tc := ⟨.hbm, 291, rfl⟩
abbrev main_while0b_c_83 : Ref sig .tc := ⟨.hbm, 292, rfl⟩
abbrev main_while0b_c_84 : Ref sig .tc := ⟨.hbm, 293, rfl⟩
abbrev main_while0b_v162 : Ref sig .tc := ⟨.hbm, 294, rfl⟩
abbrev main_while0b_c_85 : Ref sig .tc := ⟨.hbm, 295, rfl⟩
abbrev main_while0b_c_86 : Ref sig .tc := ⟨.hbm, 296, rfl⟩
abbrev main_while0b_v163 : Ref sig .tc := ⟨.hbm, 297, rfl⟩
abbrev main_while0b_c_87 : Ref sig .tc := ⟨.hbm, 298, rfl⟩
abbrev main_while0b_v164 : Ref sig .tc := ⟨.hbm, 299, rfl⟩
abbrev main_while0b_v165 : Ref sig .tc := ⟨.hbm, 300, rfl⟩
abbrev main_while0b_v166 : Ref sig .tc := ⟨.hbm, 301, rfl⟩
abbrev main_while0b_v167 : Ref sig .tc := ⟨.hbm, 302, rfl⟩
abbrev main_while0b_c_88 : Ref sig .tc := ⟨.hbm, 303, rfl⟩
abbrev main_while0b_v168 : Ref sig .tc := ⟨.hbm, 304, rfl⟩
abbrev main_while0b_v169 : Ref sig .tc := ⟨.hbm, 305, rfl⟩
abbrev main_while0b_c_89 : Ref sig .tc := ⟨.hbm, 306, rfl⟩
abbrev main_while0b_v170 : Ref sig .tc := ⟨.hbm, 307, rfl⟩
abbrev main_while0b_v171 : Ref sig .tc := ⟨.hbm, 308, rfl⟩
abbrev main_while0b_v172 : Ref sig .tc := ⟨.hbm, 309, rfl⟩
abbrev main_while0b_v173 : Ref sig .tc := ⟨.hbm, 310, rfl⟩
abbrev main_while0b_v174 : Ref sig .tc := ⟨.hbm, 311, rfl⟩
abbrev main_while0b_v175 : Ref sig .tc := ⟨.hbm, 312, rfl⟩
abbrev main_while0b_v176 : Ref sig .tc := ⟨.hbm, 313, rfl⟩
abbrev main_while0b_v177 : Ref sig .tc := ⟨.hbm, 314, rfl⟩
abbrev main_while0b_cst_90 : Ref sig .tc := ⟨.hbm, 315, rfl⟩
abbrev main_while0b_v178 : Ref sig .tc := ⟨.hbm, 316, rfl⟩
abbrev main_while0b_v179 : Ref sig .tc := ⟨.hbm, 317, rfl⟩
abbrev main_while0b_cst_91 : Ref sig .tc := ⟨.hbm, 318, rfl⟩
abbrev main_while0b_v180 : Ref sig .tc := ⟨.hbm, 319, rfl⟩
abbrev main_while0b_v181 : Ref sig .tc := ⟨.hbm, 320, rfl⟩
abbrev main_while0b_cst_92 : Ref sig .tc := ⟨.hbm, 321, rfl⟩
abbrev main_while0b_v182 : Ref sig .tc := ⟨.hbm, 322, rfl⟩
abbrev main_while0b_v183 : Ref sig .tc := ⟨.hbm, 323, rfl⟩
abbrev main_while0b_v184 : Ref sig .tc := ⟨.hbm, 324, rfl⟩
abbrev main_while0b_v185 : Ref sig .tc := ⟨.hbm, 325, rfl⟩
abbrev main_while0b_v186 : Ref sig .tc := ⟨.hbm, 326, rfl⟩
abbrev main_while0b_cst_93 : Ref sig .tc := ⟨.hbm, 327, rfl⟩
abbrev main_while0b_v187 : Ref sig .tc := ⟨.hbm, 328, rfl⟩
abbrev main_while0b_v188 : Ref sig .tc := ⟨.hbm, 329, rfl⟩
abbrev main_while0b_c_94 : Ref sig .tc := ⟨.hbm, 330, rfl⟩
abbrev main_while0b_call4_v0 : Ref sig .tc := ⟨.hbm, 331, rfl⟩
abbrev main_while0b_call4_v1 : Ref sig .tc := ⟨.hbm, 332, rfl⟩
abbrev main_while0b_call4_v2 : Ref sig .tc := ⟨.hbm, 333, rfl⟩
abbrev main_while0b_call4_cst : Ref sig .tc := ⟨.hbm, 334, rfl⟩
abbrev main_while0b_call4_v3 : Ref sig .tc := ⟨.hbm, 335, rfl⟩
abbrev main_while0b_call4_v4 : Ref sig .tc := ⟨.hbm, 336, rfl⟩
abbrev main_while0b_call4_cst_0 : Ref sig .tc := ⟨.hbm, 337, rfl⟩
abbrev main_while0b_call4_v5 : Ref sig .tc := ⟨.hbm, 338, rfl⟩
abbrev main_while0b_call4_v6 : Ref sig .tc := ⟨.hbm, 339, rfl⟩
abbrev main_while0b_call4_cst_1 : Ref sig .tc := ⟨.hbm, 340, rfl⟩
abbrev main_while0b_call4_v7 : Ref sig .tc := ⟨.hbm, 341, rfl⟩
abbrev main_while0b_call4_v8 : Ref sig .tc := ⟨.hbm, 342, rfl⟩
abbrev main_while0b_call4_v9 : Ref sig .tc := ⟨.hbm, 343, rfl⟩
abbrev main_while0b_call4_v10 : Ref sig .tc := ⟨.hbm, 344, rfl⟩
abbrev main_while0b_call4_v11 : Ref sig .tc := ⟨.hbm, 345, rfl⟩
abbrev main_while0b_call4_v12 : Ref sig .tc := ⟨.hbm, 346, rfl⟩
abbrev main_while0b_v189 : Ref sig .tc := ⟨.hbm, 347, rfl⟩
abbrev main_while0b_v190 : Ref sig .tc := ⟨.hbm, 348, rfl⟩
abbrev main_while0b_c_95 : Ref sig .tc := ⟨.hbm, 349, rfl⟩
abbrev main_while0b_v191 : Ref sig .tc := ⟨.hbm, 350, rfl⟩
abbrev main_while0b_c_96 : Ref sig .tc := ⟨.hbm, 351, rfl⟩
abbrev main_while0b_v192 : Ref sig .tc := ⟨.hbm, 352, rfl⟩
abbrev main_while0b_v193 : Ref sig .tc := ⟨.hbm, 353, rfl⟩
abbrev main_while0b_c_97 : Ref sig .tc := ⟨.hbm, 354, rfl⟩
abbrev main_while0b_c_98 : Ref sig .tc := ⟨.hbm, 355, rfl⟩
abbrev main_while0b_v194 : Ref sig .tc := ⟨.hbm, 356, rfl⟩
abbrev main_while0b_c_99 : Ref sig .tc := ⟨.hbm, 357, rfl⟩
abbrev main_while0b_c_100 : Ref sig .tc := ⟨.hbm, 358, rfl⟩
abbrev main_while0b_v195 : Ref sig .tc := ⟨.hbm, 359, rfl⟩
abbrev main_while0b_c_101 : Ref sig .tc := ⟨.hbm, 360, rfl⟩
abbrev main_while0b_v196 : Ref sig .tc := ⟨.hbm, 361, rfl⟩
abbrev main_while0b_v197 : Ref sig .tc := ⟨.hbm, 362, rfl⟩
abbrev main_while0b_v198 : Ref sig .tc := ⟨.hbm, 363, rfl⟩
abbrev main_while0b_c_102 : Ref sig .tc := ⟨.hbm, 364, rfl⟩
abbrev main_while0b_v199 : Ref sig .tc := ⟨.hbm, 365, rfl⟩
abbrev main_while0b_v200 : Ref sig .tc := ⟨.hbm, 366, rfl⟩
abbrev main_while0b_c_103 : Ref sig .tc := ⟨.hbm, 367, rfl⟩
abbrev main_while0b_v201 : Ref sig .tc := ⟨.hbm, 368, rfl⟩
abbrev main_while0b_v202 : Ref sig .tc := ⟨.hbm, 369, rfl⟩
abbrev main_while0b_v203 : Ref sig .tc := ⟨.hbm, 370, rfl⟩
abbrev main_while0b_v204 : Ref sig .tc := ⟨.hbm, 371, rfl⟩
abbrev main_while0b_v205 : Ref sig .tc := ⟨.hbm, 372, rfl⟩
abbrev main_while0b_v206 : Ref sig .tc := ⟨.hbm, 373, rfl⟩
abbrev main_while0b_cst_104 : Ref sig .tc := ⟨.hbm, 374, rfl⟩
abbrev main_while0b_v207 : Ref sig .tc := ⟨.hbm, 375, rfl⟩
abbrev main_while0b_v208 : Ref sig .tc := ⟨.hbm, 376, rfl⟩
abbrev main_while0b_v209 : Ref sig .tc := ⟨.hbm, 377, rfl⟩
abbrev main_while0b_v210 : Ref sig .tc := ⟨.hbm, 378, rfl⟩
abbrev main_while0b_c_105 : Ref sig .tc := ⟨.hbm, 379, rfl⟩
abbrev main_while0b_call5_v0 : Ref sig .tc := ⟨.hbm, 380, rfl⟩
abbrev main_while0b_call5_v1 : Ref sig .tc := ⟨.hbm, 381, rfl⟩
abbrev main_while0b_call5_v2 : Ref sig .tc := ⟨.hbm, 382, rfl⟩
abbrev main_while0b_call5_cst : Ref sig .tc := ⟨.hbm, 383, rfl⟩
abbrev main_while0b_call5_v3 : Ref sig .tc := ⟨.hbm, 384, rfl⟩
abbrev main_while0b_call5_v4 : Ref sig .tc := ⟨.hbm, 385, rfl⟩
abbrev main_while0b_call5_cst_0 : Ref sig .tc := ⟨.hbm, 386, rfl⟩
abbrev main_while0b_call5_v5 : Ref sig .tc := ⟨.hbm, 387, rfl⟩
abbrev main_while0b_call5_v6 : Ref sig .tc := ⟨.hbm, 388, rfl⟩
abbrev main_while0b_call5_cst_1 : Ref sig .tc := ⟨.hbm, 389, rfl⟩
abbrev main_while0b_call5_v7 : Ref sig .tc := ⟨.hbm, 390, rfl⟩
abbrev main_while0b_call5_v8 : Ref sig .tc := ⟨.hbm, 391, rfl⟩
abbrev main_while0b_call5_v9 : Ref sig .tc := ⟨.hbm, 392, rfl⟩
abbrev main_while0b_call5_v10 : Ref sig .tc := ⟨.hbm, 393, rfl⟩
abbrev main_while0b_call5_v11 : Ref sig .tc := ⟨.hbm, 394, rfl⟩
abbrev main_while0b_call5_v12 : Ref sig .tc := ⟨.hbm, 395, rfl⟩
abbrev main_while0b_v211 : Ref sig .tc := ⟨.hbm, 396, rfl⟩
abbrev main_while0b_v212 : Ref sig .tc := ⟨.hbm, 397, rfl⟩
abbrev main_while0b_v213 : Ref sig .tc := ⟨.hbm, 398, rfl⟩
abbrev main_while0b_v214 : Ref sig .tc := ⟨.hbm, 399, rfl⟩
abbrev main_while0b_v215 : Ref sig .tc := ⟨.hbm, 400, rfl⟩
abbrev main_while0b_v216 : Ref sig .tc := ⟨.hbm, 401, rfl⟩
abbrev main_while0b_v217 : Ref sig .tc := ⟨.hbm, 402, rfl⟩
abbrev main_while0b_v218 : Ref sig .tc := ⟨.hbm, 403, rfl⟩
abbrev main_while0b_v219 : Ref sig .tc := ⟨.hbm, 404, rfl⟩
abbrev main_while0b_v220 : Ref sig .tc := ⟨.hbm, 405, rfl⟩
abbrev main_while0b_v221 : Ref sig .tc := ⟨.hbm, 406, rfl⟩
abbrev main_while0b_call6_v0 : Ref sig .tc := ⟨.hbm, 407, rfl⟩
abbrev main_while0b_call6_v1 : Ref sig .tc := ⟨.hbm, 408, rfl⟩
abbrev main_while0b_v222 : Ref sig .tc := ⟨.hbm, 409, rfl⟩
abbrev main_while0b_v223 : Ref sig .tc := ⟨.hbm, 410, rfl⟩
abbrev main_while0b_v224 : Ref sig .tc := ⟨.hbm, 411, rfl⟩
abbrev main_while0b_call7_v0 : Ref sig .tc := ⟨.hbm, 412, rfl⟩
abbrev main_while0b_call7_v1 : Ref sig .tc := ⟨.hbm, 413, rfl⟩
abbrev main_while0b_v225 : Ref sig .tc := ⟨.hbm, 414, rfl⟩
abbrev main_while0b_v226 : Ref sig .tc := ⟨.hbm, 415, rfl⟩
abbrev main_while0b_v227 : Ref sig .tc := ⟨.hbm, 416, rfl⟩
abbrev main_while0b_v228 : Ref sig .tc := ⟨.hbm, 417, rfl⟩
abbrev main_while0b_v229 : Ref sig .tc := ⟨.hbm, 418, rfl⟩
abbrev main_while0b_v230 : Ref sig .tc := ⟨.hbm, 419, rfl⟩
abbrev main_while0b_v231 : Ref sig .tc := ⟨.hbm, 420, rfl⟩
abbrev main_while0b_v232 : Ref sig .tc := ⟨.hbm, 421, rfl⟩
abbrev main_while0b_v233 : Ref sig .tc := ⟨.hbm, 422, rfl⟩
abbrev main_while0b_v234 : Ref sig .tc := ⟨.hbm, 423, rfl⟩
abbrev main_while0b_v235 : Ref sig .tc := ⟨.hbm, 424, rfl⟩
abbrev main_while0b_call8_v0 : Ref sig .tc := ⟨.hbm, 425, rfl⟩
abbrev main_while0b_call8_v1 : Ref sig .tc := ⟨.hbm, 426, rfl⟩
abbrev main_while0b_v236 : Ref sig .tc := ⟨.hbm, 427, rfl⟩
abbrev main_while0b_c_106 : Ref sig .tc := ⟨.hbm, 428, rfl⟩
abbrev main_while0b_v237 : Ref sig .tc := ⟨.hbm, 429, rfl⟩
abbrev main_cst_3 : Ref sig .tc := ⟨.hbm, 430, rfl⟩
abbrev main_v5 : Ref sig .tc := ⟨.hbm, 431, rfl⟩
abbrev main_cst_4 : Ref sig .tc := ⟨.hbm, 432, rfl⟩
abbrev main_v6 : Ref sig .tc := ⟨.hbm, 433, rfl⟩
abbrev main_v7 : Ref sig .tc := ⟨.hbm, 434, rfl⟩

abbrev nD : Nat := 1
abbrev τ : Topo := Topo.v7x

variable {F : FTy → Type} [FloatOps F]

abbrev main_while0_count : Scf.Loop 32 := ⟨0#32, 128#32, 1#32⟩
-- ==== Proof.Own.KernelIdeal.Base.lean ====
module

public import proofs.«01_k».proof.Proof.Gen.KernelIdeal.Loops
public import proofs.«01_k».proof.Proof.Gen.KernelIdeal.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M`'s contents on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The contents of the five scratch buffers. -/
abbrev St (c : Dev nD) (M14 : Memref sig .tc .vmem S128x64x128 .f32) (M15 : Memref sig .tc .vmem S5x128x128 .f32)
    (M16 : Memref sig .tc .vmem S128x128 .f32) (M17 : Memref sig .tc .vmem S4x128 .f32)
    (M18 : Memref sig .tc .vmem S4x64x128 .f32) : Type :=
  Bf (F := F) c M14 × Bf (F := F) c M15 × Bf (F := F) c M16 × Bf (F := F) c M17 × Bf (F := F) c M18

/-- The result buffer with one row of eight outputs stored at an offset. -/
def putRow (c : Dev nD) (M : Memref sig .tc .vmem S32x8x128 .f32) (f : Bf (F := F) c M) (off : Fin 3 → ℕ)
    (h : ∀ a, off a + S1x8x128.size a ≤ S32x8x128.size a) (p : Vec F S1x8x128 .f32) : Bf (F := F) c M :=
  M.view.writes (Elt F) f [⟨Rect.unit (s := S32x8x128) off S1x8x128.size h, p⟩]

end Cert.Proof.KernelIdeal

end
-- ==== Proof.Own.KernelIdeal.Trip.lean ====
module

public import proofs.«01_k».proof.Proof.Own.KernelIdeal.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)
  (arg0 : Memref sig .tc .vmem S32x8x128 .f32) (harg0 : arg0.IsWhole) (arg1 : Memref sig .tc .vmem S64x8 .f32)
  (harg1 : arg1.IsWhole) (arg2 : Memref sig .tc .vmem S64x1 .f32) (harg2 : arg2.IsWhole)
  (arg3 : Memref sig .tc .vmem S8x64 .f32) (harg3 : arg3.IsWhole) (arg4 : Memref sig .tc .vmem S8x1 .f32)
  (harg4 : arg4.IsWhole) (arg5 : Memref sig .tc .vmem S1x64x64 .f32) (harg5 : arg5.IsWhole)
  (arg6 : Memref sig .tc .vmem S1x64x1 .f32) (harg6 : arg6.IsWhole) (arg7 : Memref sig .tc .vmem S2048x4 .f32)
  (harg7 : arg7.IsWhole) (arg8 : Memref sig .tc .vmem S4x64x1 .f32) (harg8 : arg8.IsWhole)
  (arg9 : Memref sig .tc .vmem S4x1x1 .f32) (harg9 : arg9.IsWhole) (arg10 : Memref sig .tc .vmem S4x1x1 .f32)
  (harg10 : arg10.IsWhole) (arg11 : Memref sig .tc .vmem S4x64x1 .f32) (harg11 : arg11.IsWhole)
  (arg12 : Memref sig .tc .vmem S4x128 .f32) (harg12 : arg12.IsWhole) (arg13 : Memref sig .tc .vmem S32x8x128 .f32)
  (harg13 : arg13.IsWhole) (arg14 : Memref sig .tc .vmem S128x64x128 .f32) (harg14 : arg14.IsWhole)
  (arg15 : Memref sig .tc .vmem S5x128x128 .f32) (harg15 : arg15.IsWhole)
  (arg16 : Memref sig .tc .vmem S128x128 .f32) (harg16 : arg16.IsWhole) (arg17 : Memref sig .tc .vmem S4x128 .f32)
  (harg17 : arg17.IsWhole) (arg18 : Memref sig .tc .vmem S4x64x128 .f32) (harg18 : arg18.IsWhole)
  (v26 : IVec S2048x128 32)
  (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12)

set_option maxHeartbeats 4000000 in
/-- One trip of the loop: the row of results it writes and what it leaves in the five scratch buffers, with its run.
    Neither depends on what the result buffer held. -/
noncomputable def trip (k : Fin k0_t1_loop.trips) (s : St (F := F) c arg14 arg15 arg16 arg17 arg18) :
    { W : Vec F S1x8x128 .f32 × St (F := F) c arg14 arg15 arg16 arg17 arg18 //
      ∀ (f13 : Bf (F := F) c arg13) (E : Set ℕ) (Q : PUnit → sProp 𝕄),
        iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 s.1 ∗ pt c arg15 s.2.1 ∗ pt c arg16 s.2.2.1 ∗ pt c arg17 s.2.2.2.1 ∗ pt c arg18 s.2.2.2.2
          ∗ (iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 (putRow c arg13 f13 (k0_off1 k) (k0_off1_inb k) W.1) ∗ pt c arg14 W.2.1 ∗ pt c arg15 W.2.2.1 ∗ pt c arg16 W.2.2.2.1 ∗ pt c arg17 W.2.2.2.2.1 ∗ pt c arg18 W.2.2.2.2.2) -∗ Q ⟨⟩))
        ⊢ wp frame (wpE (defs₀ (F := F)) Variants.none c none) E
            (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 k ⟨⟩) Q } := by
  refine ⟨⟨?_, ?_, ?_, ?_, ?_, ?_⟩, fun f13 E Q => ?run⟩
  case run =>
    unfold k0_t1_body putRow
    iintro ⟨H0, H1, H2, H3, H4, H5, H6, H7, H8, H9, H10, H11, H12, H13, H14, H15, H16, H17, H18, Hk⟩
    sl_exec_parts!
    sl_step
    iapply Hk
    iframe

set_option maxHeartbeats 4000000 in
/-- The scratch buffers before trip `k`. -/
noncomputable def st (s : St (F := F) c arg14 arg15 arg16 arg17 arg18) : ℕ → St (F := F) c arg14 arg15 arg16 arg17 arg18
  | 0 => s
  | k + 1 =>
    if h : k < k0_t1_loop.trips then (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 ⟨k, h⟩ (st s k)).1.2 else st s k

set_option maxHeartbeats 4000000 in
/-- The result buffer before trip `k`. -/
noncomputable def yc (s : St (F := F) c arg14 arg15 arg16 arg17 arg18) (f13 : Bf (F := F) c arg13) : ℕ → Bf (F := F) c arg13
  | 0 => f13
  | k + 1 =>
    if h : k < k0_t1_loop.trips then
      putRow c arg13 (yc s f13 k) (k0_off1 ⟨k, h⟩) (k0_off1_inb ⟨k, h⟩)
        (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 ⟨k, h⟩ (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k)).1.1
    else yc s f13 k

set_option maxHeartbeats 4000000 in
/-- One trip takes the loop's invariant on: the read buffers as they were, the result at `yc`, the scratch at
    `st`. -/
theorem step (f13 : Bf (F := F) c arg13) (s : St (F := F) c arg14 arg15 arg16 arg17 arg18) (k : Fin k0_t1_loop.trips) (a : PUnit) :
    iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 (yc c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s f13 k.val) ∗ pt c arg14 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k.val).1 ∗ pt c arg15 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k.val).2.1 ∗ pt c arg16 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k.val).2.2.1 ∗ pt c arg17 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k.val).2.2.2.1 ∗ pt c arg18 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k.val).2.2.2.2)
    ⊢ wp frame (wpE (defs₀ (F := F)) Variants.none c none) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 k a)
        (fun _ => iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 (yc c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s f13 (k.val + 1)) ∗ pt c arg14 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s (k.val + 1)).1 ∗ pt c arg15 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s (k.val + 1)).2.1 ∗ pt c arg16 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s (k.val + 1)).2.2.1 ∗ pt c arg17 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s (k.val + 1)).2.2.2.1 ∗ pt c arg18 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s (k.val + 1)).2.2.2.2)) := by
  have e : st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s (k.val + 1)
      = (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 k (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k.val)).1.2 := by
    rw [st, dif_pos k.isLt]
  have e' : yc c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s f13 (k.val + 1)
      = putRow c arg13 (yc c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s f13 k.val) (k0_off1 k) (k0_off1_inb k)
        (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 k (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k.val)).1.1 := by
    rw [yc, dif_pos k.isLt]
  rw [e, e']
  iintro ⟨H0, H1, H2, H3, H4, H5, H6, H7, H8, H9, H10, H11, H12, H13, H14, H15, H16, H17, H18⟩
  iapply ((trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 k (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k.val)).2 _ Set.univ _)
  iframe
  iintro H
  iexact H

set_option maxHeartbeats 4000000 in
/-- The whole loop: from any contents, the result and the scratch end at `yc` and `st` of the trip count. -/
theorem loop (f13 : Bf (F := F) c arg13) (s : St (F := F) c arg14 arg15 arg16 arg17 arg18) {β : Type}
    (kk : PUnit → Prog (TpuEff nD τ sig (Elt F) Λ₀ .tc) β) (Q : β → sProp 𝕄) :
    iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 s.1 ∗ pt c arg15 s.2.1 ∗ pt c arg16 s.2.2.1 ∗ pt c arg17 s.2.2.2.1 ∗ pt c arg18 s.2.2.2.2
      ∗ (iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 (yc c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s f13 k0_t1_loop.trips) ∗ pt c arg14 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k0_t1_loop.trips).1 ∗ pt c arg15 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k0_t1_loop.trips).2.1 ∗ pt c arg16 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k0_t1_loop.trips).2.2.1 ∗ pt c arg17 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k0_t1_loop.trips).2.2.2.1 ∗ pt c arg18 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s k0_t1_loop.trips).2.2.2.2)
        -∗ wp frame (wpE (defs₀ (F := F)) Variants.none c none) Set.univ (kk ⟨⟩) Q))
    ⊢ wp frame (wpE (defs₀ (F := F)) Variants.none c none) Set.univ
        (k0_t1_loop.for k0_t1_ok PUnit.unit (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26) >>= kk) Q := by
  iintro ⟨H0, H1, H2, H3, H4, H5, H6, H7, H8, H9, H10, H11, H12, H13, H14, H15, H16, H17, H18, Hk⟩
  iapply (Scf.wp_for_bind Idealize.ShloMosaic.frame _ Set.univ _ _ _ _ _ _
    (fun j _ => iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 (yc c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s f13 j) ∗ pt c arg14 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s j).1 ∗ pt c arg15 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s j).2.1 ∗ pt c arg16 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s j).2.2.1 ∗ pt c arg17 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s j).2.2.2.1 ∗ pt c arg18 (st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 s j).2.2.2.2))
    (step c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v26 f0 f1 f2 f3 f4 f5 f6 f7 f8 f9 f10 f11 f12 f13 s)) $$ [H0 H1 H2 H3 H4 H5 H6 H7 H8 H9 H10 H11 H12 H13 H14 H15 H16 H17 H18]
  · beta_reduce
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iintro %a H
  iapply Hk
  iexact H

end Cert.Proof.KernelIdeal

end
-- ==== Proof.Own.KernelIdeal.Body.lean ====
module

public import proofs.«01_k».proof.Proof.Own.KernelIdeal.Trip

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)
  (arg0 : Memref sig .tc .vmem S32x8x128 .f32) (harg0 : arg0.IsWhole) (arg1 : Memref sig .tc .vmem S64x8 .f32)
  (harg1 : arg1.IsWhole) (arg2 : Memref sig .tc .vmem S64x1 .f32) (harg2 : arg2.IsWhole)
  (arg3 : Memref sig .tc .vmem S8x64 .f32) (harg3 : arg3.IsWhole) (arg4 : Memref sig .tc .vmem S8x1 .f32)
  (harg4 : arg4.IsWhole) (arg5 : Memref sig .tc .vmem S1x64x64 .f32) (harg5 : arg5.IsWhole)
  (arg6 : Memref sig .tc .vmem S1x64x1 .f32) (harg6 : arg6.IsWhole) (arg7 : Memref sig .tc .vmem S2048x4 .f32)
  (harg7 : arg7.IsWhole) (arg8 : Memref sig .tc .vmem S4x64x1 .f32) (harg8 : arg8.IsWhole)
  (arg9 : Memref sig .tc .vmem S4x1x1 .f32) (harg9 : arg9.IsWhole) (arg10 : Memref sig .tc .vmem S4x1x1 .f32)
  (harg10 : arg10.IsWhole) (arg11 : Memref sig .tc .vmem S4x64x1 .f32) (harg11 : arg11.IsWhole)
  (arg12 : Memref sig .tc .vmem S4x128 .f32) (harg12 : arg12.IsWhole) (arg13 : Memref sig .tc .vmem S32x8x128 .f32)
  (harg13 : arg13.IsWhole) (arg14 : Memref sig .tc .vmem S128x64x128 .f32) (harg14 : arg14.IsWhole)
  (arg15 : Memref sig .tc .vmem S5x128x128 .f32) (harg15 : arg15.IsWhole)
  (arg16 : Memref sig .tc .vmem S128x128 .f32) (harg16 : arg16.IsWhole) (arg17 : Memref sig .tc .vmem S4x128 .f32)
  (harg17 : arg17.IsWhole) (arg18 : Memref sig .tc .vmem S4x64x128 .f32) (harg18 : arg18.IsWhole)
  (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12)

/-- The counting vector the loop reads. -/
abbrev ioP : IVec S2048x128 32 := iota .tc S2048x128 32 [0] iota_S2048x128_d0_w32

/-- The scratch buffers at the loop's entry: three histories and the hidden states at zero, the pointers at
    their first values. -/
@[reducible] def sInit : St (F := F) c arg14 arg15 arg16 arg17 arg18 :=
  (arg14.view.writes (Elt F) arg14.view.junk [⟨Rect.unit (s := S128x64x128) ![0, 0, 0] S128x64x128.size inb_S128x64x128_S128x64x128_0_0_0, k0_pay3⟩],
   arg15.view.writes (Elt F) arg15.view.junk [⟨Rect.unit (s := S5x128x128) ![0, 0, 0] S5x128x128.size inb_S5x128x128_S5x128x128_0_0_0, k0_pay4⟩],
   arg16.view.writes (Elt F) arg16.view.junk [⟨Rect.unit (s := S128x128) ![0, 0] S128x128.size inb_S128x128_S128x128_0_0, k0_pay5⟩],
   arg17.view.writes (Elt F) arg17.view.junk [⟨Rect.unit (s := S4x128) ![0, 0] S4x128.size inb_S4x128_S4x128_0_0, (k0_pay1 (View.readAt (Elt F) arg12.view (Rect.unit (s := S4x128) ![0, 0] S4x128.size inb_S4x128_S4x128_0_0).toLoadRect f12))⟩],
   arg18.view.writes (Elt F) arg18.view.junk [⟨Rect.unit (s := S4x64x128) ![0, 0, 0] S4x64x128.size inb_S4x64x128_S4x64x128_0_0_0, k0_pay2⟩])

/-- The result buffer after the loop. -/
def y4 (f13 : Bf (F := F) c arg13) : Bf (F := F) c arg13 := yc c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ioP f0 f1 f2 f3 f4 f5 f6 f7 f8 f9 f10 f11 f12 (sInit c arg12 arg14 arg15 arg16 arg17 arg18 f12) f13 k0_t1_loop.trips

set_option maxHeartbeats 4000000 in
/-- The body's run: the thirteen inputs' buffers as they were, the result's at `y4`, the five scratch buffers at
    something. Its loop goes by `loop`. -/
theorem kernelRun (f13 : Bf (F := F) c arg13) (K : PUnit → sProp 𝕄) :
    iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13
        ∗ (∃ f, pt c arg14 f) ∗ (∃ f, pt c arg15 f) ∗ (∃ f, pt c arg16 f) ∗ (∃ f, pt c arg17 f) ∗ (∃ f, pt c arg18 f)
        ∗ (iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 (y4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f0 f1 f2 f3 f4 f5 f6 f7 f8 f9 f10 f11 f12 f13)
          ∗ (∃ f, pt c arg14 f) ∗ (∃ f, pt c arg15 f) ∗ (∃ f, pt c arg16 f) ∗ (∃ f, pt c arg17 f) ∗ (∃ f, pt c arg18 f)) -∗ K ⟨⟩))
      ⊢ wp frame (wpE (defs₀ (F := F)) Variants.none c none) Set.univ
        (cc0__ring_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H0, H1, H2, H3, H4, H5, H6, H7, H8, H9, H10, H11, H12, H13, ⟨%f14, H14⟩, ⟨%f15, H15⟩, ⟨%f16, H16⟩, ⟨%f17, H17⟩, ⟨%f18, H18⟩, Hk⟩
  sl_unfold [cc0__ring_kernel]
  sl_exec
  iapply (loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ioP f0 f1 f2 f3 f4 f5 f6 f7 f8 f9 f10 f11 f12 f13 (sInit c arg12 arg14 arg15 arg16 arg17 arg18 f12))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H0, H1, H2, H3, H4, H5, H6, H7, H8, H9, H10, H11, H12, H13, H14, H15, H16, H17, H18⟩
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  iexists _; iexact H18

end Cert.Proof.KernelIdeal

end
-- ==== Proof.Own.KernelIdeal.Rows.lean ====
module

public import proofs.«01_k».proof.Proof.Own.KernelIdeal.Base
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-- The place in a row of outputs of a place in the result. -/
def rowIx (i : S32x8x128.Idx) : S1x8x128.Idx
  | ⟨0, _⟩ => ⟨0, Nat.one_pos⟩
  | ⟨1, _⟩ => i 1
  | ⟨2, _⟩ => i 2

/-- After a row is stored at `o`, row `o` reads it and every other row is as it was. -/
theorem putRow_read (c : Dev nD) (M : Memref sig .tc .vmem S32x8x128 .f32) (f : Bf (F := F) c M) (off : Fin 3 → ℕ)
    (h : ∀ a, off a + S1x8x128.size a ≤ S32x8x128.size a) (p : Vec F S1x8x128 .f32) (o : ℕ) (ho : off = ![o, 0, 0])
    (i : S32x8x128.Idx) :
    M.view.read (Elt F) (putRow c M f off h p) i
      = if (i 0).val = o then p (rowIx i) else M.view.read (Elt F) f i := by
  unfold putRow
  split
  · next e =>
    refine View.read_writes_cons_unit_of_mem M.view f h p [] i (rowIx i) ho fun a => ?_
    match a with
    | ⟨0, _⟩ => simpa [rowIx] using e
    | ⟨1, _⟩ => simp [rowIx]
    | ⟨2, _⟩ => simp [rowIx]
  · next e =>
    refine View.read_writes_cons_unit_of_not_mem M.view f h p [] i ho 0 ?_
    have hs : S1x8x128.size 0 = 1 := rfl
    simp only [Matrix.cons_val_zero, hs]
    omega

/-- Rows stored one after another from row `b`: those rows read what was stored, the others what was there. -/
theorem rows_read (c : Dev nD) (M : Memref sig .tc .vmem S32x8x128 .f32) (y : ℕ → Bf (F := F) c M)
    (row : ℕ → Vec F S1x8x128 .f32) (b T : ℕ)
    (hs : ∀ k < T, ∀ i, M.view.read (Elt F) (y (k + 1)) i
      = if (i 0).val = b + k then row k (rowIx i) else M.view.read (Elt F) (y k) i) (i : S32x8x128.Idx) :
    ∀ n ≤ T, M.view.read (Elt F) (y n) i
      = if b ≤ (i 0).val ∧ (i 0).val < b + n then row ((i 0).val - b) (rowIx i) else M.view.read (Elt F) (y 0) i
  | 0, _ => by rw [if_neg (by omega)]
  | n + 1, h => by
    rw [hs n h i, rows_read c M y row b T hs i n (by omega)]
    by_cases e : (i 0).val = b + n
    · rw [if_pos e, if_pos (by omega), show (i 0).val - b = n by omega]
    · rw [if_neg e]
      exact if_congr (by omega) rfl rfl

end Cert.Proof.KernelIdeal

end
-- ==== Proof.Own.KernelIdeal.Out.lean ====
module

public import proofs.«01_k».proof.Proof.Own.KernelIdeal.Body
public import proofs.«01_k».proof.Proof.Own.KernelIdeal.Rows

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

variable (c : Dev nD)
  (arg0 : Memref sig .tc .vmem S32x8x128 .f32) (harg0 : arg0.IsWhole) (arg1 : Memref sig .tc .vmem S64x8 .f32)
  (harg1 : arg1.IsWhole) (arg2 : Memref sig .tc .vmem S64x1 .f32) (harg2 : arg2.IsWhole)
  (arg3 : Memref sig .tc .vmem S8x64 .f32) (harg3 : arg3.IsWhole) (arg4 : Memref sig .tc .vmem S8x1 .f32)
  (harg4 : arg4.IsWhole) (arg5 : Memref sig .tc .vmem S1x64x64 .f32) (harg5 : arg5.IsWhole)
  (arg6 : Memref sig .tc .vmem S1x64x1 .f32) (harg6 : arg6.IsWhole) (arg7 : Memref sig .tc .vmem S2048x4 .f32)
  (harg7 : arg7.IsWhole) (arg8 : Memref sig .tc .vmem S4x64x1 .f32) (harg8 : arg8.IsWhole)
  (arg9 : Memref sig .tc .vmem S4x1x1 .f32) (harg9 : arg9.IsWhole) (arg10 : Memref sig .tc .vmem S4x1x1 .f32)
  (harg10 : arg10.IsWhole) (arg11 : Memref sig .tc .vmem S4x64x1 .f32) (harg11 : arg11.IsWhole)
  (arg12 : Memref sig .tc .vmem S4x128 .f32) (harg12 : arg12.IsWhole) (arg13 : Memref sig .tc .vmem S32x8x128 .f32)
  (harg13 : arg13.IsWhole) (arg14 : Memref sig .tc .vmem S128x64x128 .f32) (harg14 : arg14.IsWhole)
  (arg15 : Memref sig .tc .vmem S5x128x128 .f32) (harg15 : arg15.IsWhole)
  (arg16 : Memref sig .tc .vmem S128x128 .f32) (harg16 : arg16.IsWhole) (arg17 : Memref sig .tc .vmem S4x128 .f32)
  (harg17 : arg17.IsWhole) (arg18 : Memref sig .tc .vmem S4x64x128 .f32) (harg18 : arg18.IsWhole)
  (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12)

/-! ## What the body leaves in the result: a row of outputs per time step -/

theorem trips1 : k0_t1_loop.trips = 32 := by decide
theorem off1 : ∀ k : Fin k0_t1_loop.trips, k0_off1 k = ![0 + k.val, 0, 0] := by decide

/-- The scratch buffers before trip `k`. -/
def stAt (k : ℕ) : St (F := F) c arg14 arg15 arg16 arg17 arg18 :=
  st c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ioP f0 f1 f2 f3 f4 f5 f6 f7 f8 f9 f10 f11 f12 (sInit c arg12 arg14 arg15 arg16 arg17 arg18 f12) k

/-- The row of outputs of time step `k`. -/
def rowAt (k : ℕ) : Vec F S1x8x128 .f32 :=
  if h : k < k0_t1_loop.trips then
    (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ioP f0 f1 f2 f3 f4 f5 f6 f7 f8 f9 f10 f11 f12 ⟨k, h⟩ (stAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f0 f1 f2 f3 f4 f5 f6 f7 f8 f9 f10 f11 f12 k)).1.1
  else fun _ => Scalar.ofBits .f32 0#32

/-- The result the body leaves: at every time step its row, whatever was there before. -/
def outY : Vec F S32x8x128 .f32 := fun i => rowAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f0 f1 f2 f3 f4 f5 f6 f7 f8 f9 f10 f11 f12 (i 0).val (rowIx i)

/-- What the result's buffer reads at the end of the body does not depend on what it held. -/
theorem y4_out (f13 : Bf (F := F) c arg13) : arg13.view.read (Elt F) (y4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f0 f1 f2 f3 f4 f5 f6 f7 f8 f9 f10 f11 f12 f13) = outY c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f0 f1 f2 f3 f4 f5 f6 f7 f8 f9 f10 f11 f12 := by
  funext i
  have hi : (i 0).val < 32 := (i 0).isLt
  unfold y4 outY
  rw [trips1]
  rw [rows_read c arg13 (yc c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ioP f0 f1 f2 f3 f4 f5 f6 f7 f8 f9 f10 f11 f12 (sInit c arg12 arg14 arg15 arg16 arg17 arg18 f12) f13) (rowAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f0 f1 f2 f3 f4 f5 f6 f7 f8 f9 f10 f11 f12) 0 32 (fun k hk j => ?_) i 32 (le_refl _),
    if_pos ⟨Nat.zero_le _, by omega⟩, Nat.sub_zero]
  have h : k < k0_t1_loop.trips := by rw [trips1]; exact hk
  rw [yc, dif_pos h, putRow_read c arg13 _ _ _ _ _ (off1 ⟨k, h⟩), rowAt, dif_pos h, stAt]

end Cert.Proof.KernelIdeal

end
-- ==== Proof.Own.KernelIdeal.Run.lean ====
module

public import proofs.«01_k».proof.Proof.Own.KernelIdeal.Out
public import proofs.«01_k».proof.Proof.Gen.KernelIdeal.Frame
public import Idealize.ShloMosaic.Adequacy

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- A whole memref owned at what it reads is its buffer at the contents that read so. -/
theorem own_pt (c : Dev nD) {sp : Space} {sh : Shape} {e : EltTy} (M : Memref sig .tc sp sh e) (hM : M.IsWhole) (X : Vec F sh e) :
    (owns (c : Thread nD τ) M fullShare X : sProp 𝕄)
      = iprop(∃ f : Bf (F := F) c M, ⌜M.view.read (Elt F) f = X⌝ ∗ pt c M f) := by
  obtain ⟨b, hsp, hsh, he, h⟩ := hM
  subst hsp hsh he
  cases h
  unfold owns pt
  simp only [Memref.view_whole, View.read_whole, View.set_whole]

variable (m : (ℓ : Loc nD τ sig) → Buf (Elt F) ℓ) (ρ : Dev nD → PrngReg)

/-! ## The launch: the grid has one point, whose body is the whole kernel -/

/-- The result the body leaves, at the buffers the pipeline hands it and the blocks it reads. -/
def outAt (c : Dev nD) (t : Fin cfg0.N) : Vec F S32x8x128 .f32 :=
  outY c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0) (stage0_12 0) (hstage0_12 0) (stage0_13 0) (hstage0_13 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hstage0_0 0).unread (iblk m c 0 t)) ((hstage0_1 0).unread (iblk m c 1 t)) ((hstage0_2 0).unread (iblk m c 2 t)) ((hstage0_3 0).unread (iblk m c 3 t)) ((hstage0_4 0).unread (iblk m c 4 t)) ((hstage0_5 0).unread (iblk m c 5 t)) ((hstage0_6 0).unread (iblk m c 6 t)) ((hstage0_7 0).unread (iblk m c 7 t)) ((hstage0_8 0).unread (iblk m c 8 t)) ((hstage0_9 0).unread (iblk m c 9 t)) ((hstage0_10 0).unread (iblk m c 10 t)) ((hstage0_11 0).unread (iblk m c 11 t)) ((hstage0_12 0).unread (iblk m c 12 t))

/-- The proof data: each operand at its block, the result at `outAt`, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
theorem after0_12 (c : Dev nD) (t : Fin cfg0.N) : (dats m 0 c).after 12 t = iblk m c 12 t := by dsimp only [dats]
theorem before0_12 (c : Dev nD) (t : Fin cfg0.N) (d) : (dats m 0 c).before 12 t d = iblk m c 12 t :=
  before0_12_of m (dats m 0 c) (A_eq m c 12) (after0_12 m c) t d
theorem after0_13 (c : Dev nD) (t : Fin cfg0.N) : (dats m 0 c).after 13 t = outAt m c t := by dsimp only [dats]

set_option maxHeartbeats 4000000 in
/-- The body meets its obligation: from the operands' blocks and the scratch buffers at anything it leaves the result. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5, before0_6, before0_7, before0_8, before0_9, before0_10, before0_11, before0_12]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, after0_10, after0_11, after0_12, after0_13]
  simp only [show ∀ X, (owns (c : Thread nD τ) (win0_0.stage (cfg0.slots t 0)) fullShare X : sProp 𝕄) = _ from own_pt c (stage0_0 0) (hstage0_0 0)]
  simp only [show ∀ X, (owns (c : Thread nD τ) (win0_1.stage (cfg0.slots t 1)) fullShare X : sProp 𝕄) = _ from own_pt c (stage0_1 0) (hstage0_1 0)]
  simp only [show ∀ X, (owns (c : Thread nD τ) (win0_2.stage (cfg0.slots t 2)) fullShare X : sProp 𝕄) = _ from own_pt c (stage0_2 0) (hstage0_2 0)]
  simp only [show ∀ X, (owns (c : Thread nD τ) (win0_3.stage (cfg0.slots t 3)) fullShare X : sProp 𝕄) = _ from own_pt c (stage0_3 0) (hstage0_3 0)]
  simp only [show ∀ X, (owns (c : Thread nD τ) (win0_4.stage (cfg0.slots t 4)) fullShare X : sProp 𝕄) = _ from own_pt c (stage0_4 0) (hstage0_4 0)]
  simp only [show ∀ X, (owns (c : Thread nD τ) (win0_5.stage (cfg0.slots t 5)) fullShare X : sProp 𝕄) = _ from own_pt c (stage0_5 0) (hstage0_5 0)]
  simp only [show ∀ X, (owns (c : Thread nD τ) (win0_6.stage (cfg0.slots t 6)) fullShare X : sProp 𝕄) = _ from own_pt c (stage0_6 0) (hstage0_6 0)]
  simp only [show ∀ X, (owns (c : Thread nD τ) (win0_7.stage (cfg0.slots t 7)) fullShare X : sProp 𝕄) = _ from own_pt c (stage0_7 0) (hstage0_7 0)]
  simp only [show ∀ X, (owns (c : Thread nD τ) (win0_8.stage (cfg0.slots t 8)) fullShare X : sProp 𝕄) = _ from own_pt c (stage0_8 0) (hstage0_8 0)]
  simp only [show ∀ X, (owns (c : Thread nD τ) (win0_9.stage (cfg0.slots t 9)) fullShare X : sProp 𝕄) = _ from own_pt c (stage0_9 0) (hstage0_9 0)]
  simp only [show ∀ X, (owns (c : Thread nD τ) (win0_10.stage (cfg0.slots t 10)) fullShare X : sProp 𝕄) = _ from own_pt c (stage0_10 0) (hstage0_10 0)]
  simp only [show ∀ X, (owns (c : Thread nD τ) (win0_11.stage (cfg0.slots t 11)) fullShare X : sProp 𝕄) = _ from own_pt c (stage0_11 0) (hstage0_11 0)]
  simp only [show ∀ X, (owns (c : Thread nD τ) (win0_12.stage (cfg0.slots t 12)) fullShare X : sProp 𝕄) = _ from own_pt c (stage0_12 0) (hstage0_12 0)]
  simp only [show ∀ X, (owns (c : Thread nD τ) (win0_13.stage (cfg0.slots t 13)) fullShare X : sProp 𝕄) = _ from own_pt c (stage0_13 0) (hstage0_13 0)]
  unfold Pipeline.ΦA
  rw [scopedRest0_eq]
  iintro ⟨⟨⟨⟨%f14, H14⟩, ⟨%f15, H15⟩, ⟨%f16, H16⟩, ⟨%f17, H17⟩, ⟨%f18, H18⟩⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩⟩
  obtain rfl := (hstage0_0 0).eq_unread h0
  obtain rfl := (hstage0_1 0).eq_unread h1
  obtain rfl := (hstage0_2 0).eq_unread h2
  obtain rfl := (hstage0_3 0).eq_unread h3
  obtain rfl := (hstage0_4 0).eq_unread h4
  obtain rfl := (hstage0_5 0).eq_unread h5
  obtain rfl := (hstage0_6 0).eq_unread h6
  obtain rfl := (hstage0_7 0).eq_unread h7
  obtain rfl := (hstage0_8 0).eq_unread h8
  obtain rfl := (hstage0_9 0).eq_unread h9
  obtain rfl := (hstage0_10 0).eq_unread h10
  obtain rfl := (hstage0_11 0).eq_unread h11
  obtain rfl := (hstage0_12 0).eq_unread h12
  iapply (kernelRun c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0) (stage0_12 0) (hstage0_12 0) (stage0_13 0) (hstage0_13 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hstage0_0 0).unread (iblk m c 0 t)) ((hstage0_1 0).unread (iblk m c 1 t)) ((hstage0_2 0).unread (iblk m c 2 t)) ((hstage0_3 0).unread (iblk m c 3 t)) ((hstage0_4 0).unread (iblk m c 4 t)) ((hstage0_5 0).unread (iblk m c 5 t)) ((hstage0_6 0).unread (iblk m c 6 t)) ((hstage0_7 0).unread (iblk m c 7 t)) ((hstage0_8 0).unread (iblk m c 8 t)) ((hstage0_9 0).unread (iblk m c 9 t)) ((hstage0_10 0).unread (iblk m c 10 t)) ((hstage0_11 0).unread (iblk m c 11 t)) ((hstage0_12 0).unread (iblk m c 12 t)) f13)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [H14 H15 H16 H17 H18 Hg]
  · isplitr [Hg]
    · isplitl [H14]; · iexact H14
      isplitl [H15]; · iexact H15
      isplitl [H16]; · iexact H16
      isplitl [H17]; · iexact H17
      iexact H18
    · iexact Hg
  isplitl [Ho]; · iexact Ho
  isplitl [H0]; · iexists _; isplitr; swap; (· iexact H0); ipureintro; exact (hstage0_0 0).read_unread _
  isplitl [H1]; · iexists _; isplitr; swap; (· iexact H1); ipureintro; exact (hstage0_1 0).read_unread _
  isplitl [H2]; · iexists _; isplitr; swap; (· iexact H2); ipureintro; exact (hstage0_2 0).read_unread _
  isplitl [H3]; · iexists _; isplitr; swap; (· iexact H3); ipureintro; exact (hstage0_3 0).read_unread _
  isplitl [H4]; · iexists _; isplitr; swap; (· iexact H4); ipureintro; exact (hstage0_4 0).read_unread _
  isplitl [H5]; · iexists _; isplitr; swap; (· iexact H5); ipureintro; exact (hstage0_5 0).read_unread _
  isplitl [H6]; · iexists _; isplitr; swap; (· iexact H6); ipureintro; exact (hstage0_6 0).read_unread _
  isplitl [H7]; · iexists _; isplitr; swap; (· iexact H7); ipureintro; exact (hstage0_7 0).read_unread _
  isplitl [H8]; · iexists _; isplitr; swap; (· iexact H8); ipureintro; exact (hstage0_8 0).read_unread _
  isplitl [H9]; · iexists _; isplitr; swap; (· iexact H9); ipureintro; exact (hstage0_9 0).read_unread _
  isplitl [H10]; · iexists _; isplitr; swap; (· iexact H10); ipureintro; exact (hstage0_10 0).read_unread _
  isplitl [H11]; · iexists _; isplitr; swap; (· iexact H11); ipureintro; exact (hstage0_11 0).read_unread _
  isplitl [H12]; · iexists _; isplitr; swap; (· iexact H12); ipureintro; exact (hstage0_12 0).read_unread _
  iexists _; isplitr; swap; (· iexact H13); ipureintro
  exact y4_out c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0) (stage0_12 0) (hstage0_12 0) (stage0_13 0) (hstage0_13 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hstage0_0 0).unread (iblk m c 0 t)) ((hstage0_1 0).unread (iblk m c 1 t)) ((hstage0_2 0).unread (iblk m c 2 t)) ((hstage0_3 0).unread (iblk m c 3 t)) ((hstage0_4 0).unread (iblk m c 4 t)) ((hstage0_5 0).unread (iblk m c 5 t)) ((hstage0_6 0).unread (iblk m c 6 t)) ((hstage0_7 0).unread (iblk m c 7 t)) ((hstage0_8 0).unread (iblk m c 8 t)) ((hstage0_9 0).unread (iblk m c 9 t)) ((hstage0_10 0).unread (iblk m c 10 t)) ((hstage0_11 0).unread (iblk m c 11 t)) ((hstage0_12 0).unread (iblk m c 12 t)) f13

set_option backward.isDefEq.respectTransparency.types false in
/-- Every run ends with each operand as it was, the result at what the body leaves, the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps
    (hmain m Variants.none) (hA := fun _ _ => rfl) (hΦ := fun _ _ => rfl)

/-- Every run ends, the argument arrays as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_with_sems (frame_of m ρ (dats m) fun _ _ => rfl) (run_main m ρ)

end Cert.Proof.KernelIdeal

end
-- ==== Proof.Own.KernelIdeal.Mirror.lean ====
module

public import proofs.«01_k».proof.Proof.Own.KernelIdeal.Base
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]

/-! ## What the kernel computes for one being at one time step, as functions of the blocks it loads -/

/-- The blocks loaded for one being: the input row and the parameters, the being's pointers and hidden state, the three
    histories, and the number of their rows already written. -/
structure Blk (F : FTy → Type) [FloatOps F] where
  x : Vec F S1x8x128 .f32
  iw : Vec F S64x8 .f32
  ib : Vec F S64x1 .f32
  pw : Vec F S1x64x64 .f32
  pb : Vec F S1x64x1 .f32
  ptr : Vec F S1x128 .f32
  hid : Vec F S1x64x128 .f32
  cs : Vec F S1x1x1 .f32
  ph : Vec F S1x64x1 .f32
  jw : Vec F S1x64x1 .f32
  jb : Vec F S1x1x1 .f32
  dst : Vec F S2048x1 .f32
  su : Vec F S128x64x128 .f32
  w5 : Fin 5 → Vec F S1x128x128 .f32
  base : Vec F S128x128 .f32
  sw : BitVec 32

/-- A splat of the float word `b`. -/
abbrev bc (s : Shape) (b : BitVec 32) : FVec F s .f32 := broadcast s (Scalar.ofBits .f32 b)

theorem slices5 (n : Fin 5) : S5x128.Slices ![n.val, 0] S1x128 := by revert n; decide

/-- Row `n` of the five weights. -/
def row5 (v : FVec F S5x128 .f32) (n : Fin 5) : FVec F S1x128 .f32 :=
  shapeCast S1x128 (shapeCast S128 (extractStridedSlice S1x128 ![n.val, 0] v (slices5 n)) shapeCasts_S1x128_S128)
    shapeCasts_S128_S1x128

/-- The remainder modulo 2048 with the divisor's sign, as the kernel computes it. -/
def pyrem (s : Shape) (h : s.Broadcasts s) (x : FVec F s .f32) : FVec F s .f32 :=
  select (andi (xori (cmpf .olt (remf x (broadcast s (Scalar.sitofp .f32 2048#32))) (bc s 0x00000000#32))
      (broadcastTo s (broadcast s (Scalar.cmpf .olt (Scalar.sitofp (F := F) .f32 2048#32) (Scalar.ofBits .f32 0x00000000#32))) h))
      (cmpf .one (remf x (broadcast s (Scalar.sitofp .f32 2048#32))) (bc s 0x00000000#32)))
    (addf (remf x (broadcast s (Scalar.sitofp .f32 2048#32))) (broadcast s (Scalar.sitofp .f32 2048#32)))
    (remf x (broadcast s (Scalar.sitofp .f32 2048#32)))

/-- The signed circular distance modulo 2048, in [-1024, 1024). -/
def circ (s : Shape) (h : s.Broadcasts s) (x : FVec F s .f32) : FVec F s .f32 :=
  subf (pyrem s h (addf x (bc s 0x44800000#32))) (bc s 0x44800000#32)

/-- The input projection. -/
def inpV (I : Blk F) : FVec F S64x128 .f32 :=
  addf (matmul dot_S64x8_S8x128_S64x128_1_0_0_1_n_n none (shapeCast S64x8 I.iw shapeCasts_S64x8_S64x8)
      (shapeCast S8x128 I.x shapeCasts_S1x8x128_S8x128) (constant S64x128 .f32 0x00000000#32))
    (broadcastTo S64x128 (shapeCast S64x1 I.ib shapeCasts_S64x1_S64x1) broadcasts_S64x1_S64x128)

/-- The being's pointers, their integer parts clamped to the ring, and those as floats. -/
def ptrV (I : Blk F) : FVec F S1x128 .f32 :=
  shapeCast S1x128 (shapeCast S128 I.ptr shapeCasts_S1x128_S128) shapeCasts_S128_S1x128
def baseI (I : Blk F) : IVec S1x128 32 :=
  minsi (broadcast S1x128 2047#32) (maxsi (broadcast S1x128 0#32) (fptosi 32 (floor (ptrV I))))
def baseF (I : Blk F) : FVec F S1x128 .f32 := sitofp .f32 (baseI I)

/-- How far each of the five neighbours is from the pointer. -/
def deV (I : Blk F) : FVec F S5x128 .f32 :=
  circ S5x128 broadcasts_S5x128_S5x128 (subf (pyrem S5x128 broadcasts_S5x128_S5x128
    (addf (broadcastTo S5x128 (baseF I) broadcasts_S1x128_S5x128) k0_pay6))
      (broadcastTo S5x128 (ptrV I) broadcasts_S1x128_S5x128))

/-- The logits of the five neighbours. -/
def lgV (I : Blk F) : FVec F S5x128 .f32 :=
  divf (subf (bc S5x128 0x00000000#32) (mulf (deV I) (deV I))) (bc S5x128 0x41000000#32)

/-- The exponentials of the logits less their largest. -/
def exV (I : Blk F) : FVec F S5x128 .f32 :=
  exp (subf (lgV I) (broadcastTo S5x128 (shapeCast S1x128
    (multiReduction .maximumf [0] S128 (lgV I) 0xFF800000#32 reduces_S5x128_S128 (.inl rfl) rfl)
      shapeCasts_S128_S1x128) broadcasts_S1x128_S5x128))

/-- The five weights. -/
def wV (I : Blk F) : FVec F S5x128 .f32 :=
  divf (exV I) (broadcastTo S5x128 (shapeCast S1x128
    (multiReduction .add [0] S128 (exV I) 0x00000000#32 reduces_S5x128_S128 (.inl rfl) rfl)
      shapeCasts_S128_S1x128) broadcasts_S1x128_S5x128)

/-- The float words of −4, …, 4; `jp − m` is entry `jp + 4 − m`. -/
def dword : ℕ → BitVec 32
  | 0 => 0xC0800000#32 | 1 => 0xC0400000#32 | 2 => 0xC0000000#32 | 3 => 0xBF800000#32
  | 4 => 0x00000000#32 | 5 => 0x3F800000#32 | 6 => 0x40000000#32 | 7 => 0x40400000#32 | _ => 0x40800000#32

/-- The weight of the neighbour at distance `jp − m`, summed over the first `n` of `m`. -/
def gC (dd : FVec F S128x128 .f32) (w : FVec F S5x128 .f32) (jp : ℕ) (n : ℕ) : n ≤ 5 → FVec F S128x128 .f32 :=
  Nat.rec (fun _ => bc S128x128 0x00000000#32)
    (fun m ih h => addf (ih (Nat.le_of_succ_le h)) (select (cmpf .oeq dd (bc S128x128 (dword (jp + 4 - m))))
      (broadcastTo S128x128 (shapeCast S1x128 (row5 w ⟨m, h⟩) shapeCasts_S1x128_S1x128) broadcasts_S1x128_S128x128)
      (bc S128x128 0x00000000#32))) n

/-- The distances of the being's position from the stored ones. -/
def ddV (I : Blk F) : FVec F S128x128 .f32 :=
  circ S128x128 broadcasts_S128x128_S128x128 (subf (broadcastTo S128x128 (baseF I) broadcasts_S1x128_S128x128) I.base)

/-- The coefficients of the stored rows, summed over the first `n` of the five stored weights. -/
def cC (I : Blk F) (n : ℕ) : n ≤ 5 → FVec F S128x128 .f32 :=
  Nat.rec (fun _ => bc S128x128 0x00000000#32)
    (fun jp ih h => addf (ih (Nat.le_of_succ_le h)) (mulf (shapeCast S128x128 (I.w5 ⟨jp, h⟩) shapeCasts_S1x128x128_S128x128)
      (gC (ddV I) (wV I) jp 5 (Nat.le_refl 5)))) n

/-- The coefficients with the rows not yet written made zero. -/
def cM (I : Blk F) : FVec F S128x128 .f32 :=
  mulf (cC I 5 (Nat.le_refl 5)) (broadcastTo S128x128 (select (cmpf .olt (k0_pay7 (F := F))
      (broadcast S128x1 (Scalar.sitofp .f32 I.sw))) (bc S128x1 0x3F800000#32) (bc S128x1 0x00000000#32)) broadcasts_S128x1_S128x128)

/-- What the being reads of the history. -/
def ctxV (I : Blk F) : FVec F S64x128 .f32 :=
  multiReduction .add [0] S64x128 (mulf (broadcastTo S128x64x128 (shapeCast S128x1x128 (cM I) shapeCasts_S128x128_S128x1x128)
    broadcasts_S128x1x128_S128x64x128) I.su) 0x00000000#32 reduces_S128x64x128_S64x128 (.inl rfl) rfl

/-- The being's new hidden state. -/
def suV (I : Blk F) : FVec F S64x128 .f32 :=
  tanh (addf (matmul dot_S64x64_S64x128_S64x128_1_0_0_1_n_n none (shapeCast S64x64 I.pw shapeCasts_S1x64x64_S64x64)
      (tanh (addf (addf (addf (inpV I) (mulf (broadcastTo S64x128 (shapeCast S1x1 I.cs shapeCasts_S1x1x1_S1x1)
            broadcasts_S1x1_S64x128) (ctxV I)))
          (broadcastTo S64x128 (mulf (bc S64x1 0x3DCCCCCD#32) (shapeCast S64x1 I.ph shapeCasts_S1x64x1_S64x1))
            broadcasts_S64x1_S64x128))
        (shapeCast S64x128 I.hid shapeCasts_S1x64x128_S64x128)))
      (constant S64x128 .f32 0x00000000#32))
    (broadcastTo S64x128 (shapeCast S64x1 I.pb shapeCasts_S1x64x1_S64x1) broadcasts_S64x1_S64x128))

/-- The destination at the being's position. -/
def destV (I : Blk F) : FVec F S1x128 .f32 :=
  shapeCast S1x128 (multiReduction .add [0] S128 (select (cmpi .eq (iota .tc S2048x128 32 [0] iota_S2048x128_d0_w32)
      (broadcastTo S2048x128 (baseI I) broadcasts_S1x128_S2048x128))
      (broadcastTo S2048x128 (shapeCast S2048x1 (shapeCast S2048x1 I.dst shapeCasts_S2048x1_S2048x1) shapeCasts_S2048x1_S2048x1)
        broadcasts_S2048x1_S2048x128) (bc S2048x128 0x00000000#32)) 0x00000000#32 reduces_S2048x128_S128 (.inl rfl) rfl)
    shapeCasts_S128_S1x128

/-- The hard gate of the being's jump. -/
def jumpV (I : Blk F) : FVec F S1x128 .f32 :=
  select (cmpf .ogt (logistic (addf (shapeCast S1x128 (multiReduction .add [0] S128
        (mulf (broadcastTo S64x128 (shapeCast S64x1 I.jw shapeCasts_S1x64x1_S64x1) broadcasts_S64x1_S64x128) (suV I))
          0x00000000#32 reduces_S64x128_S128 (.inl rfl) rfl) shapeCasts_S128_S1x128)
      (broadcastTo S1x128 (shapeCast S1x1 I.jb shapeCasts_S1x1x1_S1x1) broadcasts_S1x1_S1x128))) (bc S1x128 0x3F000000#32))
    (bc S1x128 0x3F800000#32) (bc S1x128 0x00000000#32)

/-- The being's next pointers. -/
def ptrN (I : Blk F) : FVec F S1x128 .f32 :=
  shapeCast S1x128 (shapeCast S128 (pyrem S1x128 broadcasts_S1x128_S1x128
    (addf (mulf (jumpV I) (destV I))
      (mulf (subf (bc S1x128 0x3F800000#32) (jumpV I))
        (pyrem S1x128 broadcasts_S1x128_S1x128 (addf (ptrV I) (bc S1x128 0x3F800000#32))))))
    shapeCasts_S1x128_S128) shapeCasts_S128_S1x128

/-- A time step's row of outputs from the four hidden states. -/
def yV (ow : Vec F S8x64 .f32) (ob : Vec F S8x1 .f32) (a b c d : FVec F S64x128 .f32) : Vec F S1x8x128 .f32 :=
  shapeCast S1x8x128 (addf (matmul dot_S8x64_S64x128_S8x128_1_0_0_1_n_n none (shapeCast S8x64 ow shapeCasts_S8x64_S8x64)
      (mulf (addf (addf (addf (addf (bc S64x128 0x00000000#32) a) b) c) d) (bc S64x128 0x3E800000#32)) (constant S8x128 .f32 0x00000000#32))
    (broadcastTo S8x128 (shapeCast S8x1 ob shapeCasts_S8x1_S8x1) broadcasts_S8x1_S8x128)) shapeCasts_S8x128_S1x8x128

/-- What is stored of a hidden state, of the weights and of the positions. -/
def hidP (I : Blk F) : Vec F S1x64x128 .f32 := shapeCast S1x64x128 (suV I) shapeCasts_S64x128_S1x64x128
def suP (I : Blk F) : Vec F S1x64x128 .f32 :=
  shapeCast S1x64x128 (shapeCast S1x64x128 (suV I) shapeCasts_S64x128_S1x64x128) shapeCasts_S1x64x128_S1x64x128
def wP (I : Blk F) : Vec F S5x1x128 .f32 :=
  shapeCast S5x1x128 (shapeCast S5x1x128 (wV I) shapeCasts_S5x128_S5x1x128) shapeCasts_S5x1x128_S5x1x128
def baseP (I : Blk F) : Vec F S1x128 .f32 := shapeCast S1x128 (baseF I) shapeCasts_S1x128_S1x128

end Cert.Proof.KernelIdeal

end
-- ==== Proof.Own.KernelIdeal.Blocks.lean ====
module

public import proofs.«01_k».proof.Proof.Own.KernelIdeal.Mirror
public import proofs.«01_k».proof.Proof.Own.KernelIdeal.Out

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]

variable (c : Dev nD)
  (arg0 : Memref sig .tc .vmem S32x8x128 .f32) (harg0 : arg0.IsWhole) (arg1 : Memref sig .tc .vmem S64x8 .f32)
  (harg1 : arg1.IsWhole) (arg2 : Memref sig .tc .vmem S64x1 .f32) (harg2 : arg2.IsWhole)
  (arg3 : Memref sig .tc .vmem S8x64 .f32) (harg3 : arg3.IsWhole) (arg4 : Memref sig .tc .vmem S8x1 .f32)
  (harg4 : arg4.IsWhole) (arg5 : Memref sig .tc .vmem S1x64x64 .f32) (harg5 : arg5.IsWhole)
  (arg6 : Memref sig .tc .vmem S1x64x1 .f32) (harg6 : arg6.IsWhole) (arg7 : Memref sig .tc .vmem S2048x4 .f32)
  (harg7 : arg7.IsWhole) (arg8 : Memref sig .tc .vmem S4x64x1 .f32) (harg8 : arg8.IsWhole)
  (arg9 : Memref sig .tc .vmem S4x1x1 .f32) (harg9 : arg9.IsWhole) (arg10 : Memref sig .tc .vmem S4x1x1 .f32)
  (harg10 : arg10.IsWhole) (arg11 : Memref sig .tc .vmem S4x64x1 .f32) (harg11 : arg11.IsWhole)
  (arg12 : Memref sig .tc .vmem S4x128 .f32) (harg12 : arg12.IsWhole) (arg13 : Memref sig .tc .vmem S32x8x128 .f32)
  (harg13 : arg13.IsWhole) (arg14 : Memref sig .tc .vmem S128x64x128 .f32) (harg14 : arg14.IsWhole)
  (arg15 : Memref sig .tc .vmem S5x128x128 .f32) (harg15 : arg15.IsWhole)
  (arg16 : Memref sig .tc .vmem S128x128 .f32) (harg16 : arg16.IsWhole) (arg17 : Memref sig .tc .vmem S4x128 .f32)
  (harg17 : arg17.IsWhole) (arg18 : Memref sig .tc .vmem S4x64x128 .f32) (harg18 : arg18.IsWhole)
  (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12)

theorem inbW (jp : Fin 5) : ∀ a, (![jp.val, 0, 0] : Fin 3 → ℕ) a + S1x128x128.size a ≤ S5x128x128.size a := by
  revert jp; decide +kernel
theorem inb17 (bi : Fin 4) : ∀ a, (![bi.val, 0] : Fin 2 → ℕ) a + S1x128.size a ≤ S4x128.size a := by revert bi; decide
theorem inb18 (bi : Fin 4) : ∀ a, (![bi.val, 0, 0] : Fin 3 → ℕ) a + S1x64x128.size a ≤ S4x64x128.size a := by revert bi; decide
theorem inb10 (bi : Fin 4) : ∀ a, (![bi.val, 0, 0] : Fin 3 → ℕ) a + S1x1x1.size a ≤ S4x1x1.size a := by revert bi; decide
theorem inb11 (bi : Fin 4) : ∀ a, (![bi.val, 0, 0] : Fin 3 → ℕ) a + S1x64x1.size a ≤ S4x64x1.size a := by revert bi; decide
theorem inb7 (bi : Fin 4) : ∀ a, (![0, bi.val] : Fin 2 → ℕ) a + S2048x1.size a ≤ S2048x4.size a := by revert bi; decide +kernel

/-- The blocks loaded for being `bi` at time step `k`, the pointers and hidden states being as before the step and the
    histories read from `g14`, `g15`, `g16`. -/
def blk (k : Fin k0_t1_loop.trips) (bi : Fin 4) (g17 : Bf (F := F) c arg17) (g18 : Bf (F := F) c arg18)
    (g14 : Bf (F := F) c arg14) (g15 : Bf (F := F) c arg15) (g16 : Bf (F := F) c arg16) : Blk F where
  x := View.readAt (Elt F) arg0.view (Rect.unit (s := S32x8x128) (k0_off1 k) S1x8x128.size (k0_off1_inb k)).toLoadRect f0
  iw := View.readAt (Elt F) arg1.view (Rect.unit (s := S64x8) ![0, 0] S64x8.size inb_S64x8_S64x8_0_0).toLoadRect f1
  ib := View.readAt (Elt F) arg2.view (Rect.unit (s := S64x1) ![0, 0] S64x1.size inb_S64x1_S64x1_0_0).toLoadRect f2
  pw := View.readAt (Elt F) arg5.view (Rect.unit (s := S1x64x64) ![0, 0, 0] S1x64x64.size inb_S1x64x64_S1x64x64_0_0_0).toLoadRect f5
  pb := View.readAt (Elt F) arg6.view (Rect.unit (s := S1x64x1) ![0, 0, 0] S1x64x1.size inb_S1x64x1_S1x64x1_0_0_0).toLoadRect f6
  ptr := View.readAt (Elt F) arg17.view (Rect.unit (s := S4x128) ![bi.val, 0] S1x128.size (inb17 bi)).toLoadRect g17
  hid := View.readAt (Elt F) arg18.view (Rect.unit (s := S4x64x128) ![bi.val, 0, 0] S1x64x128.size (inb18 bi)).toLoadRect g18
  cs := View.readAt (Elt F) arg10.view (Rect.unit (s := S4x1x1) ![bi.val, 0, 0] S1x1x1.size (inb10 bi)).toLoadRect f10
  ph := View.readAt (Elt F) arg11.view (Rect.unit (s := S4x64x1) ![bi.val, 0, 0] S1x64x1.size (inb11 bi)).toLoadRect f11
  jw := View.readAt (Elt F) arg8.view (Rect.unit (s := S4x64x1) ![bi.val, 0, 0] S1x64x1.size (inb11 bi)).toLoadRect f8
  jb := View.readAt (Elt F) arg9.view (Rect.unit (s := S4x1x1) ![bi.val, 0, 0] S1x1x1.size (inb10 bi)).toLoadRect f9
  dst := View.readAt (Elt F) arg7.view (Rect.unit (s := S2048x4) ![0, bi.val] S2048x1.size (inb7 bi)).toLoadRect f7
  su := View.readAt (Elt F) arg14.view (Rect.unit (s := S128x64x128) ![0, 0, 0] S128x64x128.size inb_S128x64x128_S128x64x128_0_0_0).toLoadRect g14
  w5 jp := View.readAt (Elt F) arg15.view (Rect.unit (s := S5x128x128) ![jp.val, 0, 0] S1x128x128.size (inbW jp)).toLoadRect g15
  base := View.readAt (Elt F) arg16.view (Rect.unit (s := S128x128) ![0, 0] S128x128.size inb_S128x128_S128x128_0_0).toLoadRect g16
  sw := Scalar.addi (Scalar.muli (Scf.iv 0#32 1#32 k.val) 4#32) (BitVec.ofNat 32 bi.val)

/-- The blocks of each of the four beings, each reading the histories with the rows of those before it. -/
def blk0 (k : Fin k0_t1_loop.trips) (s : St (F := F) c arg14 arg15 arg16 arg17 arg18) : Blk F :=
  blk c arg0 arg1 arg2 arg5 arg6 arg7 arg8 arg9 arg10 arg11 arg14 arg15 arg16 arg17 arg18 f0 f1 f2 f5 f6 f7 f8 f9 f10 f11 k 0 s.2.2.2.1 s.2.2.2.2 s.1 s.2.1 s.2.2.1
def blk1 (k : Fin k0_t1_loop.trips) (s : St (F := F) c arg14 arg15 arg16 arg17 arg18) : Blk F :=
  blk c arg0 arg1 arg2 arg5 arg6 arg7 arg8 arg9 arg10 arg11 arg14 arg15 arg16 arg17 arg18 f0 f1 f2 f5 f6 f7 f8 f9 f10 f11 k 1 s.2.2.2.1 s.2.2.2.2
    (arg14.view.writes (Elt F) s.1
      [⟨Rect.unit (s := S128x64x128) (k0_off2 k 0#32) S1x64x128.size (k0_off2_inb k 0), suP (blk0 c arg0 arg1 arg2 arg5 arg6 arg7 arg8 arg9 arg10 arg11 arg14 arg15 arg16 arg17 arg18 f0 f1 f2 f5 f6 f7 f8 f9 f10 f11 k s)⟩])
    (arg15.view.writes (Elt F) s.2.1
      [⟨Rect.unit (s := S5x128x128) (k0_off3 k 0#32) S5x1x128.size (k0_off3_inb k 0), wP (blk0 c arg0 arg1 arg2 arg5 arg6 arg7 arg8 arg9 arg10 arg11 arg14 arg15 arg16 arg17 arg18 f0 f1 f2 f5 f6 f7 f8 f9 f10 f11 k s)⟩])
    (arg16.view.writes (Elt F) s.2.2.1
      [⟨Rect.unit (s := S128x128) (k0_off4 k 0#32) S1x128.size (k0_off4_inb k 0), baseP (blk0 c arg0 arg1 arg2 arg5 arg6 arg7 arg8 arg9 arg10 arg11 arg14 arg15 arg16 arg17 arg18 f0 f1 f2 f5 f6 f7 f8 f9 f10 f11 k s)⟩])
def blk2 (k : Fin k0_t1_loop.trips) (s : St (F := F) c arg14 arg15 arg16 arg17 arg18) : Blk F :=
  blk c arg0 arg1 arg2 arg5 arg6 arg7 arg8 arg9 arg10 arg11 arg14 arg15 arg16 arg17 arg18 f0 f1 f2 f5 f6 f7 f8 f9 f10 f11 k 2 s.2.2.2.1 s.2.2.2.2
    (arg14.view.writes (Elt F) s.1
      [⟨Rect.unit (s := S128x64x128) (k0_off2 k 1#32) S1x64x128.size (k0_off2_inb k 1), suP (blk1 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 0#32) S1x64x128.size (k0_off2_inb k 0), suP (blk0 c arg0 arg1 arg2 arg5 arg6 arg7 arg8 arg9 arg10 arg11 arg14 arg15 arg16 arg17 arg18 f0 f1 f2 f5 f6 f7 f8 f9 f10 f11 k s)⟩])
    (arg15.view.writes (Elt F) s.2.1
      [⟨Rect.unit (s := S5x128x128) (k0_off3 k 1#32) S5x1x128.size (k0_off3_inb k 1), wP (blk1 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 0#32) S5x1x128.size (k0_off3_inb k 0), wP (blk0 c arg0 arg1 arg2 arg5 arg6 arg7 arg8 arg9 arg10 arg11 arg14 arg15 arg16 arg17 arg18 f0 f1 f2 f5 f6 f7 f8 f9 f10 f11 k s)⟩])
    (arg16.view.writes (Elt F) s.2.2.1
      [⟨Rect.unit (s := S128x128) (k0_off4 k 1#32) S1x128.size (k0_off4_inb k 1), baseP (blk1 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 0#32) S1x128.size (k0_off4_inb k 0), baseP (blk0 c arg0 arg1 arg2 arg5 arg6 arg7 arg8 arg9 arg10 arg11 arg14 arg15 arg16 arg17 arg18 f0 f1 f2 f5 f6 f7 f8 f9 f10 f11 k s)⟩])
def blk3 (k : Fin k0_t1_loop.trips) (s : St (F := F) c arg14 arg15 arg16 arg17 arg18) : Blk F :=
  blk c arg0 arg1 arg2 arg5 arg6 arg7 arg8 arg9 arg10 arg11 arg14 arg15 arg16 arg17 arg18 f0 f1 f2 f5 f6 f7 f8 f9 f10 f11 k 3 s.2.2.2.1 s.2.2.2.2
    (arg14.view.writes (Elt F) s.1
      [⟨Rect.unit (s := S128x64x128) (k0_off2 k 2#32) S1x64x128.size (k0_off2_inb k 2), suP (blk2 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 1#32) S1x64x128.size (k0_off2_inb k 1), suP (blk1 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 0#32) S1x64x128.size (k0_off2_inb k 0), suP (blk0 c arg0 arg1 arg2 arg5 arg6 arg7 arg8 arg9 arg10 arg11 arg14 arg15 arg16 arg17 arg18 f0 f1 f2 f5 f6 f7 f8 f9 f10 f11 k s)⟩])
    (arg15.view.writes (Elt F) s.2.1
      [⟨Rect.unit (s := S5x128x128) (k0_off3 k 2#32) S5x1x128.size (k0_off3_inb k 2), wP (blk2 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 1#32) S5x1x128.size (k0_off3_inb k 1), wP (blk1 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 0#32) S5x1x128.size (k0_off3_inb k 0), wP (blk0 c arg0 arg1 arg2 arg5 arg6 arg7 arg8 arg9 arg10 arg11 arg14 arg15 arg16 arg17 arg18 f0 f1 f2 f5 f6 f7 f8 f9 f10 f11 k s)⟩])
    (arg16.view.writes (Elt F) s.2.2.1
      [⟨Rect.unit (s := S128x128) (k0_off4 k 2#32) S1x128.size (k0_off4_inb k 2), baseP (blk2 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 1#32) S1x128.size (k0_off4_inb k 1), baseP (blk1 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 0#32) S1x128.size (k0_off4_inb k 0), baseP (blk0 c arg0 arg1 arg2 arg5 arg6 arg7 arg8 arg9 arg10 arg11 arg14 arg15 arg16 arg17 arg18 f0 f1 f2 f5 f6 f7 f8 f9 f10 f11 k s)⟩])

/-- What a trip leaves: its row of outputs and the scratch buffers. -/
def tripV (k : Fin k0_t1_loop.trips) (s : St (F := F) c arg14 arg15 arg16 arg17 arg18) :
    Vec F S1x8x128 .f32 × St (F := F) c arg14 arg15 arg16 arg17 arg18 :=
  (yV (View.readAt (Elt F) arg3.view (Rect.unit (s := S8x64) ![0, 0] S8x64.size inb_S8x64_S8x64_0_0).toLoadRect f3)
      (View.readAt (Elt F) arg4.view (Rect.unit (s := S8x1) ![0, 0] S8x1.size inb_S8x1_S8x1_0_0).toLoadRect f4)
      (suV (blk0 c arg0 arg1 arg2 arg5 arg6 arg7 arg8 arg9 arg10 arg11 arg14 arg15 arg16 arg17 arg18 f0 f1 f2 f5 f6 f7 f8 f9 f10 f11 k s)) (suV (blk1 c arg0 arg1 arg2 arg5 arg6 arg7 arg8 arg9 arg10 arg11 arg14 arg15 arg16 arg17 arg18 f0 f1 f2 f5 f6 f7 f8 f9 f10 f11 k s)) (suV (blk2 c arg0 arg1 arg2 arg5 arg6 arg7 arg8 arg9 arg10 arg11 arg14 arg15 arg16 arg17 arg18 f0 f1 f2 f5 f6 f7 f8 f9 f10 f11 k s)) (suV (blk3 c arg0 arg1 arg2 arg5 arg6 arg7 arg8 arg9 arg10 arg11 arg14 arg15 arg16 arg17 arg18 f0 f1 f2 f5 f6 f7 f8 f9 f10 f11 k s)),
    (arg14.view.writes (Elt F) s.1
      [⟨Rect.unit (s := S128x64x128) (k0_off2 k 3#32) S1x64x128.size (k0_off2_inb k 3), suP (blk3 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 2#32) S1x64x128.size (k0_off2_inb k 2), suP (blk2 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 1#32) S1x64x128.size (k0_off2_inb k 1), suP (blk1 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 0#32) S1x64x128.size (k0_off2_inb k 0), suP (blk0 c arg0 arg1 arg2 arg5 arg6 arg7 arg8 arg9 arg10 arg11 arg14 arg15 arg16 arg17 arg18 f0 f1 f2 f5 f6 f7 f8 f9 f10 f11 k s)⟩]),
    (arg15.view.writes (Elt F) s.2.1
      [⟨Rect.unit (s := S5x128x128) (k0_off3 k 3#32) S5x1x128.size (k0_off3_inb k 3), wP (blk3 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 2#32) S5x1x128.size (k0_off3_inb k 2), wP (blk2 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 1#32) S5x1x128.size (k0_off3_inb k 1), wP (blk1 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 0#32) S5x1x128.size (k0_off3_inb k 0), wP (blk0 c arg0 arg1 arg2 arg5 arg6 arg7 arg8 arg9 arg10 arg11 arg14 arg15 arg16 arg17 arg18 f0 f1 f2 f5 f6 f7 f8 f9 f10 f11 k s)⟩]),
    (arg16.view.writes (Elt F) s.2.2.1
      [⟨Rect.unit (s := S128x128) (k0_off4 k 3#32) S1x128.size (k0_off4_inb k 3), baseP (blk3 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 2#32) S1x128.size (k0_off4_inb k 2), baseP (blk2 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 1#32) S1x128.size (k0_off4_inb k 1), baseP (blk1 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 0#32) S1x128.size (k0_off4_inb k 0), baseP (blk0 c arg0 arg1 arg2 arg5 arg6 arg7 arg8 arg9 arg10 arg11 arg14 arg15 arg16 arg17 arg18 f0 f1 f2 f5 f6 f7 f8 f9 f10 f11 k s)⟩]),
    (arg17.view.writes (Elt F) arg17.view.junk
      [⟨Rect.unit (s := S4x128) ![3, 0] S1x128.size (inb17 3), ptrN (blk3 c arg0 arg1 arg2 arg5 arg6 arg7 arg8 arg9 arg10 arg11 arg14 arg15 arg16 arg17 arg18 f0 f1 f2 f5 f6 f7 f8 f9 f10 f11 k s)⟩,
       ⟨Rect.unit (s := S4x128) ![2, 0] S1x128.size (inb17 2), ptrN (blk2 c arg0 arg1 arg2 arg5 arg6 arg7 arg8 arg9 arg10 arg11 arg14 arg15 arg16 arg17 arg18 f0 f1 f2 f5 f6 f7 f8 f9 f10 f11 k s)⟩,
       ⟨Rect.unit (s := S4x128) ![1, 0] S1x128.size (inb17 1), ptrN (blk1 c arg0 arg1 arg2 arg5 arg6 arg7 arg8 arg9 arg10 arg11 arg14 arg15 arg16 arg17 arg18 f0 f1 f2 f5 f6 f7 f8 f9 f10 f11 k s)⟩,
       ⟨Rect.unit (s := S4x128) ![0, 0] S1x128.size (inb17 0), ptrN (blk0 c arg0 arg1 arg2 arg5 arg6 arg7 arg8 arg9 arg10 arg11 arg14 arg15 arg16 arg17 arg18 f0 f1 f2 f5 f6 f7 f8 f9 f10 f11 k s)⟩]),
    (arg18.view.writes (Elt F) arg18.view.junk
      [⟨Rect.unit (s := S4x64x128) ![3, 0, 0] S1x64x128.size (inb18 3), hidP (blk3 c arg0 arg1 arg2 arg5 arg6 arg7 arg8 arg9 arg10 arg11 arg14 arg15 arg16 arg17 arg18 f0 f1 f2 f5 f6 f7 f8 f9 f10 f11 k s)⟩,
       ⟨Rect.unit (s := S4x64x128) ![2, 0, 0] S1x64x128.size (inb18 2), hidP (blk2 c arg0 arg1 arg2 arg5 arg6 arg7 arg8 arg9 arg10 arg11 arg14 arg15 arg16 arg17 arg18 f0 f1 f2 f5 f6 f7 f8 f9 f10 f11 k s)⟩,
       ⟨Rect.unit (s := S4x64x128) ![1, 0, 0] S1x64x128.size (inb18 1), hidP (blk1 c arg0 arg1 arg2 arg5 arg6 arg7 arg8 arg9 arg10 arg11 arg14 arg15 arg16 arg17 arg18 f0 f1 f2 f5 f6 f7 f8 f9 f10 f11 k s)⟩,
       ⟨Rect.unit (s := S4x64x128) ![0, 0, 0] S1x64x128.size (inb18 0), hidP (blk0 c arg0 arg1 arg2 arg5 arg6 arg7 arg8 arg9 arg10 arg11 arg14 arg15 arg16 arg17 arg18 f0 f1 f2 f5 f6 f7 f8 f9 f10 f11 k s)⟩]))

end Cert.Proof.KernelIdeal

end
-- ==== Proof.Own.KernelIdeal.TripEq.lean ====
module

public import proofs.«01_k».proof.Proof.Own.KernelIdeal.Blocks
public import proofs.«01_k».proof.Proof.Own.KernelIdeal.Out

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]

variable (c : Dev nD)
  (arg0 : Memref sig .tc .vmem S32x8x128 .f32) (harg0 : arg0.IsWhole) (arg1 : Memref sig .tc .vmem S64x8 .f32)
  (harg1 : arg1.IsWhole) (arg2 : Memref sig .tc .vmem S64x1 .f32) (harg2 : arg2.IsWhole)
  (arg3 : Memref sig .tc .vmem S8x64 .f32) (harg3 : arg3.IsWhole) (arg4 : Memref sig .tc .vmem S8x1 .f32)
  (harg4 : arg4.IsWhole) (arg5 : Memref sig .tc .vmem S1x64x64 .f32) (harg5 : arg5.IsWhole)
  (arg6 : Memref sig .tc .vmem S1x64x1 .f32) (harg6 : arg6.IsWhole) (arg7 : Memref sig .tc .vmem S2048x4 .f32)
  (harg7 : arg7.IsWhole) (arg8 : Memref sig .tc .vmem S4x64x1 .f32) (harg8 : arg8.IsWhole)
  (arg9 : Memref sig .tc .vmem S4x1x1 .f32) (harg9 : arg9.IsWhole) (arg10 : Memref sig .tc .vmem S4x1x1 .f32)
  (harg10 : arg10.IsWhole) (arg11 : Memref sig .tc .vmem S4x64x1 .f32) (harg11 : arg11.IsWhole)
  (arg12 : Memref sig .tc .vmem S4x128 .f32) (harg12 : arg12.IsWhole) (arg13 : Memref sig .tc .vmem S32x8x128 .f32)
  (harg13 : arg13.IsWhole) (arg14 : Memref sig .tc .vmem S128x64x128 .f32) (harg14 : arg14.IsWhole)
  (arg15 : Memref sig .tc .vmem S5x128x128 .f32) (harg15 : arg15.IsWhole)
  (arg16 : Memref sig .tc .vmem S128x128 .f32) (harg16 : arg16.IsWhole) (arg17 : Memref sig .tc .vmem S4x128 .f32)
  (harg17 : arg17.IsWhole) (arg18 : Memref sig .tc .vmem S4x64x128 .f32) (harg18 : arg18.IsWhole)
  (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12)

variable (k : Fin k0_t1_loop.trips) (s : St (F := F) c arg14 arg15 arg16 arg17 arg18)

/-- The five weights of being 0. -/
theorem w0_eq : @trip.sl.r_6 F _ c arg14 arg15 arg16 arg17 arg18 s = wV (blk0 c arg0 arg1 arg2 arg5 arg6 arg7 arg8 arg9 arg10 arg11 arg14 arg15 arg16 arg17 arg18 f0 f1 f2 f5 f6 f7 f8 f9 f10 f11 k s) := by rfl

/-- The position of being 0. -/
theorem bf0_eq : @trip.sl.r_4 F _ c arg14 arg15 arg16 arg17 arg18 s = baseF (blk0 c arg0 arg1 arg2 arg5 arg6 arg7 arg8 arg9 arg10 arg11 arg14 arg15 arg16 arg17 arg18 f0 f1 f2 f5 f6 f7 f8 f9 f10 f11 k s) := by rfl

set_option maxHeartbeats 2000000 in
/-- The new hidden state of being 0. -/
theorem su0_eq : @trip.sl.r_27 F _ c arg0 arg1 arg2 arg5 arg6 arg10 arg11 arg14 arg15 arg16 arg17 arg18 f0 f1 f2 f5 f6 f10 f11 k s = suV (blk0 c arg0 arg1 arg2 arg5 arg6 arg7 arg8 arg9 arg10 arg11 arg14 arg15 arg16 arg17 arg18 f0 f1 f2 f5 f6 f7 f8 f9 f10 f11 k s) := by rfl

/-- The rows written to scratch buffer 14 by beings 0 to 0. -/
theorem h14_1 : @trip.sl.H14_1 F _ c arg0 arg1 arg2 arg5 arg6 arg10 arg11 arg14 arg15 arg16 arg17 arg18 f0 f1 f2 f5 f6 f10 f11 k s = [⟨Rect.unit (s := S128x64x128) (k0_off2 k 0#32) S1x64x128.size (k0_off2_inb k 0), suP (blk0 c arg0 arg1 arg2 arg5 arg6 arg7 arg8 arg9 arg10 arg11 arg14 arg15 arg16 arg17 arg18 f0 f1 f2 f5 f6 f7 f8 f9 f10 f11 k s)⟩] := by
  unfold trip.sl.H14_1; rw [su0_eq]; rfl

/-- The rows written to scratch buffer 15 by beings 0 to 0. -/
theorem h15_1 : @trip.sl.H15_1 F _ c arg14 arg15 arg16 arg17 arg18 k s = [⟨Rect.unit (s := S5x128x128) (k0_off3 k 0#32) S5x1x128.size (k0_off3_inb k 0), wP (blk0 c arg0 arg1 arg2 arg5 arg6 arg7 arg8 arg9 arg10 arg11 arg14 arg15 arg16 arg17 arg18 f0 f1 f2 f5 f6 f7 f8 f9 f10 f11 k s)⟩] := by
  unfold trip.sl.H15_1; rw [w0_eq]; rfl

/-- The rows written to scratch buffer 16 by beings 0 to 0. -/
theorem h16_1 : @trip.sl.H16_1 F _ c arg14 arg15 arg16 arg17 arg18 k s = [⟨Rect.unit (s := S128x128) (k0_off4 k 0#32) S1x128.size (k0_off4_inb k 0), baseP (blk0 c arg0 arg1 arg2 arg5 arg6 arg7 arg8 arg9 arg10 arg11 arg14 arg15 arg16 arg17 arg18 f0 f1 f2 f5 f6 f7 f8 f9 f10 f11 k s)⟩] := by
  unfold trip.sl.H16_1; rw [bf0_eq]; rfl

/-- The blocks of being 1 are read after the rows of the beings before it. -/
theorem blk1_eq : (blk c arg0 arg1 arg2 arg5 arg6 arg7 arg8 arg9 arg10 arg11 arg14 arg15 arg16 arg17 arg18 f0 f1 f2 f5 f6 f7 f8 f9 f10 f11 k 1 s.2.2.2.1 s.2.2.2.2 (arg14.view.writes (Elt F) s.1 (@trip.sl.H14_1 F _ c arg0 arg1 arg2 arg5 arg6 arg10 arg11 arg14 arg15 arg16 arg17 arg18 f0 f1 f2 f5 f6 f10 f11 k s)) (arg15.view.writes (Elt F) s.2.1 (@trip.sl.H15_1 F _ c arg14 arg15 arg16 arg17 arg18 k s)) (arg16.view.writes (Elt F) s.2.2.1 (@trip.sl.H16_1 F _ c arg14 arg15 arg16 arg17 arg18 k s))) = (blk1 c arg0 arg1 arg2 arg5 arg6 arg7 arg8 arg9 arg10 arg11 arg14 arg15 arg16 arg17 arg18 f0 f1 f2 f5 f6 f7 f8 f9 f10 f11 k s) := by
  rw [h14_1, h15_1, h16_1]; rfl

/-- The five weights of being 1. -/
theorem w1_eq : @trip.sl.r_38 F _ c arg14 arg15 arg16 arg17 arg18 s = wV (blk1 c arg0 arg1 arg2 arg5 arg6 arg7 arg8 arg9 arg10 arg11 arg14 arg15 arg16 arg17 arg18 f0 f1 f2 f5 f6 f7 f8 f9 f10 f11 k s) :=
  Eq.trans (b := wV (blk c arg0 arg1 arg2 arg5 arg6 arg7 arg8 arg9 arg10 arg11 arg14 arg15 arg16 arg17 arg18 f0 f1 f2 f5 f6 f7 f8 f9 f10 f11 k 1 s.2.2.2.1 s.2.2.2.2 (arg14.view.writes (Elt F) s.1 (@trip.sl.H14_1 F _ c arg0 arg1 arg2 arg5 arg6 arg10 arg11 arg14 arg15 arg16 arg17 arg18 f0 f1 f2 f5 f6 f10 f11 k s)) (arg15.view.writes (Elt F) s.2.1 (@trip.sl.H15_1 F _ c arg14 arg15 arg16 arg17 arg18 k s)) (arg16.view.writes (Elt F) s.2.2.1 (@trip.sl.H16_1 F _ c arg14 arg15 arg16 arg17 arg18 k s)))) (by rfl) (congrArg _ (blk1_eq c arg0 arg1 arg2 arg5 arg6 arg7 arg8 arg9 arg10 arg11 arg14 arg15 arg16 arg17 arg18 f0 f1 f2 f5 f6 f7 f8 f9 f10 f11 k s))

/-- The position of being 1. -/
theorem bf1_eq : @trip.sl.r_36 F _ c arg14 arg15 arg16 arg17 arg18 s = baseF (blk1 c arg0 arg1 arg2 arg5 arg6 arg7 arg8 arg9 arg10 arg11 arg14 arg15 arg16 arg17 arg18 f0 f1 f2 f5 f6 f7 f8 f9 f10 f11 k s) :=
  Eq.trans (b := baseF (blk c arg0 arg1 arg2 arg5 arg6 arg7 arg8 arg9 arg10 arg11 arg14 arg15 arg16 arg17 arg18 f0 f1 f2 f5 f6 f7 f8 f9 f10 f11 k 1 s.2.2.2.1 s.2.2.2.2 (arg14.view.writes (Elt F) s.1 (@trip.sl.H14_1 F _ c arg0 arg1 arg2 arg5 arg6 arg10 arg11 arg14 arg15 arg16 arg17 arg18 f0 f1 f2 f5 f6 f10 f11 k s)) (arg15.view.writes (Elt F) s.2.1 (@trip.sl.H15_1 F _ c arg14 arg15 arg16 arg17 arg18 k s)) (arg16.view.writes (Elt F) s.2.2.1 (@trip.sl.H16_1 F _ c arg14 arg15 arg16 arg17 arg18 k s)))) (by rfl) (congrArg _ (blk1_eq c arg0 arg1 arg2 arg5 arg6 arg7 arg8 arg9 arg10 arg11 arg14 arg15 arg16 arg17 arg18 f0 f1 f2 f5 f6 f7 f8 f9 f10 f11 k s))

set_option maxHeartbeats 2000000 in
/-- The new hidden state of being 1. -/
theorem su1_eq : @trip.sl.r_57 F _ c arg0 arg1 arg2 arg5 arg6 arg10 arg11 arg14 arg15 arg16 arg17 arg18 f0 f1 f2 f5 f6 f10 f11 k s = suV (blk1 c arg0 arg1 arg2 arg5 arg6 arg7 arg8 arg9 arg10 arg11 arg14 arg15 arg16 arg17 arg18 f0 f1 f2 f5 f6 f7 f8 f9 f10 f11 k s) :=
  Eq.trans (b := suV (blk c arg0 arg1 arg2 arg5 arg6 arg7 arg8 arg9 arg10 arg11 arg14 arg15 arg16 arg17 arg18 f0 f1 f2 f5 f6 f7 f8 f9 f10 f11 k 1 s.2.2.2.1 s.2.2.2.2 (arg14.view.writes (Elt F) s.1 (@trip.sl.H14_1 F _ c arg0 arg1 arg2 arg5 arg6 arg10 arg11 arg14 arg15 arg16 arg17 arg18 f0 f1 f2 f5 f6 f10 f11 k s)) (arg15.view.writes (Elt F) s.2.1 (@trip.sl.H15_1 F _ c arg14 arg15 arg16 arg17 arg18 k s)) (arg16.view.writes (Elt F) s.2.2.1 (@trip.sl.H16_1 F _ c arg14 arg15 arg16 arg17 arg18 k s)))) (by rfl) (congrArg _ (blk1_eq c arg0 arg1 arg2 arg5 arg6 arg7 arg8 arg9 arg10 arg11 arg14 arg15 arg16 arg17 arg18 f0 f1 f2 f5 f6 f7 f8 f9 f10 f11 k s))

/-- The rows written to scratch buffer 14 by beings 0 to 1. -/
theorem h14_2 : @trip.sl.H14_2 F _ c arg0 arg1 arg2 arg5 arg6 arg10 arg11 arg14 arg15 arg16 arg17 arg18 f0 f1 f2 f5 f6 f10 f11 k s = [⟨Rect.unit (s := S128x64x128) (k0_off2 k 1#32) S1x64x128.size (k0_off2_inb k 1), suP (blk1 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 0#32) S1x64x128.size (k0_off2_inb k 0), suP (blk0 c arg0 arg1 arg2 arg5 arg6 arg7 arg8 arg9 arg10 arg11 arg14 arg15 arg16 arg17 arg18 f0 f1 f2 f5 f6 f7 f8 f9 f10 f11 k s)⟩] := by
  unfold trip.sl.H14_2; rw [su1_eq, h14_1]; rfl

/-- The rows written to scratch buffer 15 by beings 0 to 1. -/
theorem h15_2 : @trip.sl.H15_2 F _ c arg14 arg15 arg16 arg17 arg18 k s = [⟨Rect.unit (s := S5x128x128) (k0_off3 k 1#32) S5x1x128.size (k0_off3_inb k 1), wP (blk1 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 0#32) S5x1x128.size (k0_off3_inb k 0), wP (blk0 c arg0 arg1 arg2 arg5 arg6 arg7 arg8 arg9 arg10 arg11 arg14 arg15 arg16 arg17 arg18 f0 f1 f2 f5 f6 f7 f8 f9 f10 f11 k s)⟩] := by
  unfold trip.sl.H15_2; rw [w1_eq, h15_1]; rfl

/-- The rows written to scratch buffer 16 by beings 0 to 1. -/
theorem h16_2 : @trip.sl.H16_2 F _ c arg14 arg15 arg16 arg17 arg18 k s = [⟨Rect.unit (s := S128x128) (k0_off4 k 1#32) S1x128.size (k0_off4_inb k 1), baseP (blk1 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 0#32) S1x128.size (k0_off4_inb k 0), baseP (blk0 c arg0 arg1 arg2 arg5 arg6 arg7 arg8 arg9 arg10 arg11 arg14 arg15 arg16 arg17 arg18 f0 f1 f2 f5 f6 f7 f8 f9 f10 f11 k s)⟩] := by
  unfold trip.sl.H16_2; rw [bf1_eq, h16_1]; rfl

/-- The blocks of being 2 are read after the rows of the beings before it. -/
theorem blk2_eq : (blk c arg0 arg1 arg2 arg5 arg6 arg7 arg8 arg9 arg10 arg11 arg14 arg15 arg16 arg17 arg18 f0 f1 f2 f5 f6 f7 f8 f9 f10 f11 k 2 s.2.2.2.1 s.2.2.2.2 (arg14.view.writes (Elt F) s.1 (@trip.sl.H14_2 F _ c arg0 arg1 arg2 arg5 arg6 arg10 arg11 arg14 arg15 arg16 arg17 arg18 f0 f1 f2 f5 f6 f10 f11 k s)) (arg15.view.writes (Elt F) s.2.1 (@trip.sl.H15_2 F _ c arg14 arg15 arg16 arg17 arg18 k s)) (arg16.view.writes (Elt F) s.2.2.1 (@trip.sl.H16_2 F _ c arg14 arg15 arg16 arg17 arg18 k s))) = (blk2 c arg0 arg1 arg2 arg5 arg6 arg7 arg8 arg9 arg10 arg11 arg14 arg15 arg16 arg17 arg18 f0 f1 f2 f5 f6 f7 f8 f9 f10 f11 k s) := by
  rw [h14_2, h15_2, h16_2]; rfl

/-- The five weights of being 2. -/
theorem w2_eq : @trip.sl.r_68 F _ c arg14 arg15 arg16 arg17 arg18 s = wV (blk2 c arg0 arg1 arg2 arg5 arg6 arg7 arg8 arg9 arg10 arg11 arg14 arg15 arg16 arg17 arg18 f0 f1 f2 f5 f6 f7 f8 f9 f10 f11 k s) :=
  Eq.trans (b := wV (blk c arg0 arg1 arg2 arg5 arg6 arg7 arg8 arg9 arg10 arg11 arg14 arg15 arg16 arg17 arg18 f0 f1 f2 f5 f6 f7 f8 f9 f10 f11 k 2 s.2.2.2.1 s.2.2.2.2 (arg14.view.writes (Elt F) s.1 (@trip.sl.H14_2 F _ c arg0 arg1 arg2 arg5 arg6 arg10 arg11 arg14 arg15 arg16 arg17 arg18 f0 f1 f2 f5 f6 f10 f11 k s)) (arg15.view.writes (Elt F) s.2.1 (@trip.sl.H15_2 F _ c arg14 arg15 arg16 arg17 arg18 k s)) (arg16.view.writes (Elt F) s.2.2.1 (@trip.sl.H16_2 F _ c arg14 arg15 arg16 arg17 arg18 k s)))) (by rfl) (congrArg _ (blk2_eq c arg0 arg1 arg2 arg5 arg6 arg7 arg8 arg9 arg10 arg11 arg14 arg15 arg16 arg17 arg18 f0 f1 f2 f5 f6 f7 f8 f9 f10 f11 k s))

/-- The position of being 2. -/
theorem bf2_eq : @trip.sl.r_66 F _ c arg14 arg15 arg16 arg17 arg18 s = baseF (blk2 c arg0 arg1 arg2 arg5 arg6 arg7 arg8 arg9 arg10 arg11 arg14 arg15 arg16 arg17 arg18 f0 f1 f2 f5 f6 f7 f8 f9 f10 f11 k s) :=
  Eq.trans (b := baseF (blk c arg0 arg1 arg2 arg5 arg6 arg7 arg8 arg9 arg10 arg11 arg14 arg15 arg16 arg17 arg18 f0 f1 f2 f5 f6 f7 f8 f9 f10 f11 k 2 s.2.2.2.1 s.2.2.2.2 (arg14.view.writes (Elt F) s.1 (@trip.sl.H14_2 F _ c arg0 arg1 arg2 arg5 arg6 arg10 arg11 arg14 arg15 arg16 arg17 arg18 f0 f1 f2 f5 f6 f10 f11 k s)) (arg15.view.writes (Elt F) s.2.1 (@trip.sl.H15_2 F _ c arg14 arg15 arg16 arg17 arg18 k s)) (arg16.view.writes (Elt F) s.2.2.1 (@trip.sl.H16_2 F _ c arg14 arg15 arg16 arg17 arg18 k s)))) (by rfl) (congrArg _ (blk2_eq c arg0 arg1 arg2 arg5 arg6 arg7 arg8 arg9 arg10 arg11 arg14 arg15 arg16 arg17 arg18 f0 f1 f2 f5 f6 f7 f8 f9 f10 f11 k s))

set_option maxHeartbeats 2000000 in
/-- The new hidden state of being 2. -/
theorem su2_eq : @trip.sl.r_91 F _ c arg0 arg1 arg2 arg5 arg6 arg10 arg11 arg14 arg15 arg16 arg17 arg18 f0 f1 f2 f5 f6 f10 f11 k s = hidP (blk2 c arg0 arg1 arg2 arg5 arg6 arg7 arg8 arg9 arg10 arg11 arg14 arg15 arg16 arg17 arg18 f0 f1 f2 f5 f6 f7 f8 f9 f10 f11 k s) :=
  Eq.trans (b := hidP (blk c arg0 arg1 arg2 arg5 arg6 arg7 arg8 arg9 arg10 arg11 arg14 arg15 arg16 arg17 arg18 f0 f1 f2 f5 f6 f7 f8 f9 f10 f11 k 2 s.2.2.2.1 s.2.2.2.2 (arg14.view.writes (Elt F) s.1 (@trip.sl.H14_2 F _ c arg0 arg1 arg2 arg5 arg6 arg10 arg11 arg14 arg15 arg16 arg17 arg18 f0 f1 f2 f5 f6 f10 f11 k s)) (arg15.view.writes (Elt F) s.2.1 (@trip.sl.H15_2 F _ c arg14 arg15 arg16 arg17 arg18 k s)) (arg16.view.writes (Elt F) s.2.2.1 (@trip.sl.H16_2 F _ c arg14 arg15 arg16 arg17 arg18 k s)))) (by rfl) (congrArg _ (blk2_eq c arg0 arg1 arg2 arg5 arg6 arg7 arg8 arg9 arg10 arg11 arg14 arg15 arg16 arg17 arg18 f0 f1 f2 f5 f6 f7 f8 f9 f10 f11 k s))

/-- The rows written to scratch buffer 14 by beings 0 to 2. -/
theorem h14_3 : @trip.sl.H14_3 F _ c arg0 arg1 arg2 arg5 arg6 arg10 arg11 arg14 arg15 arg16 arg17 arg18 f0 f1 f2 f5 f6 f10 f11 k s = [⟨Rect.unit (s := S128x64x128) (k0_off2 k 2#32) S1x64x128.size (k0_off2_inb k 2), suP (blk2 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 1#32) S1x64x128.size (k0_off2_inb k 1), suP (blk1 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 0#32) S1x64x128.size (k0_off2_inb k 0), suP (blk0 c arg0 arg1 arg2 arg5 arg6 arg7 arg8 arg9 arg10 arg11 arg14 arg15 arg16 arg17 arg18 f0 f1 f2 f5 f6 f7 f8 f9 f10 f11 k s)⟩] := by
  unfold trip.sl.H14_3; rw [su2_eq, h14_2]; rfl

/-- The rows written to scratch buffer 15 by beings 0 to 2. -/
theorem h15_3 : @trip.sl.H15_3 F _ c arg14 arg15 arg16 arg17 arg18 k s = [⟨Rect.unit (s := S5x128x128) (k0_off3 k 2#32) S5x1x128.size (k0_off3_inb k 2), wP (blk2 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 1#32) S5x1x128.size (k0_off3_inb k 1), wP (blk1 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 0#32) S5x1x128.size (k0_off3_inb k 0), wP (blk0 c arg0 arg1 arg2 arg5 arg6 arg7 arg8 arg9 arg10 arg11 arg14 arg15 arg16 arg17 arg18 f0 f1 f2 f5 f6 f7 f8 f9 f10 f11 k s)⟩] := by
  unfold trip.sl.H15_3; rw [w2_eq, h15_2]; rfl

/-- The rows written to scratch buffer 16 by beings 0 to 2. -/
theorem h16_3 : @trip.sl.H16_3 F _ c arg14 arg15 arg16 arg17 arg18 k s = [⟨Rect.unit (s := S128x128) (k0_off4 k 2#32) S1x128.size (k0_off4_inb k 2), baseP (blk2 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 1#32) S1x128.size (k0_off4_inb k 1), baseP (blk1 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 0#32) S1x128.size (k0_off4_inb k 0), baseP (blk0 c arg0 arg1 arg2 arg5 arg6 arg7 arg8 arg9 arg10 arg11 arg14 arg15 arg16 arg17 arg18 f0 f1 f2 f5 f6 f7 f8 f9 f10 f11 k s)⟩] := by
  unfold trip.sl.H16_3; rw [bf2_eq, h16_2]; rfl

/-- The blocks of being 3 are read after the rows of the beings before it. -/
theorem blk3_eq : (blk c arg0 arg1 arg2 arg5 arg6 arg7 arg8 arg9 arg10 arg11 arg14 arg15 arg16 arg17 arg18 f0 f1 f2 f5 f6 f7 f8 f9 f10 f11 k 3 s.2.2.2.1 s.2.2.2.2 (arg14.view.writes (Elt F) s.1 (@trip.sl.H14_3 F _ c arg0 arg1 arg2 arg5 arg6 arg10 arg11 arg14 arg15 arg16 arg17 arg18 f0 f1 f2 f5 f6 f10 f11 k s)) (arg15.view.writes (Elt F) s.2.1 (@trip.sl.H15_3 F _ c arg14 arg15 arg16 arg17 arg18 k s)) (arg16.view.writes (Elt F) s.2.2.1 (@trip.sl.H16_3 F _ c arg14 arg15 arg16 arg17 arg18 k s))) = (blk3 c arg0 arg1 arg2 arg5 arg6 arg7 arg8 arg9 arg10 arg11 arg14 arg15 arg16 arg17 arg18 f0 f1 f2 f5 f6 f7 f8 f9 f10 f11 k s) := by
  rw [h14_3, h15_3, h16_3]; rfl

/-- The five weights of being 3. -/
theorem w3_eq : @trip.sl.r_103 F _ c arg14 arg15 arg16 arg17 arg18 s = wV (blk3 c arg0 arg1 arg2 arg5 arg6 arg7 arg8 arg9 arg10 arg11 arg14 arg15 arg16 arg17 arg18 f0 f1 f2 f5 f6 f7 f8 f9 f10 f11 k s) :=
  Eq.trans (b := wV (blk c arg0 arg1 arg2 arg5 arg6 arg7 arg8 arg9 arg10 arg11 arg14 arg15 arg16 arg17 arg18 f0 f1 f2 f5 f6 f7 f8 f9 f10 f11 k 3 s.2.2.2.1 s.2.2.2.2 (arg14.view.writes (Elt F) s.1 (@trip.sl.H14_3 F _ c arg0 arg1 arg2 arg5 arg6 arg10 arg11 arg14 arg15 arg16 arg17 arg18 f0 f1 f2 f5 f6 f10 f11 k s)) (arg15.view.writes (Elt F) s.2.1 (@trip.sl.H15_3 F _ c arg14 arg15 arg16 arg17 arg18 k s)) (arg16.view.writes (Elt F) s.2.2.1 (@trip.sl.H16_3 F _ c arg14 arg15 arg16 arg17 arg18 k s)))) (by rfl) (congrArg _ (blk3_eq c arg0 arg1 arg2 arg5 arg6 arg7 arg8 arg9 arg10 arg11 arg14 arg15 arg16 arg17 arg18 f0 f1 f2 f5 f6 f7 f8 f9 f10 f11 k s))

/-- The position of being 3. -/
theorem bf3_eq : @trip.sl.r_100 F _ c arg14 arg15 arg16 arg17 arg18 s = baseF (blk3 c arg0 arg1 arg2 arg5 arg6 arg7 arg8 arg9 arg10 arg11 arg14 arg15 arg16 arg17 arg18 f0 f1 f2 f5 f6 f7 f8 f9 f10 f11 k s) :=
  Eq.trans (b := baseF (blk c arg0 arg1 arg2 arg5 arg6 arg7 arg8 arg9 arg10 arg11 arg14 arg15 arg16 arg17 arg18 f0 f1 f2 f5 f6 f7 f8 f9 f10 f11 k 3 s.2.2.2.1 s.2.2.2.2 (arg14.view.writes (Elt F) s.1 (@trip.sl.H14_3 F _ c arg0 arg1 arg2 arg5 arg6 arg10 arg11 arg14 arg15 arg16 arg17 arg18 f0 f1 f2 f5 f6 f10 f11 k s)) (arg15.view.writes (Elt F) s.2.1 (@trip.sl.H15_3 F _ c arg14 arg15 arg16 arg17 arg18 k s)) (arg16.view.writes (Elt F) s.2.2.1 (@trip.sl.H16_3 F _ c arg14 arg15 arg16 arg17 arg18 k s)))) (by rfl) (congrArg _ (blk3_eq c arg0 arg1 arg2 arg5 arg6 arg7 arg8 arg9 arg10 arg11 arg14 arg15 arg16 arg17 arg18 f0 f1 f2 f5 f6 f7 f8 f9 f10 f11 k s))

set_option maxHeartbeats 2000000 in
/-- The new hidden state of being 3. -/
theorem su3_eq : @trip.sl.r_125 F _ c arg0 arg1 arg2 arg5 arg6 arg10 arg11 arg14 arg15 arg16 arg17 arg18 f0 f1 f2 f5 f6 f10 f11 k s = hidP (blk3 c arg0 arg1 arg2 arg5 arg6 arg7 arg8 arg9 arg10 arg11 arg14 arg15 arg16 arg17 arg18 f0 f1 f2 f5 f6 f7 f8 f9 f10 f11 k s) :=
  Eq.trans (b := hidP (blk c arg0 arg1 arg2 arg5 arg6 arg7 arg8 arg9 arg10 arg11 arg14 arg15 arg16 arg17 arg18 f0 f1 f2 f5 f6 f7 f8 f9 f10 f11 k 3 s.2.2.2.1 s.2.2.2.2 (arg14.view.writes (Elt F) s.1 (@trip.sl.H14_3 F _ c arg0 arg1 arg2 arg5 arg6 arg10 arg11 arg14 arg15 arg16 arg17 arg18 f0 f1 f2 f5 f6 f10 f11 k s)) (arg15.view.writes (Elt F) s.2.1 (@trip.sl.H15_3 F _ c arg14 arg15 arg16 arg17 arg18 k s)) (arg16.view.writes (Elt F) s.2.2.1 (@trip.sl.H16_3 F _ c arg14 arg15 arg16 arg17 arg18 k s)))) (by rfl) (congrArg _ (blk3_eq c arg0 arg1 arg2 arg5 arg6 arg7 arg8 arg9 arg10 arg11 arg14 arg15 arg16 arg17 arg18 f0 f1 f2 f5 f6 f7 f8 f9 f10 f11 k s))

/-- The rows written to scratch buffer 14 by beings 0 to 3. -/
theorem h14_4 : @trip.sl.H14_4 F _ c arg0 arg1 arg2 arg5 arg6 arg10 arg11 arg14 arg15 arg16 arg17 arg18 f0 f1 f2 f5 f6 f10 f11 k s = [⟨Rect.unit (s := S128x64x128) (k0_off2 k 3#32) S1x64x128.size (k0_off2_inb k 3), suP (blk3 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 2#32) S1x64x128.size (k0_off2_inb k 2), suP (blk2 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 1#32) S1x64x128.size (k0_off2_inb k 1), suP (blk1 c arg0 arg1 arg2 arg5 arg6 arg7 arg8 arg9 arg10 arg11 arg14 arg15 arg16 arg17 arg18 f0 f1 f2 f5 f6 f7 f8 f9 f10 f11 k s)⟩,
       ⟨Rect.unit (s := S128x64x128) (k0_off2 k 0#32) S1x64x128.size (k0_off2_inb k 0), suP (blk0 c arg0 arg1 arg2 arg5 arg6 arg7 arg8 arg9 arg10 arg11 arg14 arg15 arg16 arg17 arg18 f0 f1 f2 f5 f6 f7 f8 f9 f10 f11 k s)⟩] := by
  unfold trip.sl.H14_4; rw [su3_eq, h14_3]; rfl

/-- The rows written to scratch buffer 15 by beings 0 to 3. -/
theorem h15_4 : @trip.sl.H15_4 F _ c arg14 arg15 arg16 arg17 arg18 k s = [⟨Rect.unit (s := S5x128x128) (k0_off3 k 3#32) S5x1x128.size (k0_off3_inb k 3), wP (blk3 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 2#32) S5x1x128.size (k0_off3_inb k 2), wP (blk2 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 1#32) S5x1x128.size (k0_off3_inb k 1), wP (blk1 c arg0 arg1 arg2 arg5 arg6 arg7 arg8 arg9 arg10 arg11 arg14 arg15 arg16 arg17 arg18 f0 f1 f2 f5 f6 f7 f8 f9 f10 f11 k s)⟩,
       ⟨Rect.unit (s := S5x128x128) (k0_off3 k 0#32) S5x1x128.size (k0_off3_inb k 0), wP (blk0 c arg0 arg1 arg2 arg5 arg6 arg7 arg8 arg9 arg10 arg11 arg14 arg15 arg16 arg17 arg18 f0 f1 f2 f5 f6 f7 f8 f9 f10 f11 k s)⟩] := by
  unfold trip.sl.H15_4; rw [w3_eq, h15_3]; rfl

/-- The rows written to scratch buffer 16 by beings 0 to 3. -/
theorem h16_4 : @trip.sl.H16_4 F _ c arg14 arg15 arg16 arg17 arg18 k s = [⟨Rect.unit (s := S128x128) (k0_off4 k 3#32) S1x128.size (k0_off4_inb k 3), baseP (blk3 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 2#32) S1x128.size (k0_off4_inb k 2), baseP (blk2 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 1#32) S1x128.size (k0_off4_inb k 1), baseP (blk1 c arg0 arg1 arg2 arg5 arg6 arg7 arg8 arg9 arg10 arg11 arg14 arg15 arg16 arg17 arg18 f0 f1 f2 f5 f6 f7 f8 f9 f10 f11 k s)⟩,
       ⟨Rect.unit (s := S128x128) (k0_off4 k 0#32) S1x128.size (k0_off4_inb k 0), baseP (blk0 c arg0 arg1 arg2 arg5 arg6 arg7 arg8 arg9 arg10 arg11 arg14 arg15 arg16 arg17 arg18 f0 f1 f2 f5 f6 f7 f8 f9 f10 f11 k s)⟩] := by
  unfold trip.sl.H16_4; rw [bf3_eq, h16_3]; rfl

set_option maxHeartbeats 2000000 in
/-- The new hidden state of being 2, as it enters the output. -/
theorem sv2_eq : @trip.sl.r_90 F _ c arg0 arg1 arg2 arg5 arg6 arg10 arg11 arg14 arg15 arg16 arg17 arg18 f0 f1 f2 f5 f6 f10 f11 k s = suV (blk2 c arg0 arg1 arg2 arg5 arg6 arg7 arg8 arg9 arg10 arg11 arg14 arg15 arg16 arg17 arg18 f0 f1 f2 f5 f6 f7 f8 f9 f10 f11 k s) :=
  Eq.trans (b := suV (blk c arg0 arg1 arg2 arg5 arg6 arg7 arg8 arg9 arg10 arg11 arg14 arg15 arg16 arg17 arg18 f0 f1 f2 f5 f6 f7 f8 f9 f10 f11 k 2 s.2.2.2.1 s.2.2.2.2 (arg14.view.writes (Elt F) s.1 (@trip.sl.H14_2 F _ c arg0 arg1 arg2 arg5 arg6 arg10 arg11 arg14 arg15 arg16 arg17 arg18 f0 f1 f2 f5 f6 f10 f11 k s)) (arg15.view.writes (Elt F) s.2.1 (@trip.sl.H15_2 F _ c arg14 arg15 arg16 arg17 arg18 k s)) (arg16.view.writes (Elt F) s.2.2.1 (@trip.sl.H16_2 F _ c arg14 arg15 arg16 arg17 arg18 k s)))) (by rfl) (congrArg _ (blk2_eq c arg0 arg1 arg2 arg5 arg6 arg7 arg8 arg9 arg10 arg11 arg14 arg15 arg16 arg17 arg18 f0 f1 f2 f5 f6 f7 f8 f9 f10 f11 k s))

set_option maxHeartbeats 2000000 in
/-- The new hidden state of being 3, as it enters the output. -/
theorem sv3_eq : @trip.sl.r_124 F _ c arg0 arg1 arg2 arg5 arg6 arg10 arg11 arg14 arg15 arg16 arg17 arg18 f0 f1 f2 f5 f6 f10 f11 k s = suV (blk3 c arg0 arg1 arg2 arg5 arg6 arg7 arg8 arg9 arg10 arg11 arg14 arg15 arg16 arg17 arg18 f0 f1 f2 f5 f6 f7 f8 f9 f10 f11 k s) :=
  Eq.trans (b := suV (blk c arg0 arg1 arg2 arg5 arg6 arg7 arg8 arg9 arg10 arg11 arg14 arg15 arg16 arg17 arg18 f0 f1 f2 f5 f6 f7 f8 f9 f10 f11 k 3 s.2.2.2.1 s.2.2.2.2 (arg14.view.writes (Elt F) s.1 (@trip.sl.H14_3 F _ c arg0 arg1 arg2 arg5 arg6 arg10 arg11 arg14 arg15 arg16 arg17 arg18 f0 f1 f2 f5 f6 f10 f11 k s)) (arg15.view.writes (Elt F) s.2.1 (@trip.sl.H15_3 F _ c arg14 arg15 arg16 arg17 arg18 k s)) (arg16.view.writes (Elt F) s.2.2.1 (@trip.sl.H16_3 F _ c arg14 arg15 arg16 arg17 arg18 k s)))) (by rfl) (congrArg _ (blk3_eq c arg0 arg1 arg2 arg5 arg6 arg7 arg8 arg9 arg10 arg11 arg14 arg15 arg16 arg17 arg18 f0 f1 f2 f5 f6 f7 f8 f9 f10 f11 k s))

set_option maxHeartbeats 2000000 in
/-- The rows written to scratch buffer 17 by beings 0 to 0. -/
theorem h17_1 : @trip.sl.H17_1 F _ c arg0 arg1 arg2 arg5 arg6 arg7 arg8 arg9 arg10 arg11 arg14 arg15 arg16 arg17 arg18 ioP f0 f1 f2 f5 f6 f7 f8 f9 f10 f11 k s = [⟨Rect.unit (s := S4x128) ![0, 0] S1x128.size (inb17 0), ptrN (blk0 c arg0 arg1 arg2 arg5 arg6 arg7 arg8 arg9 arg10 arg11 arg14 arg15 arg16 arg17 arg18 f0 f1 f2 f5 f6 f7 f8 f9 f10 f11 k s)⟩] := by
  unfold trip.sl.H17_1
  refine congrArg₂ List.cons (congrArg (Sigma.mk (Rect.unit (s := S4x128) ![0, 0] S1x128.size (inb17 0)))
    (Eq.trans (b := ptrN (blk0 c arg0 arg1 arg2 arg5 arg6 arg7 arg8 arg9 arg10 arg11 arg14 arg15 arg16 arg17 arg18 f0 f1 f2 f5 f6 f7 f8 f9 f10 f11 k s)) ?_ rfl)) rfl
  rfl

set_option maxHeartbeats 2000000 in
/-- The rows written to scratch buffer 18 by beings 0 to 0. -/
theorem h18_1 : @trip.sl.H18_1 F _ c arg0 arg1 arg2 arg5 arg6 arg10 arg11 arg14 arg15 arg16 arg17 arg18 f0 f1 f2 f5 f6 f10 f11 k s = [⟨Rect.unit (s := S4x64x128) ![0, 0, 0] S1x64x128.size (inb18 0), hidP (blk0 c arg0 arg1 arg2 arg5 arg6 arg7 arg8 arg9 arg10 arg11 arg14 arg15 arg16 arg17 arg18 f0 f1 f2 f5 f6 f7 f8 f9 f10 f11 k s)⟩] := by
  unfold trip.sl.H18_1
  refine congrArg₂ List.cons (congrArg (Sigma.mk (Rect.unit (s := S4x64x128) ![0, 0, 0] S1x64x128.size (inb18 0)))
    (Eq.trans (b := hidP (blk0 c arg0 arg1 arg2 arg5 arg6 arg7 arg8 arg9 arg10 arg11 arg14 arg15 arg16 arg17 arg18 f0 f1 f2 f5 f6 f7 f8 f9 f10 f11 k s)) ?_ rfl)) rfl
  rfl

set_option maxHeartbeats 2000000 in
/-- The rows written to scratch buffer 17 by beings 0 to 1. -/
theorem h17_2 : @trip.sl.H17_2 F _ c arg0 arg1 arg2 arg5 arg6 arg7 arg8 arg9 arg10 arg11 arg14 arg15 arg16 arg17 arg18 ioP f0 f1 f2 f5 f6 f7 f8 f9 f10 f11 k s = [⟨Rect.unit (s := S4x128) ![1, 0] S1x128.size (inb17 1), ptrN (blk1 c arg0 arg1 arg2 arg5 arg6 arg7 arg8 arg9 arg10 arg11 arg14 arg15 arg16 arg17 arg18 f0 f1 f2 f5 f6 f7 f8 f9 f10 f11 k s)⟩,
       ⟨Rect.unit (s := S4x128) ![0, 0] S1x128.size (inb17 0), ptrN (blk0 c arg0 arg1 arg2 arg5 arg6 arg7 arg8 arg9 arg10 arg11 arg14 arg15 arg16 arg17 arg18 f0 f1 f2 f5 f6 f7 f8 f9 f10 f11 k s)⟩] := by
  unfold trip.sl.H17_2; rw [h17_1]
  refine congrArg₂ List.cons (congrArg (Sigma.mk (Rect.unit (s := S4x128) ![1, 0] S1x128.size (inb17 1)))
    (Eq.trans (b := ptrN (blk c arg0 arg1 arg2 arg5 arg6 arg7 arg8 arg9 arg10 arg11 arg14 arg15 arg16 arg17 arg18 f0 f1 f2 f5 f6 f7 f8 f9 f10 f11 k 1 s.2.2.2.1 s.2.2.2.2 (arg14.view.writes (Elt F) s.1 (@trip.sl.H14_1 F _ c arg0 arg1 arg2 arg5 arg6 arg10 arg11 arg14 arg15 arg16 arg17 arg18 f0 f1 f2 f5 f6 f10 f11 k s)) (arg15.view.writes (Elt F) s.2.1 (@trip.sl.H15_1 F _ c arg14 arg15 arg16 arg17 arg18 k s)) (arg16.view.writes (Elt F) s.2.2.1 (@trip.sl.H16_1 F _ c arg14 arg15 arg16 arg17 arg18 k s)))) ?_ (congrArg _ (blk1_eq c arg0 arg1 arg2 arg5 arg6 arg7 arg8 arg9 arg10 arg11 arg14 arg15 arg16 arg17 arg18 f0 f1 f2 f5 f6 f7 f8 f9 f10 f11 k s)))) rfl
  rfl

set_option maxHeartbeats 2000000 in
/-- The rows written to scratch buffer 18 by beings 0 to 1. -/
theorem h18_2 : @trip.sl.H18_2 F _ c arg0 arg1 arg2 arg5 arg6 arg10 arg11 arg14 arg15 arg16 arg17 arg18 f0 f1 f2 f5 f6 f10 f11 k s = [⟨Rect.unit (s := S4x64x128) ![1, 0, 0] S1x64x128.size (inb18 1), hidP (blk1 c arg0 arg1 arg2 arg5 arg6 arg7 arg8 arg9 arg10 arg11 arg14 arg15 arg16 arg17 arg18 f0 f1 f2 f5 f6 f7 f8 f9 f10 f11 k s)⟩,
       ⟨Rect.unit (s := S4x64x128) ![0, 0, 0] S1x64x128.size (inb18 0), hidP (blk0 c arg0 arg1 arg2 arg5 arg6 arg7 arg8 arg9 arg10 arg11 arg14 arg15 arg16 arg17 arg18 f0 f1 f2 f5 f6 f7 f8 f9 f10 f11 k s)⟩] := by
  unfold trip.sl.H18_2; rw [h18_1]
  refine congrArg₂ List.cons (congrArg (Sigma.mk (Rect.unit (s := S4x64x128) ![1, 0, 0] S1x64x128.size (inb18 1)))
    (Eq.trans (b := hidP (blk c arg0 arg1 arg2 arg5 arg6 arg7 arg8 arg9 arg10 arg11 arg14 arg15 arg16 arg17 arg18 f0 f1 f2 f5 f6 f7 f8 f9 f10 f11 k 1 s.2.2.2.1 s.2.2.2.2 (arg14.view.writes (Elt F) s.1 (@trip.sl.H14_1 F _ c arg0 arg1 arg2 arg5 arg6 arg10 arg11 arg14 arg15 arg16 arg17 arg18 f0 f1 f2 f5 f6 f10 f11 k s)) (arg15.view.writes (Elt F) s.2.1 (@trip.sl.H15_1 F _ c arg14 arg15 arg16 arg17 arg18 k s)) (arg16.view.writes (Elt F) s.2.2.1 (@trip.sl.H16_1 F _ c arg14 arg15 arg16 arg17 arg18 k s)))) ?_ (congrArg _ (blk1_eq c arg0 arg1 arg2 arg5 arg6 arg7 arg8 arg9 arg10 arg11 arg14 arg15 arg16 arg17 arg18 f0 f1 f2 f5 f6 f7 f8 f9 f10 f11 k s)))) rfl
  rfl

set_option maxHeartbeats 2000000 in
/-- The rows written to scratch buffer 17 by beings 0 to 2. -/
theorem h17_3 : @trip.sl.H17_3 F _ c arg0 arg1 arg2 arg5 arg6 arg7 arg8 arg9 arg10 arg11 arg14 arg15 arg16 arg17 arg18 ioP f0 f1 f2 f5 f6 f7 f8 f9 f10 f11 k s = [⟨Rect.unit (s := S4x128) ![2, 0] S1x128.size (inb17 2), ptrN (blk2 c arg0 arg1 arg2 arg5 arg6 arg7 arg8 arg9 arg10 arg11 arg14 arg15 arg16 arg17 arg18 f0 f1 f2 f5 f6 f7 f8 f9 f10 f11 k s)⟩,
       ⟨Rect.unit (s := S4x128) ![1, 0] S1x128.size (inb17 1), ptrN (blk1 c arg0 arg1 arg2 arg5 arg6 arg7 arg8 arg9 arg10 arg11 arg14 arg15 arg16 arg17 arg18 f0 f1 f2 f5 f6 f7 f8 f9 f10 f11 k s)⟩,
       ⟨Rect.unit (s := S4x128) ![0, 0] S1x128.size (inb17 0), ptrN (blk0 c arg0 arg1 arg2 arg5 arg6 arg7 arg8 arg9 arg10 arg11 arg14 arg15 arg16 arg17 arg18 f0 f1 f2 f5 f6 f7 f8 f9 f10 f11 k s)⟩] := by
  unfold trip.sl.H17_3; rw [h17_2]
  refine congrArg₂ List.cons (congrArg (Sigma.mk (Rect.unit (s := S4x128) ![2, 0] S1x128.size (inb17 2)))
    (Eq.trans (b := ptrN (blk c arg0 arg1 arg2 arg5 arg6 arg7 arg8 arg9 arg10 arg11 arg14 arg15 arg16 arg17 arg18 f0 f1 f2 f5 f6 f7 f8 f9 f10 f11 k 2 s.2.2.2.1 s.2.2.2.2 (arg14.view.writes (Elt F) s.1 (@trip.sl.H14_2 F _ c arg0 arg1 arg2 arg5 arg6 arg10 arg11 arg14 arg15 arg16 arg17 arg18 f0 f1 f2 f5 f6 f10 f11 k s)) (arg15.view.writes (Elt F) s.2.1 (@trip.sl.H15_2 F _ c arg14 arg15 arg16 arg17 arg18 k s)) (arg16.view.writes (Elt F) s.2.2.1 (@trip.sl.H16_2 F _ c arg14 arg15 arg16 arg17 arg18 k s)))) ?_ (congrArg _ (blk2_eq c arg0 arg1 arg2 arg5 arg6 arg7 arg8 arg9 arg10 arg11 arg14 arg15 arg16 arg17 arg18 f0 f1 f2 f5 f6 f7 f8 f9 f10 f11 k s)))) rfl
  rfl

set_option maxHeartbeats 2000000 in
/-- The rows written to scratch buffer 18 by beings 0 to 2. -/
theorem h18_3 : @trip.sl.H18_3 F _ c arg0 arg1 arg2 arg5 arg6 arg10 arg11 arg14 arg15 arg16 arg17 arg18 f0 f1 f2 f5 f6 f10 f11 k s = [⟨Rect.unit (s := S4x64x128) ![2, 0, 0] S1x64x128.size (inb18 2), hidP (blk2 c arg0 arg1 arg2 arg5 arg6 arg7 arg8 arg9 arg10 arg11 arg14 arg15 arg16 arg17 arg18 f0 f1 f2 f5 f6 f7 f8 f9 f10 f11 k s)⟩,
       ⟨Rect.unit (s := S4x64x128) ![1, 0, 0] S1x64x128.size (inb18 1), hidP (blk1 c arg0 arg1 arg2 arg5 arg6 arg7 arg8 arg9 arg10 arg11 arg14 arg15 arg16 arg17 arg18 f0 f1 f2 f5 f6 f7 f8 f9 f10 f11 k s)⟩,
       ⟨Rect.unit (s := S4x64x128) ![0, 0, 0] S1x64x128.size (inb18 0), hidP (blk0 c arg0 arg1 arg2 arg5 arg6 arg7 arg8 arg9 arg10 arg11 arg14 arg15 arg16 arg17 arg18 f0 f1 f2 f5 f6 f7 f8 f9 f10 f11 k s)⟩] := by
  unfold trip.sl.H18_3; rw [h18_2]
  refine congrArg₂ List.cons (congrArg (Sigma.mk (Rect.unit (s := S4x64x128) ![2, 0, 0] S1x64x128.size (inb18 2)))
    (Eq.trans (b := hidP (blk c arg0 arg1 arg2 arg5 arg6 arg7 arg8 arg9 arg10 arg11 arg14 arg15 arg16 arg17 arg18 f0 f1 f2 f5 f6 f7 f8 f9 f10 f11 k 2 s.2.2.2.1 s.2.2.2.2 (arg14.view.writes (Elt F) s.1 (@trip.sl.H14_2 F _ c arg0 arg1 arg2 arg5 arg6 arg10 arg11 arg14 arg15 arg16 arg17 arg18 f0 f1 f2 f5 f6 f10 f11 k s)) (arg15.view.writes (Elt F) s.2.1 (@trip.sl.H15_2 F _ c arg14 arg15 arg16 arg17 arg18 k s)) (arg16.view.writes (Elt F) s.2.2.1 (@trip.sl.H16_2 F _ c arg14 arg15 arg16 arg17 arg18 k s)))) ?_ (congrArg _ (blk2_eq c arg0 arg1 arg2 arg5 arg6 arg7 arg8 arg9 arg10 arg11 arg14 arg15 arg16 arg17 arg18 f0 f1 f2 f5 f6 f7 f8 f9 f10 f11 k s)))) rfl
  rfl

set_option maxHeartbeats 2000000 in
/-- The rows written to scratch buffer 17 by beings 0 to 3. -/
theorem h17_4 : @trip.sl.H17_4 F _ c arg0 arg1 arg2 arg5 arg6 arg7 arg8 arg9 arg10 arg11 arg14 arg15 arg16 arg17 arg18 ioP f0 f1 f2 f5 f6 f7 f8 f9 f10 f11 k s = [⟨Rect.unit (s := S4x128) ![3, 0] S1x128.size (inb17 3), ptrN (blk3 c arg0 arg1 arg2 arg5 arg6 arg7 arg8 arg9 arg10 arg11 arg14 arg15 arg16 arg17 arg18 f0 f1 f2 f5 f6 f7 f8 f9 f10 f11 k s)⟩,
       ⟨Rect.unit (s := S4x128) ![2, 0] S1x128.size (inb17 2), ptrN (blk2 c arg0 arg1 arg2 arg5 arg6 arg7 arg8 arg9 arg10 arg11 arg14 arg15 arg16 arg17 arg18 f0 f1 f2 f5 f6 f7 f8 f9 f10 f11 k s)⟩,
       ⟨Rect.unit (s := S4x128) ![1, 0] S1x128.size (inb17 1), ptrN (blk1 c arg0 arg1 arg2 arg5 arg6 arg7 arg8 arg9 arg10 arg11 arg14 arg15 arg16 arg17 arg18 f0 f1 f2 f5 f6 f7 f8 f9 f10 f11 k s)⟩,
       ⟨Rect.unit (s := S4x128) ![0, 0] S1x128.size (inb17 0), ptrN (blk0 c arg0 arg1 arg2 arg5 arg6 arg7 arg8 arg9 arg10 arg11 arg14 arg15 arg16 arg17 arg18 f0 f1 f2 f5 f6 f7 f8 f9 f10 f11 k s)⟩] := by
  unfold trip.sl.H17_4; rw [h17_3]
  refine congrArg₂ List.cons (congrArg (Sigma.mk (Rect.unit (s := S4x128) ![3, 0] S1x128.size (inb17 3)))
    (Eq.trans (b := ptrN (blk c arg0 arg1 arg2 arg5 arg6 arg7 arg8 arg9 arg10 arg11 arg14 arg15 arg16 arg17 arg18 f0 f1 f2 f5 f6 f7 f8 f9 f10 f11 k 3 s.2.2.2.1 s.2.2.2.2 (arg14.view.writes (Elt F) s.1 (@trip.sl.H14_3 F _ c arg0 arg1 arg2 arg5 arg6 arg10 arg11 arg14 arg15 arg16 arg17 arg18 f0 f1 f2 f5 f6 f10 f11 k s)) (arg15.view.writes (Elt F) s.2.1 (@trip.sl.H15_3 F _ c arg14 arg15 arg16 arg17 arg18 k s)) (arg16.view.writes (Elt F) s.2.2.1 (@trip.sl.H16_3 F _ c arg14 arg15 arg16 arg17 arg18 k s)))) ?_ (congrArg _ (blk3_eq c arg0 arg1 arg2 arg5 arg6 arg7 arg8 arg9 arg10 arg11 arg14 arg15 arg16 arg17 arg18 f0 f1 f2 f5 f6 f7 f8 f9 f10 f11 k s)))) rfl
  rfl

set_option maxHeartbeats 2000000 in
/-- The rows written to scratch buffer 18 by beings 0 to 3. -/
theorem h18_4 : @trip.sl.H18_4 F _ c arg0 arg1 arg2 arg5 arg6 arg10 arg11 arg14 arg15 arg16 arg17 arg18 f0 f1 f2 f5 f6 f10 f11 k s = [⟨Rect.unit (s := S4x64x128) ![3, 0, 0] S1x64x128.size (inb18 3), hidP (blk3 c arg0 arg1 arg2 arg5 arg6 arg7 arg8 arg9 arg10 arg11 arg14 arg15 arg16 arg17 arg18 f0 f1 f2 f5 f6 f7 f8 f9 f10 f11 k s)⟩,
       ⟨Rect.unit (s := S4x64x128) ![2, 0, 0] S1x64x128.size (inb18 2), hidP (blk2 c arg0 arg1 arg2 arg5 arg6 arg7 arg8 arg9 arg10 arg11 arg14 arg15 arg16 arg17 arg18 f0 f1 f2 f5 f6 f7 f8 f9 f10 f11 k s)⟩,
       ⟨Rect.unit (s := S4x64x128) ![1, 0, 0] S1x64x128.size (inb18 1), hidP (blk1 c arg0 arg1 arg2 arg5 arg6 arg7 arg8 arg9 arg10 arg11 arg14 arg15 arg16 arg17 arg18 f0 f1 f2 f5 f6 f7 f8 f9 f10 f11 k s)⟩,
       ⟨Rect.unit (s := S4x64x128) ![0, 0, 0] S1x64x128.size (inb18 0), hidP (blk0 c arg0 arg1 arg2 arg5 arg6 arg7 arg8 arg9 arg10 arg11 arg14 arg15 arg16 arg17 arg18 f0 f1 f2 f5 f6 f7 f8 f9 f10 f11 k s)⟩] := by
  unfold trip.sl.H18_4; rw [h18_3]
  refine congrArg₂ List.cons (congrArg (Sigma.mk (Rect.unit (s := S4x64x128) ![3, 0, 0] S1x64x128.size (inb18 3)))
    (Eq.trans (b := hidP (blk c arg0 arg1 arg2 arg5 arg6 arg7 arg8 arg9 arg10 arg11 arg14 arg15 arg16 arg17 arg18 f0 f1 f2 f5 f6 f7 f8 f9 f10 f11 k 3 s.2.2.2.1 s.2.2.2.2 (arg14.view.writes (Elt F) s.1 (@trip.sl.H14_3 F _ c arg0 arg1 arg2 arg5 arg6 arg10 arg11 arg14 arg15 arg16 arg17 arg18 f0 f1 f2 f5 f6 f10 f11 k s)) (arg15.view.writes (Elt F) s.2.1 (@trip.sl.H15_3 F _ c arg14 arg15 arg16 arg17 arg18 k s)) (arg16.view.writes (Elt F) s.2.2.1 (@trip.sl.H16_3 F _ c arg14 arg15 arg16 arg17 arg18 k s)))) ?_ (congrArg _ (blk3_eq c arg0 arg1 arg2 arg5 arg6 arg7 arg8 arg9 arg10 arg11 arg14 arg15 arg16 arg17 arg18 f0 f1 f2 f5 f6 f7 f8 f9 f10 f11 k s)))) rfl
  rfl

set_option maxHeartbeats 2000000 in
/-- The row of outputs of a trip. -/
theorem y_eq : k0_pay8 (@trip.sl.r_130 F _ c arg0 arg1 arg2 arg3 arg5 arg6 arg10 arg11 arg14 arg15 arg16 arg17 arg18 f0 f1 f2 f3 f5 f6 f10 f11 k s) (@trip.sl.r_131 F c arg4 f4) = (tripV c arg0 arg1 arg2 arg3 arg4 arg5 arg6 arg7 arg8 arg9 arg10 arg11 arg14 arg15 arg16 arg17 arg18 f0 f1 f2 f3 f4 f5 f6 f7 f8 f9 f10 f11 k s).1 := by
  unfold trip.sl.r_130 trip.sl.r_126 trip.sl.r_92 trip.sl.r_58 trip.sl.r_28
  rw [su0_eq, su1_eq, sv2_eq, sv3_eq]
  rfl

set_option maxHeartbeats 2000000 in
/-- What the run of a trip leaves is `tripV`. -/
theorem trip_eq (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) :
    (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ioP f0 f1 f2 f3 f4 f5 f6 f7 f8 f9 f10 f11 f12 k s).1 = tripV c arg0 arg1 arg2 arg3 arg4 arg5 arg6 arg7 arg8 arg9 arg10 arg11 arg14 arg15 arg16 arg17 arg18 f0 f1 f2 f3 f4 f5 f6 f7 f8 f9 f10 f11 k s := by
  refine (show _ = (k0_pay8 (@trip.sl.r_130 F _ c arg0 arg1 arg2 arg3 arg5 arg6 arg10 arg11 arg14 arg15 arg16 arg17 arg18 f0 f1 f2 f3 f5 f6 f10 f11 k s) (@trip.sl.r_131 F c arg4 f4),
    arg14.view.writes (Elt F) s.1 (@trip.sl.H14_4 F _ c arg0 arg1 arg2 arg5 arg6 arg10 arg11 arg14 arg15 arg16 arg17 arg18 f0 f1 f2 f5 f6 f10 f11 k s), arg15.view.writes (Elt F) s.2.1 (@trip.sl.H15_4 F _ c arg14 arg15 arg16 arg17 arg18 k s),
    arg16.view.writes (Elt F) s.2.2.1 (@trip.sl.H16_4 F _ c arg14 arg15 arg16 arg17 arg18 k s), arg17.view.writes (Elt F) arg17.view.junk (@trip.sl.H17_4 F _ c arg0 arg1 arg2 arg5 arg6 arg7 arg8 arg9 arg10 arg11 arg14 arg15 arg16 arg17 arg18 ioP f0 f1 f2 f5 f6 f7 f8 f9 f10 f11 k s),
    arg18.view.writes (Elt F) arg18.view.junk (@trip.sl.H18_4 F _ c arg0 arg1 arg2 arg5 arg6 arg10 arg11 arg14 arg15 arg16 arg17 arg18 f0 f1 f2 f5 f6 f10 f11 k s)) from rfl).trans ?_
  rw [y_eq, h14_4, h15_4, h16_4, h17_4, h18_4]
  rfl

end Cert.Proof.KernelIdeal
end
-- ==== Proof.Own.Model.lean ====
module

public import Idealize.ShloMosaic.Lib.Pointwise

@[expose] public section

noncomputable section

/-! What both programs compute for one batch element, over the extended reals: the trajectory of the four pointers, the
    four hidden states and the history of what each step wrote. -/
namespace Cert.Proof.Ring

open Idealize.ShloMosaic

/-- The ring's length. -/
abbrev ringLen : EReal := (((2048#32 : BitVec 32).toInt : ℝ) : EReal)

/-- The remainder modulo the ring's length, of the divisor's sign. -/
def pyS (y : EReal) : EReal :=
  Scalar.select (IntOp.andi (IntOp.xori (BitVec.ofBool (decide (Ideal.remf y ringLen < 0)))
      (BitVec.ofBool (decide (ringLen < 0)))) (BitVec.ofBool (decide (Ideal.remf y ringLen ≠ 0))))
    (Ideal.remf y ringLen + ringLen) (Ideal.remf y ringLen)

/-- The signed circular distance. -/
def circS (y : EReal) : EReal := pyS (y + Ideal.ofBits .f32 0x44800000#32) - Ideal.ofBits .f32 0x44800000#32

/-- The pointer's integer part, clamped to the ring. -/
def baseS (p : EReal) : BitVec 32 :=
  IntOp.minsi 2047#32 (IntOp.maxsi 0#32 ((FloatOps.fptosi (F := Ideal) (φ := .f32) 32 (Ideal.liftRound Int.floor p))))

/-- An integer as an extended real. -/
abbrev intS (v : BitVec 32) : EReal := ((v.toInt : ℝ) : EReal)

theorem toInt_ofNat (n : ℕ) (h : n < 2 ^ 31) : (BitVec.ofNat 32 n).toInt = n := by
  rw [BitVec.toInt_eq_toNat_bmod, BitVec.toNat_ofNat, Int.bmod_def]
  omega

/-- How far neighbour `j` is from the pointer. -/
def deS (p : EReal) (j : Fin 5) : EReal :=
  circS (pyS (intS (baseS p) + (intS (BitVec.ofNat 32 j.val) - Ideal.ofBits .f32 0x40000000#32)) - p)

def lgS (p : EReal) (j : Fin 5) : EReal := Ideal.div (0 - deS p j * deS p j) (Ideal.ofBits .f32 0x41000000#32)

def exS (p : EReal) (j : Fin 5) : EReal :=
  Ideal.exp (lgS p j - Finset.fold max (Ideal.ofBits .f32 0xFF800000#32) (fun x => lgS p x) Finset.univ)

/-- The weight of neighbour `j`. -/
def wS (p : EReal) (j : Fin 5) : EReal := Ideal.div (exS p j) (∑ x, exS p x)

/-- The arguments as one batch element sees them. -/
structure Par where
  x : Fin 32 → Fin 8 → EReal
  iw : Fin 64 → Fin 8 → EReal
  ib : Fin 64 → EReal
  cs : Fin 4 → EReal
  ph : Fin 4 → Fin 64 → EReal
  pw : Fin 64 → Fin 64 → EReal
  pb : Fin 64 → EReal
  jw : Fin 4 → Fin 64 → EReal
  jb : Fin 4 → EReal
  dst : Fin 4 → Fin 2048 → EReal
  ow : Fin 8 → Fin 64 → EReal
  ob : Fin 8 → EReal
  ptr0 : Fin 4 → EReal

/-- The quotient by one plus the exponential of the negated argument. -/
def sigS (x : EReal) : EReal := Ideal.div 1 (1 + Ideal.exp (-x))

/-- The arguments, as batch element `b` sees them. -/
def parOf (a0 : Fin 128 → Fin 32 → Fin 8 → EReal) (a1 : Fin 8 → Fin 64 → EReal) (a2 : Fin 64 → EReal) (a3 : Fin 64 → Fin 8 → EReal)
    (a4 : Fin 8 → EReal) (a5 : Fin 64 → Fin 64 → EReal) (a6 : Fin 64 → EReal) (a7 : Fin 4 → Fin 2048 → EReal)
    (a8 : Fin 4 → Fin 64 → EReal) (a9 a10 : Fin 4 → EReal) (a11 : Fin 4 → Fin 16 → EReal) (a12 : Fin 4 → Fin 128 → EReal)
    (b : Fin 128) : Par where
  x := a0 b
  iw d i := a1 i d
  ib := a2
  cs bi := sigS (a10 bi)
  ph bi d := if h : d.val < 16 then a11 bi ⟨d.val, h⟩ else 0
  pw d y := a5 y d
  pb := a6
  jw := a8
  jb := a9
  dst := a7
  ow o d := a3 d o
  ob := a4
  ptr0 bi := a12 bi b

/-- What one step writes: its position, its five weights, its hidden state. -/
structure Row where
  base : BitVec 32
  w : Fin 5 → EReal
  su : Fin 64 → EReal

/-- The state before a step. -/
structure MS where
  ptr : Fin 4 → EReal
  hid : Fin 4 → Fin 64 → EReal
  hist : ℕ → Row

/-- The float words of `-4 … 4`. -/
def dword (n : ℕ) : BitVec 32 :=
  match n with
  | 0 => 0xC0800000#32
  | 1 => 0xC0400000#32
  | 2 => 0xC0000000#32
  | 3 => 0xBF800000#32
  | 4 => 0x00000000#32
  | 5 => 0x3F800000#32
  | 6 => 0x40000000#32
  | 7 => 0x40400000#32
  | _ => 0x40800000#32

/-- The coefficient with which a pointer reads a written row. -/
def coef (p : EReal) (r : Row) : EReal :=
  ∑ jp : Fin 5, r.w jp * ∑ m : Fin 5,
    if circS (intS (baseS p) - intS r.base) = Ideal.ofBits .f32 (dword (jp.val + 4 - m.val)) then wS p m else 0

/-- What a pointer reads of the rows written before step `s`. -/
def ctxS (h : ℕ → Row) (s : ℕ) (p : EReal) (d : Fin 64) : EReal :=
  ∑ e : Fin 128, if e.val < s then coef p (h e.val) * (h e.val).su d else 0

/-- The new hidden state. -/
def suS (P : Par) (t : Fin 32) (bi : Fin 4) (ctx hid : Fin 64 → EReal) (d : Fin 64) : EReal :=
  Ideal.tanh (∑ y, P.pw d y * Ideal.tanh (∑ i, P.iw y i * P.x t i + P.ib y + P.cs bi * ctx y
    + Ideal.ofBits .f32 0x3DCCCCCD#32 * P.ph bi y + hid y) + P.pb d)

def jumpS (P : Par) (bi : Fin 4) (su : Fin 64 → EReal) : EReal :=
  if Ideal.ofBits .f32 0x3F000000#32 < Ideal.logistic (∑ y, P.jw bi y * su y + P.jb bi) then 1 else 0

def destS (P : Par) (bi : Fin 4) (p : EReal) : EReal :=
  ∑ y : Fin 2048, Scalar.select (IntOp.cmpi .eq (BitVec.ofNat 32 y.val) (baseS p)) (P.dst bi y) 0

/-- The next pointer. -/
def ptrS (P : Par) (bi : Fin 4) (p : EReal) (su : Fin 64 → EReal) : EReal :=
  pyS (jumpS P bi su * destS P bi p + (1 - jumpS P bi su) * pyS (p + 1))

/-- What being `bi` writes at time `t`, of the state before. -/
def rowS (P : Par) (t : Fin 32) (bi : Fin 4) (M : MS) : Row where
  base := baseS (M.ptr bi)
  w := wS (M.ptr bi)
  su := suS P t bi (ctxS M.hist (4 * t.val + bi.val) (M.ptr bi)) (M.hid bi)

/-- One step. -/
def stepM (P : Par) (t : Fin 32) (bi : Fin 4) (M : MS) : MS where
  ptr := Function.update M.ptr bi (ptrS P bi (M.ptr bi) (rowS P t bi M).su)
  hid := Function.update M.hid bi (rowS P t bi M).su
  hist := Function.update M.hist (4 * t.val + bi.val) (rowS P t bi M)

theorem hist_self (P : Par) (t : Fin 32) (bi : Fin 4) (M : MS) : (stepM P t bi M).hist (4 * t.val + bi.val) = rowS P t bi M := by
  simp [stepM]

theorem ptr_self (P : Par) (t : Fin 32) (bi : Fin 4) (M : MS) :
    (stepM P t bi M).ptr bi = ptrS P bi (M.ptr bi) (rowS P t bi M).su := by
  simp [stepM]

theorem hid_self (P : Par) (t : Fin 32) (bi : Fin 4) (M : MS) : (stepM P t bi M).hid bi = (rowS P t bi M).su := by
  simp [stepM]

/-- The state before step `s`. -/
def traj (P : Par) : ℕ → MS
  | 0 => ⟨P.ptr0, fun _ _ => 0, fun _ => ⟨0, fun _ => 0, fun _ => 0⟩⟩
  | s + 1 => stepM P (Fin.ofNat 32 (s / 4)) (Fin.ofNat 4 s) (traj P s)

/-- A step by its time and being. -/
theorem traj_succ (P : Par) (t : Fin 32) (bi : Fin 4) :
    traj P (4 * t.val + bi.val + 1) = stepM P t bi (traj P (4 * t.val + bi.val)) := by
  show stepM P (Fin.ofNat 32 ((4 * t.val + bi.val) / 4)) (Fin.ofNat 4 (4 * t.val + bi.val)) _ = _
  congr 1 <;> apply Fin.ext <;> simp only [Fin.ofNat] <;> omega

/-- The hidden state written at step `s`. -/
def suAt (P : Par) (s : ℕ) : Fin 64 → EReal := ((traj P (s + 1)).hist s).su

theorem suAt_eq (P : Par) (t : Fin 32) (bi : Fin 4) :
    suAt P (4 * t.val + bi.val) = (rowS P t bi (traj P (4 * t.val + bi.val))).su := by
  unfold suAt
  rw [traj_succ, hist_self]

/-- The output at time `t`. -/
def outS (P : Par) (t : Fin 32) (o : Fin 8) : EReal :=
  ∑ y, P.ow o y * ((suAt P (4 * t.val) y + suAt P (4 * t.val + 1) y + suAt P (4 * t.val + 2) y + suAt P (4 * t.val + 3) y)
    * Ideal.ofBits .f32 0x3E800000#32) + P.ob o

end Cert.Proof.Ring

end
-- ==== Proof.Own.KernelIdeal.Elem.lean ====
module

public import proofs.«01_k».proof.Proof.Own.KernelIdeal.Mirror
public import proofs.«01_k».proof.Proof.Own.Model

@[expose] public section

set_option maxRecDepth 16384

noncomputable section

/-! The kernel's functions of the loaded blocks, one batch element at a time. -/
namespace Cert.Proof.KernelIdeal

open Cert.KernelIdeal Cert.KernelIdeal.Gen Cert.Proof.Ring
open Idealize.ShloMosaic Idealize.ShloMosaic.TcCoe Idealize.ShloMosaic.Tactic

/-- The blocks `I`, at batch element `b`, hold the parameters `P` and the state `M` before the step of being `bi` at time `t`. -/
structure Rep (I : Blk Ideal) (P : Par) (M : MS) (t : Fin 32) (bi : Fin 4) (b : Fin 128) : Prop where
  x : ∀ i : Fin 8, I.x (ix3 0 i b) = P.x t i
  iw : ∀ (d : Fin 64) (i : Fin 8), I.iw (ix2 d i) = P.iw d i
  ib : ∀ d : Fin 64, I.ib (ix2 d 0) = P.ib d
  pw : ∀ d y : Fin 64, I.pw (ix3 0 d y) = P.pw d y
  pb : ∀ d : Fin 64, I.pb (ix3 0 d 0) = P.pb d
  cs : I.cs (ix3 0 0 0) = P.cs bi
  ph : ∀ d : Fin 64, I.ph (ix3 0 d 0) = P.ph bi d
  jw : ∀ d : Fin 64, I.jw (ix3 0 d 0) = P.jw bi d
  jb : I.jb (ix3 0 0 0) = P.jb bi
  dst : ∀ y : Fin 2048, I.dst (ix2 y 0) = P.dst bi y
  ptr : I.ptr (ix2 0 b) = M.ptr bi
  hid : ∀ d : Fin 64, I.hid (ix3 0 d b) = M.hid bi d
  su : ∀ (e : Fin 128) (d : Fin 64), e.val < 4 * t.val + bi.val → I.su (ix3 e d b) = (M.hist e.val).su d
  w5 : ∀ (jp : Fin 5) (e : Fin 128), e.val < 4 * t.val + bi.val → I.w5 jp (ix3 0 e b) = (M.hist e.val).w jp
  base : ∀ e : Fin 128, e.val < 4 * t.val + bi.val → I.base (ix2 e b) = intS (M.hist e.val).base
  sw : I.sw.toInt = ((4 * t.val + bi.val : ℕ) : ℤ)

theorem dword_eq (n : ℕ) : KernelIdeal.dword n = Ring.dword n := by
  unfold KernelIdeal.dword Ring.dword; rfl

/-- The sum over the neighbours at a position, term by term. -/
theorem gC_at (dd : FVec Ideal S128x128 .f32) (w : FVec Ideal S5x128 .f32) (jp : ℕ) (e b : Fin 128) (n : ℕ) (h : n ≤ 5) :
    gC (F := Ideal) dd w jp n h (ix2 e b)
      = ∑ m : Fin n, if dd (ix2 e b) = Ideal.ofBits .f32 (Ring.dword (jp + 4 - m.val))
          then w (ix2 ⟨m.val, lt_of_lt_of_le m.isLt h⟩ b) else 0 := by
  induction n with
  | zero => show bc (F := Ideal) S128x128 0x00000000#32 (ix2 e b) = _; pointwise [bc]; simp
  | succ n ih =>
    rw [Fin.sum_univ_castSucc]
    refine (show gC (F := Ideal) dd w jp (n + 1) h (ix2 e b) = gC (F := Ideal) dd w jp n (Nat.le_of_succ_le h) (ix2 e b)
      + (select (cmpf .oeq dd (bc S128x128 (KernelIdeal.dword (jp + 4 - n))))
      (broadcastTo S128x128 (shapeCast S1x128 (row5 w ⟨n, h⟩) shapeCasts_S1x128_S1x128) broadcasts_S1x128_S128x128)
      (bc S128x128 0x00000000#32) : FVec Ideal S128x128 .f32) (ix2 e b) from rfl).trans (congrArg₂ _ (ih _) ?_)
    pointwise [row5, bc]
    rw [dword_eq]
    rfl

/-- The sum over the stored weights at a position, term by term. -/
theorem cC_at (I : Blk Ideal) (e b : Fin 128) (n : ℕ) (h : n ≤ 5) :
    cC (F := Ideal) I n h (ix2 e b)
      = ∑ jp : Fin n, I.w5 ⟨jp.val, lt_of_lt_of_le jp.isLt h⟩ (ix3 0 e b)
          * gC (F := Ideal) (ddV I) (wV I) jp.val 5 (Nat.le_refl 5) (ix2 e b) := by
  induction n with
  | zero => show bc (F := Ideal) S128x128 0x00000000#32 (ix2 e b) = _; pointwise [bc]; simp
  | succ n ih =>
    rw [Fin.sum_univ_castSucc]
    refine (show cC (F := Ideal) I (n + 1) h (ix2 e b) = cC (F := Ideal) I n (Nat.le_of_succ_le h) (ix2 e b)
      + (mulf (shapeCast S128x128 (I.w5 ⟨n, h⟩) shapeCasts_S1x128x128_S128x128)
      (gC (ddV I) (wV I) n 5 (Nat.le_refl 5)) : FVec Ideal S128x128 .f32) (ix2 e b) from rfl).trans (congrArg₂ _ (ih _) ?_)
    pointwise
    rfl

/-- A row's number below the number of rows written, as the kernel compares them. -/
theorem lt_iff (e : Fin 128) (n : ℕ) (w : BitVec 32) (hw : w.toInt = n) :
    FloatOps.sitofp (F := Ideal) FTy.f32 (BitVec.ofNat 32 e.val) < ((w.toInt : ℝ) : EReal) ↔ e.val < n := by
  show (((BitVec.ofNat 32 e.val).toInt : ℝ) : EReal) < _ ↔ _
  rw [EReal.coe_lt_coe_iff, toInt_ofNat _ (by omega), hw]
  exact_mod_cast Iff.rfl

variable {I : Blk Ideal} {P : Par} {M : MS} {t : Fin 32} {bi : Fin 4} {b : Fin 128} (h : Rep I P M t bi b)
include h

theorem baseI_at : baseI (F := Ideal) I (ix2 0 b) = baseS (M.ptr bi) := by
  pointwise [baseI, ptrV]
  rw [h.ptr]; rfl

theorem baseF_at : baseF (F := Ideal) I (ix2 0 b) = intS (baseS (M.ptr bi)) := by
  pointwise [baseF]
  rw [baseI_at h]
  rfl

theorem deV_at (j : Fin 5) : deV (F := Ideal) I (ix2 j b) = deS (M.ptr bi) j := by
  pointwise [deV, circ, pyrem, ptrV, k0_pay6]
  rw [baseF_at h, h.ptr]; rfl

theorem lgV_at (j : Fin 5) : lgV (F := Ideal) I (ix2 j b) = lgS (M.ptr bi) j := by
  pointwise [lgV]
  rw [deV_at h]; rfl

theorem exV_at (j : Fin 5) : exV (F := Ideal) I (ix2 j b) = exS (M.ptr bi) j := by
  pointwise [exV]
  simp only [lgV_at h]; rfl

/-- The five weights. -/
theorem wV_at (j : Fin 5) : wV (F := Ideal) I (ix2 j b) = wS (M.ptr bi) j := by
  pointwise [wV]
  simp only [exV_at h]; rfl

theorem ddV_at (e : Fin 128) (he : e.val < 4 * t.val + bi.val) :
    ddV (F := Ideal) I (ix2 e b) = circS (intS (baseS (M.ptr bi)) - intS (M.hist e.val).base) := by
  pointwise [ddV, circ, pyrem]
  rw [baseF_at h, h.base e he]; rfl

/-- The coefficient of a stored row. -/
theorem cC_coef (e : Fin 128) (he : e.val < 4 * t.val + bi.val) :
    cC (F := Ideal) I 5 (Nat.le_refl 5) (ix2 e b) = coef (M.ptr bi) (M.hist e.val) := by
  rw [cC_at]
  unfold coef
  refine Finset.sum_congr rfl fun jp _ => ?_
  rw [gC_at]
  refine congrArg₂ _ (h.w5 jp e he) (Finset.sum_congr rfl fun m _ => ?_)
  rw [ddV_at h e he]
  rw [wV_at h]

/-- What the being reads of the history. -/
theorem ctxV_at (d : Fin 64) : ctxV (F := Ideal) I (ix2 d b) = ctxS M.hist (4 * t.val + bi.val) (M.ptr bi) d := by
  pointwise [ctxV, cM, k0_pay7]
  unfold ctxS
  refine Finset.sum_congr rfl fun e _ => ?_
  have hsw := h.sw
  by_cases he : e.val < 4 * t.val + bi.val
  · rw [if_pos he, cC_coef h e he, h.su e d he, if_pos, mul_one]
    exact (lt_iff e _ I.sw hsw).2 he
  · rw [if_neg he, if_neg, mul_zero, zero_mul]
    exact fun hl => he ((lt_iff e _ I.sw hsw).1 hl)

theorem suV_at (d : Fin 64) : suV (F := Ideal) I (ix2 d b) = (rowS P t bi M).su d := by
  pointwise [suV, inpV]
  simp only [h.x, h.iw, h.ib, h.pw, h.pb, h.cs, h.ph, h.hid, ctxV_at h]
  rfl

theorem destV_at : destV (F := Ideal) I (ix2 0 b) = destS P bi (M.ptr bi) := by
  pointwise [destV]
  simp only [h.dst, baseI_at h]
  rfl

theorem jumpV_at : jumpV (F := Ideal) I (ix2 0 b) = jumpS P bi (rowS P t bi M).su := by
  pointwise [jumpV]
  simp only [h.jw, h.jb, suV_at h]
  rfl

theorem ptrN_at : ptrN (F := Ideal) I (ix2 0 b) = ptrS P bi (M.ptr bi) (rowS P t bi M).su := by
  pointwise [ptrN, pyrem, ptrV]
  rw [jumpV_at h, destV_at h, h.ptr]
  rfl

theorem hidP_at (d : Fin 64) : hidP (F := Ideal) I (ix3 0 d b) = (rowS P t bi M).su d := by
  pointwise [hidP]
  exact suV_at h d

theorem suP_at (d : Fin 64) : suP (F := Ideal) I (ix3 0 d b) = (rowS P t bi M).su d := by
  pointwise [suP]
  exact suV_at h d

theorem wP_at (j : Fin 5) : wP (F := Ideal) I (ix3 j 0 b) = (rowS P t bi M).w j := by
  pointwise [wP]
  exact wV_at h j

theorem baseP_at : baseP (F := Ideal) I (ix2 0 b) = intS (rowS P t bi M).base := by
  pointwise [baseP]
  exact baseF_at h

end Cert.Proof.KernelIdeal

end
-- ==== Proof.Own.KernelIdeal.Inv.lean ====
module

public import proofs.«01_k».proof.Proof.Own.KernelIdeal.TripEq
public import proofs.«01_k».proof.Proof.Own.KernelIdeal.Elem
public import Idealize.ShloMosaic.Lib.WritesUnit
public import proofs.«01_k».proof.Proof.Own.KernelIdeal.Out

@[expose] public section

set_option maxRecDepth 16384

noncomputable section

namespace Cert.Proof.KernelIdeal

open Cert.KernelIdeal Cert.KernelIdeal.Gen Cert.Proof.Ring
open Idealize.ShloMosaic Idealize.ShloMosaic.TcCoe

/-- A load through a rectangle reads the buffer at the rectangle's offset plus the place in it. -/
theorem rd_at {sp : Space} {s : Shape} {e : EltTy} (v : View sig .tc sp s e) (f : v.ty.Contents (Elt Ideal)) {off size : Fin s.rank → ℕ}
    (inb : ∀ a, off a + size a ≤ s.size a) (x : (Rect.unit off size inb).shape.Idx) (y : s.Idx)
    (h : ∀ a, (y a).val = off a + (x a).val) :
    v.readAt (Elt Ideal) (Rect.unit off size inb).toLoadRect f x = v.read (Elt Ideal) f y :=
  congrArg (v.read (Elt Ideal) f) (funext fun a => Fin.ext (by
    show off a + 1 * (x a).val = (y a).val
    rw [h a, one_mul]))

theorem off2 : ∀ (k : Fin k0_t1_loop.trips) (bi : Fin 4), k0_off2 k (BitVec.ofNat 32 bi.val) = ![4 * k.val + bi.val, 0, 0] := by decide
theorem off3 : ∀ (k : Fin k0_t1_loop.trips) (bi : Fin 4), k0_off3 k (BitVec.ofNat 32 bi.val) = ![0, 4 * k.val + bi.val, 0] := by decide
theorem off4 : ∀ (k : Fin k0_t1_loop.trips) (bi : Fin 4), k0_off4 k (BitVec.ofNat 32 bi.val) = ![4 * k.val + bi.val, 0] := by decide
theorem swv : ∀ (k : Fin k0_t1_loop.trips) (bi : Fin 4),
    (Scalar.addi (Scalar.muli (Scf.iv 0#32 1#32 k.val) 4#32) (BitVec.ofNat 32 bi.val)).toInt = ((4 * k.val + bi.val : ℕ) : ℤ) := by decide

variable (c : Dev nD)
  (arg0 : Memref sig .tc .vmem S32x8x128 .f32) (harg0 : arg0.IsWhole) (arg1 : Memref sig .tc .vmem S64x8 .f32)
  (harg1 : arg1.IsWhole) (arg2 : Memref sig .tc .vmem S64x1 .f32) (harg2 : arg2.IsWhole)
  (arg3 : Memref sig .tc .vmem S8x64 .f32) (harg3 : arg3.IsWhole) (arg4 : Memref sig .tc .vmem S8x1 .f32)
  (harg4 : arg4.IsWhole) (arg5 : Memref sig .tc .vmem S1x64x64 .f32) (harg5 : arg5.IsWhole)
  (arg6 : Memref sig .tc .vmem S1x64x1 .f32) (harg6 : arg6.IsWhole) (arg7 : Memref sig .tc .vmem S2048x4 .f32)
  (harg7 : arg7.IsWhole) (arg8 : Memref sig .tc .vmem S4x64x1 .f32) (harg8 : arg8.IsWhole)
  (arg9 : Memref sig .tc .vmem S4x1x1 .f32) (harg9 : arg9.IsWhole) (arg10 : Memref sig .tc .vmem S4x1x1 .f32)
  (harg10 : arg10.IsWhole) (arg11 : Memref sig .tc .vmem S4x64x1 .f32) (harg11 : arg11.IsWhole)
  (arg12 : Memref sig .tc .vmem S4x128 .f32) (harg12 : arg12.IsWhole) (arg13 : Memref sig .tc .vmem S32x8x128 .f32)
  (harg13 : arg13.IsWhole) (arg14 : Memref sig .tc .vmem S128x64x128 .f32) (harg14 : arg14.IsWhole)
  (arg15 : Memref sig .tc .vmem S5x128x128 .f32) (harg15 : arg15.IsWhole)
  (arg16 : Memref sig .tc .vmem S128x128 .f32) (harg16 : arg16.IsWhole) (arg17 : Memref sig .tc .vmem S4x128 .f32)
  (harg17 : arg17.IsWhole) (arg18 : Memref sig .tc .vmem S4x64x128 .f32) (harg18 : arg18.IsWhole)
  (f0 : Bf (F := Ideal) c arg0) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12)

variable (P : Fin 128 → Par)

/-- The operands' buffers hold the parameters, batch element by batch element. -/
structure PRep : Prop where
  x : ∀ (b : Fin 128) (t : Fin 32) (i : Fin 8), arg0.view.read (Elt Ideal) f0 (ix3 t i b) = (P b).x t i
  iw : ∀ (b : Fin 128) (d : Fin 64) (i : Fin 8), arg1.view.read (Elt Ideal) f1 (ix2 d i) = (P b).iw d i
  ib : ∀ (b : Fin 128) (d : Fin 64), arg2.view.read (Elt Ideal) f2 (ix2 d 0) = (P b).ib d
  ow : ∀ (b : Fin 128) (o : Fin 8) (d : Fin 64), arg3.view.read (Elt Ideal) f3 (ix2 o d) = (P b).ow o d
  ob : ∀ (b : Fin 128) (o : Fin 8), arg4.view.read (Elt Ideal) f4 (ix2 o 0) = (P b).ob o
  pw : ∀ (b : Fin 128) (d y : Fin 64), arg5.view.read (Elt Ideal) f5 (ix3 0 d y) = (P b).pw d y
  pb : ∀ (b : Fin 128) (d : Fin 64), arg6.view.read (Elt Ideal) f6 (ix3 0 d 0) = (P b).pb d
  dst : ∀ (b : Fin 128) (bi : Fin 4) (y : Fin 2048), arg7.view.read (Elt Ideal) f7 (ix2 y bi) = (P b).dst bi y
  jw : ∀ (b : Fin 128) (bi : Fin 4) (d : Fin 64), arg8.view.read (Elt Ideal) f8 (ix3 bi d 0) = (P b).jw bi d
  jb : ∀ (b : Fin 128) (bi : Fin 4), arg9.view.read (Elt Ideal) f9 (ix3 bi 0 0) = (P b).jb bi
  cs : ∀ (b : Fin 128) (bi : Fin 4), arg10.view.read (Elt Ideal) f10 (ix3 bi 0 0) = (P b).cs bi
  ph : ∀ (b : Fin 128) (bi : Fin 4) (d : Fin 64), arg11.view.read (Elt Ideal) f11 (ix3 bi d 0) = (P b).ph bi d
  ptr0 : ∀ (b : Fin 128) (bi : Fin 4), arg12.view.read (Elt Ideal) f12 (ix2 bi b) = (P b).ptr0 bi

/-- The three histories hold what the first `n` steps wrote. -/
structure Hist (n : ℕ) (g14 : Bf (F := Ideal) c arg14) (g15 : Bf (F := Ideal) c arg15) (g16 : Bf (F := Ideal) c arg16) : Prop where
  su : ∀ (b e : Fin 128) (d : Fin 64), e.val < n → arg14.view.read (Elt Ideal) g14 (ix3 e d b) = ((traj (P b) n).hist e.val).su d
  w : ∀ (b e : Fin 128) (j : Fin 5), e.val < n → arg15.view.read (Elt Ideal) g15 (ix3 j e b) = ((traj (P b) n).hist e.val).w j
  base : ∀ (b e : Fin 128), e.val < n → arg16.view.read (Elt Ideal) g16 (ix2 e b) = intS ((traj (P b) n).hist e.val).base

/-- The pointers and hidden states before time step `t`. -/
structure Cur (t : ℕ) (g17 : Bf (F := Ideal) c arg17) (g18 : Bf (F := Ideal) c arg18) : Prop where
  ptr : ∀ (b : Fin 128) (bi : Fin 4), arg17.view.read (Elt Ideal) g17 (ix2 bi b) = (traj (P b) (4 * t)).ptr bi
  hid : ∀ (b : Fin 128) (bi : Fin 4) (d : Fin 64), arg18.view.read (Elt Ideal) g18 (ix3 bi d b) = (traj (P b) (4 * t)).hid bi d

/-- A being's pointer and hidden state do not change before its step. -/
theorem keep (Q : Par) (t : Fin 32) (bi : Fin 4) (n : ℕ) (hn : n ≤ bi.val) :
    (traj Q (4 * t.val + n)).ptr bi = (traj Q (4 * t.val)).ptr bi ∧ (traj Q (4 * t.val + n)).hid bi = (traj Q (4 * t.val)).hid bi := by
  induction n with
  | zero => exact ⟨rfl, rfl⟩
  | succ n ih =>
    have hb := bi.isLt
    have e := traj_succ Q t ⟨n, by omega⟩
    have hne : bi ≠ ⟨n, by omega⟩ := fun h => by rw [h] at hn; simp at hn
    obtain ⟨h1, h2⟩ := ih (by omega)
    refine ⟨?_, ?_⟩
    · rw [← h1, ← Nat.add_assoc]; exact (congrArg (fun M : MS => M.ptr bi) e).trans (Function.update_of_ne hne _ _)
    · rw [← h2, ← Nat.add_assoc]; exact (congrArg (fun M : MS => M.hid bi) e).trans (Function.update_of_ne hne _ _)

/-- A being's pointer and hidden state after its step do not change again in the time step. -/
theorem keep' (Q : Par) (t : Fin 32) (bi : Fin 4) (n : ℕ) (hn : bi.val < n) (h4 : n ≤ 4) :
    (traj Q (4 * t.val + n)).ptr bi = (stepM Q t bi (traj Q (4 * t.val + bi.val))).ptr bi
      ∧ (traj Q (4 * t.val + n)).hid bi = (stepM Q t bi (traj Q (4 * t.val + bi.val))).hid bi := by
  induction n with
  | zero => omega
  | succ n ih =>
    have e := traj_succ Q t ⟨n, by omega⟩
    by_cases hb : bi.val = n
    · have : (⟨n, by omega⟩ : Fin 4) = bi := Fin.ext hb.symm
      rw [this] at e
      rw [← Nat.add_assoc, ← hb, e]
      exact ⟨rfl, rfl⟩
    · have hne : bi ≠ ⟨n, by omega⟩ := fun h => hb (by rw [h])
      obtain ⟨h1, h2⟩ := ih (by omega) (by omega)
      refine ⟨?_, ?_⟩
      · rw [← h1, ← Nat.add_assoc]; exact (congrArg (fun M : MS => M.ptr bi) e).trans (Function.update_of_ne hne _ _)
      · rw [← h2, ← Nat.add_assoc]; exact (congrArg (fun M : MS => M.hid bi) e).trans (Function.update_of_ne hne _ _)

/-- The loaded blocks of a being hold its parameters and the state before its step. -/
theorem blk_rep (hP : PRep c arg0 arg1 arg2 arg3 arg4 arg5 arg6 arg7 arg8 arg9 arg10 arg11 arg12 f0 f1 f2 f3 f4 f5 f6 f7 f8 f9 f10 f11 f12 P) (k : Fin k0_t1_loop.trips) (t : Fin 32) (ht : t.val = k.val) (bi : Fin 4)
    (g17 : Bf (F := Ideal) c arg17) (g18 : Bf (F := Ideal) c arg18) (hC : Cur c arg17 arg18 P t.val g17 g18)
    (g14 : Bf (F := Ideal) c arg14) (g15 : Bf (F := Ideal) c arg15) (g16 : Bf (F := Ideal) c arg16)
    (hH : Hist c arg14 arg15 arg16 P (4 * t.val + bi.val) g14 g15 g16) (b : Fin 128) :
    Rep (blk (F := Ideal) c arg0 arg1 arg2 arg5 arg6 arg7 arg8 arg9 arg10 arg11 arg14 arg15 arg16 arg17 arg18 f0 f1 f2 f5 f6 f7 f8 f9 f10 f11 k bi g17 g18 g14 g15 g16) (P b) (traj (P b) (4 * t.val + bi.val)) t bi b where
  x i := (rd_at _ _ _ _ (ix3 t i b) (by intro a; rw [congrFun (off1 k) a]; match a with | ⟨0, _⟩ => simp [ht] | ⟨1, _⟩ => simp | ⟨2, _⟩ => simp)).trans (hP.x b t i)
  iw d i := (rd_at _ _ _ _ (ix2 d i) (by intro a; match a with | ⟨0, _⟩ => simp | ⟨1, _⟩ => simp)).trans (hP.iw b d i)
  ib d := (rd_at _ _ _ _ (ix2 d 0) (by intro a; match a with | ⟨0, _⟩ => simp | ⟨1, _⟩ => simp)).trans (hP.ib b d)
  pw d y := (rd_at _ _ _ _ (ix3 0 d y) (by intro a; match a with | ⟨0, _⟩ => simp | ⟨1, _⟩ => simp | ⟨2, _⟩ => simp)).trans (hP.pw b d y)
  pb d := (rd_at _ _ _ _ (ix3 0 d 0) (by intro a; match a with | ⟨0, _⟩ => simp | ⟨1, _⟩ => simp | ⟨2, _⟩ => simp)).trans (hP.pb b d)
  cs := (rd_at _ _ _ _ (ix3 bi 0 0) (by intro a; match a with | ⟨0, _⟩ => simp | ⟨1, _⟩ => simp | ⟨2, _⟩ => simp)).trans (hP.cs b bi)
  ph d := (rd_at _ _ _ _ (ix3 bi d 0) (by intro a; match a with | ⟨0, _⟩ => simp | ⟨1, _⟩ => simp | ⟨2, _⟩ => simp)).trans (hP.ph b bi d)
  jw d := (rd_at _ _ _ _ (ix3 bi d 0) (by intro a; match a with | ⟨0, _⟩ => simp | ⟨1, _⟩ => simp | ⟨2, _⟩ => simp)).trans (hP.jw b bi d)
  jb := (rd_at _ _ _ _ (ix3 bi 0 0) (by intro a; match a with | ⟨0, _⟩ => simp | ⟨1, _⟩ => simp | ⟨2, _⟩ => simp)).trans (hP.jb b bi)
  dst y := (rd_at _ _ _ _ (ix2 y bi) (by intro a; match a with | ⟨0, _⟩ => simp | ⟨1, _⟩ => simp)).trans (hP.dst b bi y)
  ptr := (rd_at _ _ _ _ (ix2 bi b) (by intro a; match a with | ⟨0, _⟩ => simp | ⟨1, _⟩ => simp)).trans
    ((hC.ptr b bi).trans (keep (P b) t bi bi.val le_rfl).1.symm)
  hid d := (rd_at _ _ _ _ (ix3 bi d b) (by intro a; match a with | ⟨0, _⟩ => simp | ⟨1, _⟩ => simp | ⟨2, _⟩ => simp)).trans
    ((hC.hid b bi d).trans (congrFun (keep (P b) t bi bi.val le_rfl).2.symm d))
  su e d he := (rd_at _ _ _ _ (ix3 e d b) (by intro a; match a with | ⟨0, _⟩ => simp | ⟨1, _⟩ => simp | ⟨2, _⟩ => simp)).trans (hH.su b e d he)
  w5 j e he := (rd_at _ _ _ _ (ix3 j e b) (by intro a; match a with | ⟨0, _⟩ => simp | ⟨1, _⟩ => simp | ⟨2, _⟩ => simp)).trans (hH.w b e j he)
  base e he := (rd_at _ _ _ _ (ix2 e b) (by intro a; match a with | ⟨0, _⟩ => simp | ⟨1, _⟩ => simp)).trans (hH.base b e he)
  sw := by rw [ht]; exact swv k bi

/-- A being's writes add its row to the histories. -/
theorem hist_step (k : Fin k0_t1_loop.trips) (t : Fin 32) (ht : t.val = k.val) (bi : Fin 4)
    (f14 : Bf (F := Ideal) c arg14) (f15 : Bf (F := Ideal) c arg15) (f16 : Bf (F := Ideal) c arg16)
    (L14 : List (View.Piece (Elt Ideal) S128x64x128 .f32)) (L15 : List (View.Piece (Elt Ideal) S5x128x128 .f32))
    (L16 : List (View.Piece (Elt Ideal) S128x128 .f32)) (I : Blk Ideal)
    (hI : ∀ b, Rep I (P b) (traj (P b) (4 * t.val + bi.val)) t bi b)
    (hH : Hist c arg14 arg15 arg16 P (4 * t.val + bi.val) (arg14.view.writes (Elt Ideal) f14 L14)
      (arg15.view.writes (Elt Ideal) f15 L15) (arg16.view.writes (Elt Ideal) f16 L16)) :
    Hist c arg14 arg15 arg16 P (4 * t.val + bi.val + 1)
      (arg14.view.writes (Elt Ideal) f14 (⟨Rect.unit (s := S128x64x128) (k0_off2 k (BitVec.ofNat 32 bi.val)) S1x64x128.size (k0_off2_inb k bi), suP I⟩ :: L14))
      (arg15.view.writes (Elt Ideal) f15 (⟨Rect.unit (s := S5x128x128) (k0_off3 k (BitVec.ofNat 32 bi.val)) S5x1x128.size (k0_off3_inb k bi), wP I⟩ :: L15))
      (arg16.view.writes (Elt Ideal) f16 (⟨Rect.unit (s := S128x128) (k0_off4 k (BitVec.ofNat 32 bi.val)) S1x128.size (k0_off4_inb k bi), baseP I⟩ :: L16)) where
  su b e d he := by
    rw [traj_succ]
    by_cases h : e.val = 4 * t.val + bi.val
    · rw [View.read_writes_cons_unit_of_mem arg14.view f14 (k0_off2_inb k bi) (suP I) L14 (ix3 e d b) (ix3 0 d b) (off2 k bi)
        (by intro a; match a with | ⟨0, _⟩ => simp [h, ht] | ⟨1, _⟩ => simp | ⟨2, _⟩ => simp), suP_at (hI b), h]
      exact congrArg (fun r : Row => r.su d) (hist_self _ _ _ _).symm
    · rw [View.read_writes_cons_unit_of_not_mem arg14.view f14 (k0_off2_inb k bi) (suP I) L14 (ix3 e d b) (off2 k bi) 0
        (by have hs : S1x64x128.size 0 = 1 := rfl
            simp only [Matrix.cons_val_zero, hs, ix3_0]; omega)]
      exact (hH.su b e d (by omega)).trans (congrArg (fun r : Row => r.su d) (Function.update_of_ne h _ _).symm)
  w b e j he := by
    rw [traj_succ]
    by_cases h : e.val = 4 * t.val + bi.val
    · rw [View.read_writes_cons_unit_of_mem arg15.view f15 (k0_off3_inb k bi) (wP I) L15 (ix3 j e b) (ix3 j 0 b) (off3 k bi)
        (by intro a; match a with | ⟨0, _⟩ => simp | ⟨1, _⟩ => simp [h, ht] | ⟨2, _⟩ => simp), wP_at (hI b), h]
      exact congrArg (fun r : Row => r.w j) (hist_self _ _ _ _).symm
    · rw [View.read_writes_cons_unit_of_not_mem arg15.view f15 (k0_off3_inb k bi) (wP I) L15 (ix3 j e b) (off3 k bi) 1
        (by have hs : S5x1x128.size 1 = 1 := rfl
            simp only [Matrix.cons_val_one, Matrix.cons_val_zero, hs, ix3_1]; omega)]
      exact (hH.w b e j (by omega)).trans (congrArg (fun r : Row => r.w j) (Function.update_of_ne h _ _).symm)
  base b e he := by
    rw [traj_succ]
    by_cases h : e.val = 4 * t.val + bi.val
    · rw [View.read_writes_cons_unit_of_mem arg16.view f16 (k0_off4_inb k bi) (baseP I) L16 (ix2 e b) (ix2 0 b) (off4 k bi)
        (by intro a; match a with | ⟨0, _⟩ => simp [h, ht] | ⟨1, _⟩ => simp), baseP_at (hI b), h]
      exact congrArg (fun r : Row => intS r.base) (hist_self _ _ _ _).symm
    · rw [View.read_writes_cons_unit_of_not_mem arg16.view f16 (k0_off4_inb k bi) (baseP I) L16 (ix2 e b) (off4 k bi) 0
        (by have hs : S1x128.size 0 = 1 := rfl
            simp only [Matrix.cons_val_zero, hs, ix2_0]; omega)]
      exact (hH.base b e (by omega)).trans (congrArg (fun r : Row => intS r.base) (Function.update_of_ne h _ _).symm)

end Cert.Proof.KernelIdeal

end
-- ==== Proof.Own.KernelIdeal.InvTrip.lean ====
module

public import proofs.«01_k».proof.Proof.Own.KernelIdeal.Inv
public import Idealize.ShloMosaic.Lib.WritesUnit
public import proofs.«01_k».proof.Proof.Own.KernelIdeal.Out

@[expose] public section

set_option maxRecDepth 16384

noncomputable section

namespace Cert.Proof.KernelIdeal

open Cert.KernelIdeal Cert.KernelIdeal.Gen Cert.Proof.Ring
open Idealize.ShloMosaic Idealize.ShloMosaic.TcCoe

variable (c : Dev nD)
  (arg0 : Memref sig .tc .vmem S32x8x128 .f32) (harg0 : arg0.IsWhole) (arg1 : Memref sig .tc .vmem S64x8 .f32)
  (harg1 : arg1.IsWhole) (arg2 : Memref sig .tc .vmem S64x1 .f32) (harg2 : arg2.IsWhole)
  (arg3 : Memref sig .tc .vmem S8x64 .f32) (harg3 : arg3.IsWhole) (arg4 : Memref sig .tc .vmem S8x1 .f32)
  (harg4 : arg4.IsWhole) (arg5 : Memref sig .tc .vmem S1x64x64 .f32) (harg5 : arg5.IsWhole)
  (arg6 : Memref sig .tc .vmem S1x64x1 .f32) (harg6 : arg6.IsWhole) (arg7 : Memref sig .tc .vmem S2048x4 .f32)
  (harg7 : arg7.IsWhole) (arg8 : Memref sig .tc .vmem S4x64x1 .f32) (harg8 : arg8.IsWhole)
  (arg9 : Memref sig .tc .vmem S4x1x1 .f32) (harg9 : arg9.IsWhole) (arg10 : Memref sig .tc .vmem S4x1x1 .f32)
  (harg10 : arg10.IsWhole) (arg11 : Memref sig .tc .vmem S4x64x1 .f32) (harg11 : arg11.IsWhole)
  (arg12 : Memref sig .tc .vmem S4x128 .f32) (arg13 : Memref sig .tc .vmem S32x8x128 .f32) (harg12 : arg12.IsWhole) (arg13 : Memref sig .tc .vmem S32x8x128 .f32)
  (harg13 : arg13.IsWhole) (arg14 : Memref sig .tc .vmem S128x64x128 .f32) (harg14 : arg14.IsWhole)
  (arg15 : Memref sig .tc .vmem S5x128x128 .f32) (harg15 : arg15.IsWhole)
  (arg16 : Memref sig .tc .vmem S128x128 .f32) (harg16 : arg16.IsWhole) (arg17 : Memref sig .tc .vmem S4x128 .f32)
  (harg17 : arg17.IsWhole) (arg18 : Memref sig .tc .vmem S4x64x128 .f32) (harg18 : arg18.IsWhole)
  (f0 : Bf (F := Ideal) c arg0) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12)

variable (P : Fin 128 → Par)

/-- The four pointer rows read what was last stored in each. -/
theorem four17 (p : Fin 4 → Vec Ideal S1x128 .f32) (f : Bf (F := Ideal) c arg17) (bi : Fin 4) (b : Fin 128) :
    arg17.view.read (Elt Ideal) (arg17.view.writes (Elt Ideal) f
      [⟨Rect.unit (s := S4x128) ![3, 0] S1x128.size (inb17 3), p 3⟩, ⟨Rect.unit (s := S4x128) ![2, 0] S1x128.size (inb17 2), p 2⟩,
       ⟨Rect.unit (s := S4x128) ![1, 0] S1x128.size (inb17 1), p 1⟩, ⟨Rect.unit (s := S4x128) ![0, 0] S1x128.size (inb17 0), p 0⟩])
      (ix2 bi b) = p bi (ix2 0 b) := by
  have hit : ∀ (r : Fin 4) L, arg17.view.read (Elt Ideal) (arg17.view.writes (Elt Ideal) f
      (⟨Rect.unit (s := S4x128) ![r.val, 0] S1x128.size (inb17 r), p r⟩ :: L)) (ix2 r b) = p r (ix2 0 b) := fun r L =>
    View.read_writes_cons_unit_of_mem arg17.view f (inb17 r) (p r) L (ix2 r b) (ix2 0 b) rfl
      (by intro a; match a with | ⟨0, _⟩ => simp | ⟨1, _⟩ => simp)
  have miss : ∀ (r q : Fin 4) L, r ≠ q → arg17.view.read (Elt Ideal) (arg17.view.writes (Elt Ideal) f
      (⟨Rect.unit (s := S4x128) ![r.val, 0] S1x128.size (inb17 r), p r⟩ :: L)) (ix2 q b)
        = arg17.view.read (Elt Ideal) (arg17.view.writes (Elt Ideal) f L) (ix2 q b) := fun r q L hne =>
    View.read_writes_cons_unit_of_not_mem arg17.view f (inb17 r) (p r) L (ix2 q b) rfl 0
      (by have hs : S1x128.size 0 = 1 := rfl
          have : r.val ≠ q.val := fun h => hne (Fin.ext h)
          simp only [Matrix.cons_val_zero, hs, ix2_0]; omega)
  match bi with
  | 3 => exact hit 3 _
  | 2 => exact (miss 3 2 _ (by decide)).trans (hit 2 _)
  | 1 => exact (miss 3 1 _ (by decide)).trans ((miss 2 1 _ (by decide)).trans (hit 1 _))
  | 0 => exact (miss 3 0 _ (by decide)).trans ((miss 2 0 _ (by decide)).trans ((miss 1 0 _ (by decide)).trans (hit 0 _)))

/-- The four hidden states read what was last stored in each. -/
theorem four18 (p : Fin 4 → Vec Ideal S1x64x128 .f32) (f : Bf (F := Ideal) c arg18) (bi : Fin 4) (d : Fin 64) (b : Fin 128) :
    arg18.view.read (Elt Ideal) (arg18.view.writes (Elt Ideal) f
      [⟨Rect.unit (s := S4x64x128) ![3, 0, 0] S1x64x128.size (inb18 3), p 3⟩, ⟨Rect.unit (s := S4x64x128) ![2, 0, 0] S1x64x128.size (inb18 2), p 2⟩,
       ⟨Rect.unit (s := S4x64x128) ![1, 0, 0] S1x64x128.size (inb18 1), p 1⟩, ⟨Rect.unit (s := S4x64x128) ![0, 0, 0] S1x64x128.size (inb18 0), p 0⟩])
      (ix3 bi d b) = p bi (ix3 0 d b) := by
  have hit : ∀ (r : Fin 4) L, arg18.view.read (Elt Ideal) (arg18.view.writes (Elt Ideal) f
      (⟨Rect.unit (s := S4x64x128) ![r.val, 0, 0] S1x64x128.size (inb18 r), p r⟩ :: L)) (ix3 r d b) = p r (ix3 0 d b) := fun r L =>
    View.read_writes_cons_unit_of_mem arg18.view f (inb18 r) (p r) L (ix3 r d b) (ix3 0 d b) rfl
      (by intro a; match a with | ⟨0, _⟩ => simp | ⟨1, _⟩ => simp | ⟨2, _⟩ => simp)
  have miss : ∀ (r q : Fin 4) L, r ≠ q → arg18.view.read (Elt Ideal) (arg18.view.writes (Elt Ideal) f
      (⟨Rect.unit (s := S4x64x128) ![r.val, 0, 0] S1x64x128.size (inb18 r), p r⟩ :: L)) (ix3 q d b)
        = arg18.view.read (Elt Ideal) (arg18.view.writes (Elt Ideal) f L) (ix3 q d b) := fun r q L hne =>
    View.read_writes_cons_unit_of_not_mem arg18.view f (inb18 r) (p r) L (ix3 q d b) rfl 0
      (by have hs : S1x64x128.size 0 = 1 := rfl
          have : r.val ≠ q.val := fun h => hne (Fin.ext h)
          simp only [Matrix.cons_val_zero, hs, ix3_0]; omega)
  match bi with
  | 3 => exact hit 3 _
  | 2 => exact (miss 3 2 _ (by decide)).trans (hit 2 _)
  | 1 => exact (miss 3 1 _ (by decide)).trans ((miss 2 1 _ (by decide)).trans (hit 1 _))
  | 0 => exact (miss 3 0 _ (by decide)).trans ((miss 2 0 _ (by decide)).trans ((miss 1 0 _ (by decide)).trans (hit 0 _)))

/-- A time step's row of outputs, element by element. -/
theorem yV_at (ow : Vec Ideal S8x64 .f32) (ob : Vec Ideal S8x1 .f32) (a1 a2 a3 a4 : FVec Ideal S64x128 .f32) (o : Fin 8) (b : Fin 128) :
    yV (F := Ideal) ow ob a1 a2 a3 a4 (ix3 0 o b) = ∑ y : Fin 64, ow (ix2 o y)
      * ((a1 (ix2 y b) + a2 (ix2 y b) + a3 (ix2 y b) + a4 (ix2 y b)) * Ideal.ofBits .f32 0x3E800000#32) + ob (ix2 o 0) := by
  pointwise [yV]

variable (P : Fin 128 → Par)

/-- The scratch buffers before time step `t`. -/
def Inv (t : ℕ) (s : St (F := Ideal) c arg14 arg15 arg16 arg17 arg18) : Prop :=
  Hist c arg14 arg15 arg16 P (4 * t) s.1 s.2.1 s.2.2.1 ∧ Cur c arg17 arg18 P t s.2.2.2.1 s.2.2.2.2

/-- The blocks of each being hold the state before its step. -/
theorem reps (hP : PRep c arg0 arg1 arg2 arg3 arg4 arg5 arg6 arg7 arg8 arg9 arg10 arg11 arg12 f0 f1 f2 f3 f4 f5 f6 f7 f8 f9 f10 f11 f12 P) (k : Fin k0_t1_loop.trips) (t : Fin 32) (ht : t.val = k.val)
    (s : St (F := Ideal) c arg14 arg15 arg16 arg17 arg18) (hI : Inv c arg14 arg15 arg16 arg17 arg18 P t.val s) :
    (∀ b, Rep (blk0 (F := Ideal) c arg0 arg1 arg2 arg5 arg6 arg7 arg8 arg9 arg10 arg11 arg14 arg15 arg16 arg17 arg18 f0 f1 f2 f5 f6 f7 f8 f9 f10 f11 k s) (P b) (traj (P b) (4 * t.val + (0 : Fin 4).val)) t 0 b)
      ∧ (∀ b, Rep (blk1 (F := Ideal) c arg0 arg1 arg2 arg5 arg6 arg7 arg8 arg9 arg10 arg11 arg14 arg15 arg16 arg17 arg18 f0 f1 f2 f5 f6 f7 f8 f9 f10 f11 k s) (P b) (traj (P b) (4 * t.val + (1 : Fin 4).val)) t 1 b)
      ∧ (∀ b, Rep (blk2 (F := Ideal) c arg0 arg1 arg2 arg5 arg6 arg7 arg8 arg9 arg10 arg11 arg14 arg15 arg16 arg17 arg18 f0 f1 f2 f5 f6 f7 f8 f9 f10 f11 k s) (P b) (traj (P b) (4 * t.val + (2 : Fin 4).val)) t 2 b)
      ∧ (∀ b, Rep (blk3 (F := Ideal) c arg0 arg1 arg2 arg5 arg6 arg7 arg8 arg9 arg10 arg11 arg14 arg15 arg16 arg17 arg18 f0 f1 f2 f5 f6 f7 f8 f9 f10 f11 k s) (P b) (traj (P b) (4 * t.val + (3 : Fin 4).val)) t 3 b)
      ∧ Hist c arg14 arg15 arg16 P (4 * (t.val + 1)) (tripV (F := Ideal) c arg0 arg1 arg2 arg3 arg4 arg5 arg6 arg7 arg8 arg9 arg10 arg11 arg14 arg15 arg16 arg17 arg18 f0 f1 f2 f3 f4 f5 f6 f7 f8 f9 f10 f11 k s).2.1 (tripV (F := Ideal) c arg0 arg1 arg2 arg3 arg4 arg5 arg6 arg7 arg8 arg9 arg10 arg11 arg14 arg15 arg16 arg17 arg18 f0 f1 f2 f3 f4 f5 f6 f7 f8 f9 f10 f11 k s).2.2.1 (tripV (F := Ideal) c arg0 arg1 arg2 arg3 arg4 arg5 arg6 arg7 arg8 arg9 arg10 arg11 arg14 arg15 arg16 arg17 arg18 f0 f1 f2 f3 f4 f5 f6 f7 f8 f9 f10 f11 k s).2.2.2.1 := by
  obtain ⟨hH, hC⟩ := hI
  have h0 := fun b => blk_rep c arg0 arg1 arg2 arg3 arg4 arg5 arg6 arg7 arg8 arg9 arg10 arg11 arg12 arg14 arg15 arg16 arg17 arg18 f0 f1 f2 f3 f4 f5 f6 f7 f8 f9 f10 f11 f12 P hP k t ht 0 _ _ hC s.1 s.2.1 s.2.2.1 hH b
  have H1 := hist_step c arg14 arg15 arg16 P k t ht 0 s.1 s.2.1 s.2.2.1 [] [] [] (blk0 (F := Ideal) c arg0 arg1 arg2 arg5 arg6 arg7 arg8 arg9 arg10 arg11 arg14 arg15 arg16 arg17 arg18 f0 f1 f2 f5 f6 f7 f8 f9 f10 f11 k s) h0 hH
  have h1 : ∀ b, Rep (blk1 (F := Ideal) c arg0 arg1 arg2 arg5 arg6 arg7 arg8 arg9 arg10 arg11 arg14 arg15 arg16 arg17 arg18 f0 f1 f2 f5 f6 f7 f8 f9 f10 f11 k s) (P b) (traj (P b) (4 * t.val + (1 : Fin 4).val)) t 1 b := fun b => blk_rep c arg0 arg1 arg2 arg3 arg4 arg5 arg6 arg7 arg8 arg9 arg10 arg11 arg12 arg14 arg15 arg16 arg17 arg18 f0 f1 f2 f3 f4 f5 f6 f7 f8 f9 f10 f11 f12 P hP k t ht 1 _ _ hC _ _ _ H1 b
  have H2 := hist_step c arg14 arg15 arg16 P k t ht 1 s.1 s.2.1 s.2.2.1 _ _ _ (blk1 (F := Ideal) c arg0 arg1 arg2 arg5 arg6 arg7 arg8 arg9 arg10 arg11 arg14 arg15 arg16 arg17 arg18 f0 f1 f2 f5 f6 f7 f8 f9 f10 f11 k s) h1 H1
  have h2 : ∀ b, Rep (blk2 (F := Ideal) c arg0 arg1 arg2 arg5 arg6 arg7 arg8 arg9 arg10 arg11 arg14 arg15 arg16 arg17 arg18 f0 f1 f2 f5 f6 f7 f8 f9 f10 f11 k s) (P b) (traj (P b) (4 * t.val + (2 : Fin 4).val)) t 2 b := fun b => blk_rep c arg0 arg1 arg2 arg3 arg4 arg5 arg6 arg7 arg8 arg9 arg10 arg11 arg12 arg14 arg15 arg16 arg17 arg18 f0 f1 f2 f3 f4 f5 f6 f7 f8 f9 f10 f11 f12 P hP k t ht 2 _ _ hC _ _ _ H2 b
  have H3 := hist_step c arg14 arg15 arg16 P k t ht 2 s.1 s.2.1 s.2.2.1 _ _ _ (blk2 (F := Ideal) c arg0 arg1 arg2 arg5 arg6 arg7 arg8 arg9 arg10 arg11 arg14 arg15 arg16 arg17 arg18 f0 f1 f2 f5 f6 f7 f8 f9 f10 f11 k s) h2 H2
  have h3 : ∀ b, Rep (blk3 (F := Ideal) c arg0 arg1 arg2 arg5 arg6 arg7 arg8 arg9 arg10 arg11 arg14 arg15 arg16 arg17 arg18 f0 f1 f2 f5 f6 f7 f8 f9 f10 f11 k s) (P b) (traj (P b) (4 * t.val + (3 : Fin 4).val)) t 3 b := fun b => blk_rep c arg0 arg1 arg2 arg3 arg4 arg5 arg6 arg7 arg8 arg9 arg10 arg11 arg12 arg14 arg15 arg16 arg17 arg18 f0 f1 f2 f3 f4 f5 f6 f7 f8 f9 f10 f11 f12 P hP k t ht 3 _ _ hC _ _ _ H3 b
  have H4 := hist_step c arg14 arg15 arg16 P k t ht 3 s.1 s.2.1 s.2.2.1 _ _ _ (blk3 (F := Ideal) c arg0 arg1 arg2 arg5 arg6 arg7 arg8 arg9 arg10 arg11 arg14 arg15 arg16 arg17 arg18 f0 f1 f2 f5 f6 f7 f8 f9 f10 f11 k s) h3 H3
  have e4 : 4 * t.val + (3 : Fin 4).val + 1 = 4 * (t.val + 1) := by show 4 * t.val + 3 + 1 = _; omega
  rw [e4] at H4
  refine ⟨h0, h1, h2, h3, ?_⟩
  dsimp only [tripV]
  exact H4

/-- A trip keeps the invariant and writes the model's outputs. -/
theorem trip_inv (hP : PRep c arg0 arg1 arg2 arg3 arg4 arg5 arg6 arg7 arg8 arg9 arg10 arg11 arg12 f0 f1 f2 f3 f4 f5 f6 f7 f8 f9 f10 f11 f12 P) (k : Fin k0_t1_loop.trips) (t : Fin 32) (ht : t.val = k.val)
    (s : St (F := Ideal) c arg14 arg15 arg16 arg17 arg18) (hI : Inv c arg14 arg15 arg16 arg17 arg18 P t.val s) :
    Inv c arg14 arg15 arg16 arg17 arg18 P (t.val + 1) (tripV (F := Ideal) c arg0 arg1 arg2 arg3 arg4 arg5 arg6 arg7 arg8 arg9 arg10 arg11 arg14 arg15 arg16 arg17 arg18 f0 f1 f2 f3 f4 f5 f6 f7 f8 f9 f10 f11 k s).2
      ∧ ∀ (o : Fin 8) (b : Fin 128), (tripV (F := Ideal) c arg0 arg1 arg2 arg3 arg4 arg5 arg6 arg7 arg8 arg9 arg10 arg11 arg14 arg15 arg16 arg17 arg18 f0 f1 f2 f3 f4 f5 f6 f7 f8 f9 f10 f11 k s).1 (ix3 0 o b) = outS (P b) t o := by
  obtain ⟨h0, h1, h2, h3, H4⟩ := reps c arg0 arg1 arg2 arg3 arg4 arg5 arg6 arg7 arg8 arg9 arg10 arg11 arg12 arg14 arg15 arg16 arg17 arg18 f0 f1 f2 f3 f4 f5 f6 f7 f8 f9 f10 f11 f12 P hP k t ht s hI
  have hrep : ∀ bi : Fin 4, ∀ b, Rep ((![blk0 (F := Ideal) c arg0 arg1 arg2 arg5 arg6 arg7 arg8 arg9 arg10 arg11 arg14 arg15 arg16 arg17 arg18 f0 f1 f2 f5 f6 f7 f8 f9 f10 f11 k s, blk1 (F := Ideal) c arg0 arg1 arg2 arg5 arg6 arg7 arg8 arg9 arg10 arg11 arg14 arg15 arg16 arg17 arg18 f0 f1 f2 f5 f6 f7 f8 f9 f10 f11 k s, blk2 (F := Ideal) c arg0 arg1 arg2 arg5 arg6 arg7 arg8 arg9 arg10 arg11 arg14 arg15 arg16 arg17 arg18 f0 f1 f2 f5 f6 f7 f8 f9 f10 f11 k s,
      blk3 (F := Ideal) c arg0 arg1 arg2 arg5 arg6 arg7 arg8 arg9 arg10 arg11 arg14 arg15 arg16 arg17 arg18 f0 f1 f2 f5 f6 f7 f8 f9 f10 f11 k s] : Fin 4 → Blk Ideal) bi) (P b) (traj (P b) (4 * t.val + bi.val)) t bi b := fun bi =>
    match bi with
    | 0 => h0
    | 1 => h1
    | 2 => h2
    | 3 => h3
  refine ⟨⟨H4, ⟨fun b bi => ?_, fun b bi d => ?_⟩⟩, fun o b => ?_⟩
  · dsimp only [tripV]
    refine (four17 c arg17 (fun bi => ptrN ((![blk0 (F := Ideal) c arg0 arg1 arg2 arg5 arg6 arg7 arg8 arg9 arg10 arg11 arg14 arg15 arg16 arg17 arg18 f0 f1 f2 f5 f6 f7 f8 f9 f10 f11 k s, blk1 (F := Ideal) c arg0 arg1 arg2 arg5 arg6 arg7 arg8 arg9 arg10 arg11 arg14 arg15 arg16 arg17 arg18 f0 f1 f2 f5 f6 f7 f8 f9 f10 f11 k s, blk2 (F := Ideal) c arg0 arg1 arg2 arg5 arg6 arg7 arg8 arg9 arg10 arg11 arg14 arg15 arg16 arg17 arg18 f0 f1 f2 f5 f6 f7 f8 f9 f10 f11 k s,
      blk3 (F := Ideal) c arg0 arg1 arg2 arg5 arg6 arg7 arg8 arg9 arg10 arg11 arg14 arg15 arg16 arg17 arg18 f0 f1 f2 f5 f6 f7 f8 f9 f10 f11 k s] : Fin 4 → Blk Ideal) bi)) _ bi b).trans ((ptrN_at (hrep bi b)).trans ?_)
    refine Eq.trans ?_ (keep' (P b) t bi 4 bi.isLt le_rfl).1.symm
    exact (ptr_self (P b) t bi _).symm
  · dsimp only [tripV]
    refine (four18 c arg18 (fun bi => hidP ((![blk0 (F := Ideal) c arg0 arg1 arg2 arg5 arg6 arg7 arg8 arg9 arg10 arg11 arg14 arg15 arg16 arg17 arg18 f0 f1 f2 f5 f6 f7 f8 f9 f10 f11 k s, blk1 (F := Ideal) c arg0 arg1 arg2 arg5 arg6 arg7 arg8 arg9 arg10 arg11 arg14 arg15 arg16 arg17 arg18 f0 f1 f2 f5 f6 f7 f8 f9 f10 f11 k s, blk2 (F := Ideal) c arg0 arg1 arg2 arg5 arg6 arg7 arg8 arg9 arg10 arg11 arg14 arg15 arg16 arg17 arg18 f0 f1 f2 f5 f6 f7 f8 f9 f10 f11 k s,
      blk3 (F := Ideal) c arg0 arg1 arg2 arg5 arg6 arg7 arg8 arg9 arg10 arg11 arg14 arg15 arg16 arg17 arg18 f0 f1 f2 f5 f6 f7 f8 f9 f10 f11 k s] : Fin 4 → Blk Ideal) bi)) _ bi d b).trans ((hidP_at (hrep bi b) d).trans ?_)
    refine Eq.trans ?_ (congrFun (keep' (P b) t bi 4 bi.isLt le_rfl).2.symm d)
    exact congrFun (hid_self (P b) t bi _).symm d
  · dsimp only [tripV]
    refine (yV_at _ _ _ _ _ _ o b).trans ?_
    unfold outS
    rw [show suAt (P b) (4 * t.val) = _ from suAt_eq (P b) t 0, show suAt (P b) (4 * t.val + 1) = _ from suAt_eq (P b) t 1,
      show suAt (P b) (4 * t.val + 2) = _ from suAt_eq (P b) t 2, show suAt (P b) (4 * t.val + 3) = _ from suAt_eq (P b) t 3]
    refine congrArg₂ _ (Finset.sum_congr rfl fun y _ => ?_) ?_
    · rw [suV_at (h0 b), suV_at (h1 b), suV_at (h2 b), suV_at (h3 b)]
      exact congrArg (· * _) ((rd_at _ _ _ _ (ix2 o y) (by intro a; match a with | ⟨0, _⟩ => simp | ⟨1, _⟩ => simp)).trans (hP.ow b o y))
    · exact (rd_at _ _ _ _ (ix2 o 0) (by intro a; match a with | ⟨0, _⟩ => simp | ⟨1, _⟩ => simp)).trans (hP.ob b o)

/-- At the loop's entry. -/
theorem inv_init (hP : PRep c arg0 arg1 arg2 arg3 arg4 arg5 arg6 arg7 arg8 arg9 arg10 arg11 arg12 f0 f1 f2 f3 f4 f5 f6 f7 f8 f9 f10 f11 f12 P) :
    Inv c arg14 arg15 arg16 arg17 arg18 P 0 (sInit (F := Ideal) c arg12 arg14 arg15 arg16 arg17 arg18 f12) := by
  refine ⟨⟨fun b e d he => absurd he (by omega), fun b e d he => absurd he (by omega), fun b e he => absurd he (by omega)⟩,
    ⟨fun b bi => ?_, fun b bi d => ?_⟩⟩
  · refine (View.read_writes_cons_unit_of_mem arg17.view _ inb_S4x128_S4x128_0_0 _ [] (ix2 bi b) (ix2 bi b) rfl
      (by intro a; match a with | ⟨0, _⟩ => simp | ⟨1, _⟩ => simp)).trans ?_
    refine Eq.trans ?_ (hP.ptr0 b bi)
    pointwise [k0_pay1]
    exact rd_at _ _ _ _ (ix2 bi b) (by intro a; match a with | ⟨0, _⟩ => simp | ⟨1, _⟩ => simp)
  · refine (View.read_writes_cons_unit_of_mem arg18.view _ inb_S4x64x128_S4x64x128_0_0_0 _ [] (ix3 bi d b) (ix3 bi d b) rfl
      (by intro a; match a with | ⟨0, _⟩ => simp | ⟨1, _⟩ => simp | ⟨2, _⟩ => simp)).trans ?_
    pointwise [k0_pay2]
    rfl

/-- Before every time step the scratch buffers hold the model's state. -/
theorem inv_at (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (hP : PRep c arg0 arg1 arg2 arg3 arg4 arg5 arg6 arg7 arg8 arg9 arg10 arg11 arg12 f0 f1 f2 f3 f4 f5 f6 f7 f8 f9 f10 f11 f12 P) :
    ∀ k ≤ 32, Inv c arg14 arg15 arg16 arg17 arg18 P k (stAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f0 f1 f2 f3 f4 f5 f6 f7 f8 f9 f10 f11 f12 k)
  | 0, _ => inv_init c arg0 arg1 arg2 arg3 arg4 arg5 arg6 arg7 arg8 arg9 arg10 arg11 arg12 arg14 arg15 arg16 arg17 arg18 f0 f1 f2 f3 f4 f5 f6 f7 f8 f9 f10 f11 f12 P hP
  | k + 1, hk => by
    have h : k < k0_t1_loop.trips := by rw [trips1]; omega
    have ih := inv_at harg0 harg1 harg2 harg3 harg4 harg5 harg6 harg7 harg8 harg9 harg10 harg11 harg12 harg13 harg14 harg15 harg16 harg17 harg18 hP k (by omega)
    have key := (trip_inv c arg0 arg1 arg2 arg3 arg4 arg5 arg6 arg7 arg8 arg9 arg10 arg11 arg12 arg14 arg15 arg16 arg17 arg18 f0 f1 f2 f3 f4 f5 f6 f7 f8 f9 f10 f11 f12 P hP ⟨k, h⟩ ⟨k, by omega⟩ rfl _ ih).1
    unfold stAt at key ⊢
    rw [st, dif_pos h, trip_eq]
    exact key

/-- The body's result holds the model's outputs. -/
theorem outY_at (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (hP : PRep c arg0 arg1 arg2 arg3 arg4 arg5 arg6 arg7 arg8 arg9 arg10 arg11 arg12 f0 f1 f2 f3 f4 f5 f6 f7 f8 f9 f10 f11 f12 P) (t : Fin 32) (o : Fin 8) (b : Fin 128) :
    outY c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f0 f1 f2 f3 f4 f5 f6 f7 f8 f9 f10 f11 f12 (ix3 t o b) = outS (P b) t o := by
  have h : t.val < k0_t1_loop.trips := by rw [trips1]; exact t.isLt
  have ih := inv_at c arg0 arg1 arg2 arg3 arg4 arg5 arg6 arg7 arg8 arg9 arg10 arg11 arg12 arg13 arg14 arg15 arg16 arg17 arg18 f0 f1 f2 f3 f4 f5 f6 f7 f8 f9 f10 f11 f12 P harg0 harg1 harg2 harg3 harg4 harg5 harg6 harg7 harg8 harg9 harg10 harg11 harg12 harg13 harg14 harg15 harg16 harg17 harg18 hP t.val (by omega)
  have key := (trip_inv c arg0 arg1 arg2 arg3 arg4 arg5 arg6 arg7 arg8 arg9 arg10 arg11 arg12 arg14 arg15 arg16 arg17 arg18 f0 f1 f2 f3 f4 f5 f6 f7 f8 f9 f10 f11 f12 P hP ⟨t.val, h⟩ t rfl _ ih).2 o b
  unfold outY
  show rowAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f0 f1 f2 f3 f4 f5 f6 f7 f8 f9 f10 f11 f12 t.val (rowIx (ix3 t o b)) = _
  rw [rowAt, dif_pos h, trip_eq]
  refine Eq.trans (congrArg _ (funext fun a => ?_)) key
  match a with
  | ⟨0, _⟩ => rfl
  | ⟨1, _⟩ => rfl
  | ⟨2, _⟩ => rfl

end Cert.Proof.KernelIdeal

end
-- ==== Proof.Own.KernelIdeal.Host.lean ====
module

public import proofs.«01_k».proof.Proof.Own.KernelIdeal.InvTrip
public import proofs.«01_k».proof.Proof.Own.KernelIdeal.Run
public import Idealize.ShloMosaic.Lib.StableHlo.Run
public import Idealize.ShloMosaic.Lib.Pipeline.ValueKit

@[expose] public section

set_option maxRecDepth 16384

noncomputable section

namespace Cert.Proof.KernelIdeal

open Cert.KernelIdeal Cert.KernelIdeal.Gen Cert.Proof.Ring
open Idealize.ShloMosaic Idealize.ShloMosaic.TcCoe Idealize.ShloMosaic.Tactic

variable (m : (ℓ : Loc nD τ sig) → Buf (Elt Ideal) ℓ) (c : Dev nD)

/-- The parameters in the launch's memory. -/
def parM : Fin 128 → Par :=
  parOf (fun b t i => m ((c : Thread nD τ).loc main_arg0) (ix3 b t i)) (fun i d => m ((c : Thread nD τ).loc main_arg1) (ix2 i d))
    (fun d => m ((c : Thread nD τ).loc main_arg2) (ix1 d)) (fun d o => m ((c : Thread nD τ).loc main_arg3) (ix2 d o))
    (fun o => m ((c : Thread nD τ).loc main_arg4) (ix1 o)) (fun y d => m ((c : Thread nD τ).loc main_arg5) (ix3 0 y d))
    (fun d => m ((c : Thread nD τ).loc main_arg6) (ix2 0 d)) (fun bi y => m ((c : Thread nD τ).loc main_arg7) (ix2 bi y))
    (fun bi d => m ((c : Thread nD τ).loc main_arg8) (ix2 bi d)) (fun bi => m ((c : Thread nD τ).loc main_arg9) (ix1 bi))
    (fun bi => m ((c : Thread nD τ).loc main_arg10) (ix1 bi)) (fun bi j => m ((c : Thread nD τ).loc main_arg11) (ix2 bi j))
    (fun bi b => m ((c : Thread nD τ).loc main_arg12) (ix2 bi b))

theorem V_x (b : Fin 128) (t : Fin 32) (i : Fin 8) : V m c main_v0 (ix3 t i b) = (parM m c b).x t i := by
  show StableHlo.after hostOps0 _ (Proc.devRef .tc main_v0) _ = _
  after_results
  pointwise
  rfl

theorem V_cs (b : Fin 128) (bi : Fin 4) : V m c main_v18 (ix3 bi 0 0) = (parM m c b).cs bi := by
  show StableHlo.after hostOps0 _ (Proc.devRef .tc main_v18) _ = _
  after_results
  pointwise
  rfl

theorem V_ph (b : Fin 128) (bi : Fin 4) (d : Fin 64) : V m c main_v19 (ix3 bi d 0) = (parM m c b).ph bi d := by
  show StableHlo.after hostOps0 _ (Proc.devRef .tc main_v19) _ = _
  after_results
  pointwise
  rfl

theorem V_iw (b : Fin 128) (d : Fin 64) (i : Fin 8) : V m c main_v1 (ix2 d i) = (parM m c b).iw d i := by
  show StableHlo.after hostOps0 _ (Proc.devRef .tc main_v1) _ = _
  after_results
  pointwise
  rfl

theorem V_ow (b : Fin 128) (o : Fin 8) (d : Fin 64) : V m c main_v2 (ix2 o d) = (parM m c b).ow o d := by
  show StableHlo.after hostOps0 _ (Proc.devRef .tc main_v2) _ = _
  after_results
  pointwise
  rfl

theorem V_pw (b : Fin 128) (d y : Fin 64) : V m c main_v3 (ix3 0 d y) = (parM m c b).pw d y := by
  show StableHlo.after hostOps0 _ (Proc.devRef .tc main_v3) _ = _
  after_results
  pointwise
  rfl

theorem V_dst (b : Fin 128) (bi : Fin 4) (y : Fin 2048) : V m c main_v4 (ix2 y bi) = (parM m c b).dst bi y := by
  show StableHlo.after hostOps0 _ (Proc.devRef .tc main_v4) _ = _
  after_results
  pointwise
  rfl

theorem V_ib (b : Fin 128) (d : Fin 64) : V m c main_v7 (ix2 d 0) = (parM m c b).ib d := by
  show StableHlo.after hostOps0 _ (Proc.devRef .tc main_v7) _ = _
  after_results
  pointwise
  rfl

theorem V_ob (b : Fin 128) (o : Fin 8) : V m c main_v8 (ix2 o 0) = (parM m c b).ob o := by
  show StableHlo.after hostOps0 _ (Proc.devRef .tc main_v8) _ = _
  after_results
  pointwise
  rfl

theorem V_pb (b : Fin 128) (d : Fin 64) : V m c main_v9 (ix3 0 d 0) = (parM m c b).pb d := by
  show StableHlo.after hostOps0 _ (Proc.devRef .tc main_v9) _ = _
  after_results
  pointwise
  rfl

theorem V_jw (b : Fin 128) (bi : Fin 4) (d : Fin 64) : V m c main_v10 (ix3 bi d 0) = (parM m c b).jw bi d := by
  show StableHlo.after hostOps0 _ (Proc.devRef .tc main_v10) _ = _
  after_results
  pointwise
  rfl

theorem V_jb (b : Fin 128) (bi : Fin 4) : V m c main_v11 (ix3 bi 0 0) = (parM m c b).jb bi := by
  show StableHlo.after hostOps0 _ (Proc.devRef .tc main_v11) _ = _
  after_results
  pointwise
  rfl

theorem V_p0 (b : Fin 128) (bi : Fin 4) : V m c main_arg12 (ix2 bi b) = (parM m c b).ptr0 bi := by
  rw [V_main_arg12]
  rfl

/-- The grid's one block of a whole array is the array. -/
theorem whole_at (n : ℕ) (x : ℕ) (h : n = 0) : n + 1 * x = x := by rw [h]; omega

theorem blk_0 (t : Fin cfg0.N) (i) : iblk m c 0 t i = V m c main_v0 i := by
  refine congrArg (V m c main_v0) (funext fun a => Fin.ext ?_)
  match t with
  | ⟨0, _⟩ => exact whole_at _ _ (by match a with | ⟨0, _⟩ => rfl | ⟨1, _⟩ => rfl | ⟨2, _⟩ => rfl)

theorem blk_1 (t : Fin cfg0.N) (i) : iblk m c 1 t i = V m c main_v1 i := by
  refine congrArg (V m c main_v1) (funext fun a => Fin.ext ?_)
  match t with
  | ⟨0, _⟩ => exact whole_at _ _ (by match a with | ⟨0, _⟩ => rfl | ⟨1, _⟩ => rfl)

theorem blk_2 (t : Fin cfg0.N) (i) : iblk m c 2 t i = V m c main_v7 i := by
  refine congrArg (V m c main_v7) (funext fun a => Fin.ext ?_)
  match t with
  | ⟨0, _⟩ => exact whole_at _ _ (by match a with | ⟨0, _⟩ => rfl | ⟨1, _⟩ => rfl)

theorem blk_3 (t : Fin cfg0.N) (i) : iblk m c 3 t i = V m c main_v2 i := by
  refine congrArg (V m c main_v2) (funext fun a => Fin.ext ?_)
  match t with
  | ⟨0, _⟩ => exact whole_at _ _ (by match a with | ⟨0, _⟩ => rfl | ⟨1, _⟩ => rfl)

theorem blk_4 (t : Fin cfg0.N) (i) : iblk m c 4 t i = V m c main_v8 i := by
  refine congrArg (V m c main_v8) (funext fun a => Fin.ext ?_)
  match t with
  | ⟨0, _⟩ => exact whole_at _ _ (by match a with | ⟨0, _⟩ => rfl | ⟨1, _⟩ => rfl)

theorem blk_5 (t : Fin cfg0.N) (i) : iblk m c 5 t i = V m c main_v3 i := by
  refine congrArg (V m c main_v3) (funext fun a => Fin.ext ?_)
  match t with
  | ⟨0, _⟩ => exact whole_at _ _ (by match a with | ⟨0, _⟩ => rfl | ⟨1, _⟩ => rfl | ⟨2, _⟩ => rfl)

theorem blk_6 (t : Fin cfg0.N) (i) : iblk m c 6 t i = V m c main_v9 i := by
  refine congrArg (V m c main_v9) (funext fun a => Fin.ext ?_)
  match t with
  | ⟨0, _⟩ => exact whole_at _ _ (by match a with | ⟨0, _⟩ => rfl | ⟨1, _⟩ => rfl | ⟨2, _⟩ => rfl)

theorem blk_7 (t : Fin cfg0.N) (i) : iblk m c 7 t i = V m c main_v4 i := by
  refine congrArg (V m c main_v4) (funext fun a => Fin.ext ?_)
  match t with
  | ⟨0, _⟩ => exact whole_at _ _ (by match a with | ⟨0, _⟩ => rfl | ⟨1, _⟩ => rfl)

theorem blk_8 (t : Fin cfg0.N) (i) : iblk m c 8 t i = V m c main_v10 i := by
  refine congrArg (V m c main_v10) (funext fun a => Fin.ext ?_)
  match t with
  | ⟨0, _⟩ => exact whole_at _ _ (by match a with | ⟨0, _⟩ => rfl | ⟨1, _⟩ => rfl | ⟨2, _⟩ => rfl)

theorem blk_9 (t : Fin cfg0.N) (i) : iblk m c 9 t i = V m c main_v11 i := by
  refine congrArg (V m c main_v11) (funext fun a => Fin.ext ?_)
  match t with
  | ⟨0, _⟩ => exact whole_at _ _ (by match a with | ⟨0, _⟩ => rfl | ⟨1, _⟩ => rfl | ⟨2, _⟩ => rfl)

theorem blk_10 (t : Fin cfg0.N) (i) : iblk m c 10 t i = V m c main_v18 i := by
  refine congrArg (V m c main_v18) (funext fun a => Fin.ext ?_)
  match t with
  | ⟨0, _⟩ => exact whole_at _ _ (by match a with | ⟨0, _⟩ => rfl | ⟨1, _⟩ => rfl | ⟨2, _⟩ => rfl)

theorem blk_11 (t : Fin cfg0.N) (i) : iblk m c 11 t i = V m c main_v19 i := by
  refine congrArg (V m c main_v19) (funext fun a => Fin.ext ?_)
  match t with
  | ⟨0, _⟩ => exact whole_at _ _ (by match a with | ⟨0, _⟩ => rfl | ⟨1, _⟩ => rfl | ⟨2, _⟩ => rfl)

theorem blk_12 (t : Fin cfg0.N) (i) : iblk m c 12 t i = V m c main_arg12 i := by
  refine congrArg (V m c main_arg12) (funext fun a => Fin.ext ?_)
  match t with
  | ⟨0, _⟩ => exact whole_at _ _ (by match a with | ⟨0, _⟩ => rfl | ⟨1, _⟩ => rfl)

/-- The operands' blocks hold the parameters. -/
theorem prep (q : Fin cfg0.N) : PRep c (stage0_0 0) (stage0_1 0) (stage0_2 0) (stage0_3 0) (stage0_4 0) (stage0_5 0) (stage0_6 0) (stage0_7 0) (stage0_8 0) (stage0_9 0) (stage0_10 0) (stage0_11 0) (stage0_12 0) ((hstage0_0 0).unread (iblk m c 0 q)) ((hstage0_1 0).unread (iblk m c 1 q)) ((hstage0_2 0).unread (iblk m c 2 q)) ((hstage0_3 0).unread (iblk m c 3 q)) ((hstage0_4 0).unread (iblk m c 4 q)) ((hstage0_5 0).unread (iblk m c 5 q)) ((hstage0_6 0).unread (iblk m c 6 q)) ((hstage0_7 0).unread (iblk m c 7 q)) ((hstage0_8 0).unread (iblk m c 8 q)) ((hstage0_9 0).unread (iblk m c 9 q)) ((hstage0_10 0).unread (iblk m c 10 q)) ((hstage0_11 0).unread (iblk m c 11 q)) ((hstage0_12 0).unread (iblk m c 12 q)) (parM m c) where
  x b t i := (congrFun ((hstage0_0 0).read_unread (iblk m c 0 q)) _).trans ((blk_0 m c q _).trans (V_x m c b t i))
  iw b d i := (congrFun ((hstage0_1 0).read_unread (iblk m c 1 q)) _).trans ((blk_1 m c q _).trans (V_iw m c b d i))
  ib b d := (congrFun ((hstage0_2 0).read_unread (iblk m c 2 q)) _).trans ((blk_2 m c q _).trans (V_ib m c b d))
  ow b o d := (congrFun ((hstage0_3 0).read_unread (iblk m c 3 q)) _).trans ((blk_3 m c q _).trans (V_ow m c b o d))
  ob b o := (congrFun ((hstage0_4 0).read_unread (iblk m c 4 q)) _).trans ((blk_4 m c q _).trans (V_ob m c b o))
  pw b d y := (congrFun ((hstage0_5 0).read_unread (iblk m c 5 q)) _).trans ((blk_5 m c q _).trans (V_pw m c b d y))
  pb b d := (congrFun ((hstage0_6 0).read_unread (iblk m c 6 q)) _).trans ((blk_6 m c q _).trans (V_pb m c b d))
  dst b bi y := (congrFun ((hstage0_7 0).read_unread (iblk m c 7 q)) _).trans ((blk_7 m c q _).trans (V_dst m c b bi y))
  jw b bi d := (congrFun ((hstage0_8 0).read_unread (iblk m c 8 q)) _).trans ((blk_8 m c q _).trans (V_jw m c b bi d))
  jb b bi := (congrFun ((hstage0_9 0).read_unread (iblk m c 9 q)) _).trans ((blk_9 m c q _).trans (V_jb m c b bi))
  cs b bi := (congrFun ((hstage0_10 0).read_unread (iblk m c 10 q)) _).trans ((blk_10 m c q _).trans (V_cs m c b bi))
  ph b bi d := (congrFun ((hstage0_11 0).read_unread (iblk m c 11 q)) _).trans ((blk_11 m c q _).trans (V_ph m c b bi d))
  ptr0 b bi := (congrFun ((hstage0_12 0).read_unread (iblk m c 12 q)) _).trans ((blk_12 m c q _).trans (V_p0 m c b bi))

/-- The body's result holds the model's outputs. -/
theorem outAt_at (t : Fin cfg0.N) (τt : Fin 32) (o : Fin 8) (b : Fin 128) : outAt m c t (ix3 τt o b) = outS (parM m c b) τt o :=
  outY_at c (stage0_0 0) (stage0_1 0) (stage0_2 0) (stage0_3 0) (stage0_4 0) (stage0_5 0) (stage0_6 0) (stage0_7 0) (stage0_8 0) (stage0_9 0) (stage0_10 0) (stage0_11 0) (stage0_12 0) (stage0_13 0) (Memref.whole cc0_scratch0) (Memref.whole cc0_scratch1) (Memref.whole cc0_scratch2) (Memref.whole cc0_scratch3) (Memref.whole cc0_scratch4) ((hstage0_0 0).unread (iblk m c 0 t)) ((hstage0_1 0).unread (iblk m c 1 t)) ((hstage0_2 0).unread (iblk m c 2 t)) ((hstage0_3 0).unread (iblk m c 3 t)) ((hstage0_4 0).unread (iblk m c 4 t)) ((hstage0_5 0).unread (iblk m c 5 t)) ((hstage0_6 0).unread (iblk m c 6 t)) ((hstage0_7 0).unread (iblk m c 7 t)) ((hstage0_8 0).unread (iblk m c 8 t)) ((hstage0_9 0).unread (iblk m c 9 t)) ((hstage0_10 0).unread (iblk m c 10 t)) ((hstage0_11 0).unread (iblk m c 11 t)) ((hstage0_12 0).unread (iblk m c 12 t)) (parM m c) (hstage0_0 0) (hstage0_1 0) (hstage0_2 0) (hstage0_3 0) (hstage0_4 0) (hstage0_5 0) (hstage0_6 0) (hstage0_7 0) (hstage0_8 0) (hstage0_9 0) (hstage0_10 0) (hstage0_11 0) (hstage0_12 0) (hstage0_13 0) (Memref.isWhole_whole _) (Memref.isWhole_whole _) (Memref.isWhole_whole _) (Memref.isWhole_whole _) (Memref.isWhole_whole _) (prep m c t) τt o b

/-- The result array is the body's result. -/
theorem final : (dats m 0 c).arrAt 13 cfg0.N = outAt m c t0_0 := by
  refine (dats m 0 c).arrAt_eq_of_after_last 13 t0_0 (by decide +kernel) _ fun j => ?_
  blk_simp
  rw [after0_13]

/-- The model's outputs, batch first. -/
def res : FVec Ideal S128x32x8 .f32 := fun i => outS (parM m c (i 0)) (i 1) (i 2)

theorem tail_v21 : Pipeline.afterTail₀ cfgs (dats m) 0 (V0 m) [hostOps1] c main_v21 = res m c := by
  unfold Pipeline.afterTail₀
  show StableHlo.after hostOps1 _ (Proc.devRef .tc main_v21) = _
  after_results
  rw [show Pipeline.withArrays (cfgs 0).spec c (V0 m c) (fun w => (dats m 0 c).arrAt w (cfgs 0).N) (Proc.devRef .tc main_v20) = outAt m c t0_0 from
    (Pipeline.withArrays_arr spec0 (by decide +kernel) c _ _ 13).trans (final m c)]
  funext i
  obtain ⟨b, t, o, rfl⟩ : ∃ (b : Fin 128) (t : Fin 32) (o : Fin 8), i = ix3 b t o := ⟨i 0, i 1, i 2, by funext a; match a with | ⟨0, _⟩ => rfl | ⟨1, _⟩ => rfl | ⟨2, _⟩ => rfl⟩
  pointwise
  exact outAt_at m c t0_0 t o b

/-- Every run ends with the model's outputs. -/
theorem run_res (ρ : Dev nD → PrngReg) : θ_run defs (onTc (τ := τ) (main (F := Ideal))) ⟨m, fun _ => 0, ρ⟩
    (fun r => ∀ c : Dev nD, r.2.mem ((c.tc : Thread nD τ).loc main_v21) = res m c) :=
  (θ_run _ _ _).mono (fun r h c => ((h.1 c).2 main_v21 (Pipeline.mem_restRefs_of main_v21 (by decide) (by decide))).trans (tail_v21 m c))
    (run_main m ρ)

end Cert.Proof.KernelIdeal
-- ==== Proof.Own.Ref.Pre.lean ====
module

public import proofs.«01_k».proof.Pre_finite_pointers
public import Idealize.ShloMosaic.Lib.Affine
public import Idealize.ShloMosaic.Lib.Decide
public import Idealize.ShloMosaic.Lib.ReduceAll
public import Idealize.ShloMosaic.PureOps.Ideal

@[expose] public section

noncomputable section

/-! The precondition says that the three arrays it names hold real numbers. -/
namespace Cert.Proof.Pre

open Cert.Pre_finite_pointers
open Idealize.ShloMosaic

/-- The side conditions the precondition states. -/
theorem facts : Cert.Pre_finite_pointers.Facts where
  bcast_S_S4x128 := by decide
  reducesTo_S4x128_S_d0_1 := by decide
  h_S_ := by decide
  bcast_S_S4x2048 := by decide
  reducesTo_S4x2048_S_d0_1 := by decide
  bcast_S_S64x8 := by decide
  reducesTo_S64x8_S_d0_1 := by decide

/-- The word of the bound is the infinite value. -/
theorem top_word : Ideal.ofBits .f32 0x7F800000#32 = ⊤ := by
  simp [Ideal.ofBits, Ideal.ieee]

/-- A value whose size is below infinity is a real number. -/
theorem real_of_lt (x : EReal) (h : max x (-x) < ⊤) : ∃ q : ℝ, x = (q : EReal) := by
  induction x with
  | bot => simp at h
  | coe q => exact ⟨q, rfl⟩
  | top => simp at h

/-- The comparison of a size with infinity, where it is true. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ q : ℝ, x = (q : EReal) := by
  refine real_of_lt x ?_
  have h' : BitVec.ofBool (decide (max x (-x) < Ideal.ofBits .f32 0x7F800000#32)) = 1#1 := h
  rw [top_word] at h'
  by_contra hc
  simp [hc] at h'

instance : Subsingleton S_.Idx := ⟨fun _ _ => funext fun i => i.elim0⟩

/-- Where the precondition holds, the first pointers, the destinations and the output weights are real. -/
theorem reals [Cert.Pre_finite_pointers.Facts] {x : FVec Ideal S128x32x8 .f32} {iw : FVec Ideal S8x64 .f32}
    {ib : FVec Ideal S64 .f32} {ow : FVec Ideal S64x8 .f32} {ob : FVec Ideal S8 .f32} {pw : FVec Ideal S1x64x64 .f32}
    {pb : FVec Ideal S1x64 .f32} {dst : FVec Ideal S4x2048 .f32} {jw : FVec Ideal S4x64 .f32} {jb : FVec Ideal S4 .f32}
    {cs : FVec Ideal S4 .f32} {ph : FVec Ideal S4x16 .f32} {ptr : FVec Ideal S4x128 .f32}
    (h : fn (F := Ideal) x iw ib ow ob pw pb dst jw jb cs ph ptr = fun _ => 1#1) :
    (∀ i, ∃ q : ℝ, ptr i = (q : EReal)) ∧ (∀ i, ∃ q : ℝ, dst i = (q : EReal)) ∧ ∀ i, ∃ q : ℝ, ow i = (q : EReal) := by
  have e := congrFun h (fun i => i.elim0)
  obtain ⟨e12, e3⟩ := IntOp.andi_eq_one.1 e
  obtain ⟨e1, e2⟩ := IntOp.andi_eq_one.1 e12
  exact ⟨fun i => real_of_cmp _ (Host.reduce_andi_all _ _ _ _ _ e1 i),
    fun i => real_of_cmp _ (Host.reduce_andi_all _ _ _ _ _ e2 i),
    fun i => real_of_cmp _ (Host.reduce_andi_all _ _ _ _ _ e3 i)⟩

end Cert.Proof.Pre
-- ==== Proof.Own.Ref.Moves.lean ====
module

public import proofs.«01_k».proof.Proof.Gen.ReferenceIdeal.Step
public import proofs.«01_k».proof.Proof.Own.Model

@[expose] public section

noncomputable section

/-! The reference's gathers, its scatter and its dynamic slices, element by element. -/
namespace Cert.Proof.Ref

open Cert.ReferenceIdeal Cert.ReferenceIdeal.Gen
open Idealize.ShloMosaic

/-- A dynamic slice whose start is inside reads the operand at the start plus the place. -/
theorem slice_at {s t : Shape} {α : Type} (x : s.Idx → α) (start : Fin s.rank → Int) (h : s.Slices (fun _ => 0) t) (i : t.Idx) (y : s.Idx)
    (n : Fin s.rank → ℕ) (hn : ∀ a, start a = n a) (hle : ∀ a, n a + t.size (a.cast h.1.symm) ≤ s.size a)
    (hy : ∀ a, (y a).val = n a + (i (a.cast h.1.symm)).val) : Host.dynamicSlice t x start h i = x y := by
  unfold Host.dynamicSlice extractStridedSlice
  refine congrArg x (funext fun a => Fin.ext ?_)
  simp [hy a, hn a]
  have := hle a
  omega

/-- The gather of five ring rows per batch element reads the row its index names. -/
theorem gather3 {w : ℕ} (x : Vec Ideal S128x2048x64 .f32) (idx : IVec S128x5x2 w) (b : Fin 128) (j : Fin 5) (d : Fin 64)
    (b' : Fin 128) (p : Fin 2048) (h0 : (idx (ix3 b j 0)).toInt = b'.val) (h1 : (idx (ix3 b j 1)).toInt = p.val) :
    Host.gather gather_S128x2048x64_S128x5x2_S128x5x64_2_01_n_n_01_2_1164 x idx (ix3 b j d) = x (ix3 b' p d) := by
  unfold Host.gather
  refine congrArg x (funext fun a => Fin.ext ?_)
  have hb := b'.isLt
  have hp := p.isLt
  have e0 : GatherDims.siIdx gather_S128x2048x64_S128x5x2_S128x5x64_2_01_n_n_01_2_1164 (ix3 b j d) ⟨0, by decide⟩ = ix3 b j 0 := by
    funext a; match a with | ⟨0, _⟩ => rfl | ⟨1, _⟩ => rfl | ⟨2, _⟩ => rfl
  have e1 : GatherDims.siIdx gather_S128x2048x64_S128x5x2_S128x5x64_2_01_n_n_01_2_1164 (ix3 b j d) ⟨1, by decide⟩ = ix3 b j 1 := by
    funext a; match a with | ⟨0, _⟩ => rfl | ⟨1, _⟩ => rfl | ⟨2, _⟩ => rfl
  match a with
  | ⟨0, _⟩ =>
    show min (idx (GatherDims.siIdx gather_S128x2048x64_S128x5x2_S128x5x64_2_01_n_n_01_2_1164 (ix3 b j d) ⟨0, by decide⟩)).toInt.toNat 127 + 0 + 0 = b'.val
    rw [e0, h0]; omega
  | ⟨1, _⟩ =>
    show min (idx (GatherDims.siIdx gather_S128x2048x64_S128x5x2_S128x5x64_2_01_n_n_01_2_1164 (ix3 b j d) ⟨1, by decide⟩)).toInt.toNat 2047 + 0 + 0 = p.val
    rw [e1, h1]; omega
  | ⟨2, _⟩ => show 0 + 0 + d.val = d.val; omega

/-- The gather of one destination per batch element. -/
theorem gather1 {w : ℕ} (x : Vec Ideal S2048 .f32) (idx : IVec S128x1 w) (b : Fin 128)
    (p : Fin 2048) (h0 : (idx (ix2 b 0)).toInt = p.val) :
    Host.gather gather_S2048_S128x1_S128_n_0_n_n_0_1_1 x idx (ix1 b) = x (ix1 p) := by
  unfold Host.gather
  refine congrArg x (funext fun a => Fin.ext ?_)
  have hp := p.isLt
  have e0 : GatherDims.siIdx gather_S2048_S128x1_S128_n_0_n_n_0_1_1 (ix1 b) ⟨0, by decide⟩ = ix2 b 0 := by
    funext a; match a with | ⟨0, _⟩ => rfl | ⟨1, _⟩ => rfl
  match a with
  | ⟨0, _⟩ =>
    show min (idx (GatherDims.siIdx gather_S2048_S128x1_S128_n_0_n_n_0_1_1 (ix1 b) ⟨0, by decide⟩)).toInt.toNat 2047 + 0 + 0 = p.val
    rw [e0, h0]; omega

/-- Where an update lands. -/
theorem lands {w : ℕ} (idx : IVec S128x5x2 w) (b : Fin 128) (j : Fin 5) (d : Fin 64)
    (b' : Fin 128) (p : Fin 2048) (h0 : (idx (ix3 b j 0)).toInt = b'.val) (h1 : (idx (ix3 b j 1)).toInt = p.val) :
    scatter_S128x2048x64_S128x5x2_S128x5x64_2_01_01_2.resultIdx? (ix3 b j d) idx = some (ix3 b' p d) := by
  have e0 : ScatterDims.siIdx scatter_S128x2048x64_S128x5x2_S128x5x64_2_01_01_2 (ix3 b j d) ⟨0, by decide⟩ = ix3 b j 0 := by
    funext a; match a with | ⟨0, _⟩ => rfl | ⟨1, _⟩ => rfl | ⟨2, _⟩ => rfl
  have e1 : ScatterDims.siIdx scatter_S128x2048x64_S128x5x2_S128x5x64_2_01_01_2 (ix3 b j d) ⟨1, by decide⟩ = ix3 b j 1 := by
    funext a; match a with | ⟨0, _⟩ => rfl | ⟨1, _⟩ => rfl | ⟨2, _⟩ => rfl
  have hv : ∀ a, scatter_S128x2048x64_S128x5x2_S128x5x64_2_01_01_2.start (ix3 b j d) idx a
      + (scatter_S128x2048x64_S128x5x2_S128x5x64_2_01_01_2.window (ix3 b j d) a : ℤ) = ((ix3 b' p d : S128x2048x64.Idx) a).val := fun a =>
    match a with
    | ⟨0, _⟩ => by
      show (idx (ScatterDims.siIdx scatter_S128x2048x64_S128x5x2_S128x5x64_2_01_01_2 (ix3 b j d) ⟨0, by decide⟩)).toInt + ((0 : ℕ) : ℤ) = (b'.val : ℤ)
      rw [e0, h0]; omega
    | ⟨1, _⟩ => by
      show (idx (ScatterDims.siIdx scatter_S128x2048x64_S128x5x2_S128x5x64_2_01_01_2 (ix3 b j d) ⟨1, by decide⟩)).toInt + ((0 : ℕ) : ℤ) = (p.val : ℤ)
      rw [e1, h1]; omega
    | ⟨2, _⟩ => by
      show (0 : ℤ) + ((d.val : ℕ) : ℤ) = (d.val : ℤ)
      omega
  unfold ScatterDims.resultIdx?
  rw [dif_pos (fun a => by rw [hv a]; exact ⟨Int.natCast_nonneg _, Int.ofNat_lt.mpr ((ix3 b' p d : S128x2048x64.Idx) a).isLt⟩)]
  refine congrArg some (funext fun a => Fin.ext ?_)
  show (_ + _ : ℤ).toNat = _
  rw [hv a]
  omega

/-- The ring after a step's five additions per batch element. -/
theorem scatter3 {w : ℕ} (x : Vec Ideal S128x2048x64 .f32) (idx : IVec S128x5x2 w) (upd : Vec Ideal S128x5x64 .f32)
    (f : Fin 128 → Fin 5 → Fin 2048) (h0 : ∀ b j, (idx (ix3 b j 0)).toInt = (b : Fin 128).val) (h1 : ∀ b j, (idx (ix3 b j 1)).toInt = (f b j).val)
    (b : Fin 128) (p : Fin 2048) (d : Fin 64) :
    (Host.scatterAdd (F := Ideal) (φ := .f32) scatter_S128x2048x64_S128x5x2_S128x5x64_2_01_01_2 x idx upd : Vec Ideal S128x2048x64 .f32) (ix3 b p d)
      = x (ix3 b p d) + ∑ j : Fin 5, if f b j = p then upd (ix3 b j d) else 0 := by
  show Ideal.hostScatterAdd _ x idx upd (ix3 b p d) = _
  unfold Ideal.hostScatterAdd
  refine congrArg (x (ix3 b p d) + ·) ?_
  rw [← Finset.sum_filter]
  symm
  refine Finset.sum_bij (fun j _ => (ix3 b j d : S128x5x64.Idx)) (fun j hj => ?_) (fun j _ k _ h => ?_) (fun i hi => ?_) (fun j _ => rfl)
  · rw [Finset.mem_filter] at hj ⊢
    exact ⟨Finset.mem_univ _, by rw [lands idx b j d b (f b j) (h0 b j) (h1 b j), hj.2]⟩
  · exact congrFun h 1
  · obtain ⟨b', j, d', rfl⟩ : ∃ (b' : Fin 128) (j : Fin 5) (d' : Fin 64), i = ix3 b' j d' := ⟨i 0, i 1, i 2, by funext a; match a with | ⟨0, _⟩ => rfl | ⟨1, _⟩ => rfl | ⟨2, _⟩ => rfl⟩
    rw [Finset.mem_filter, lands idx b' j d' b' (f b' j) (h0 b' j) (h1 b' j)] at hi
    have e := Option.some.inj hi.2
    have eb : b' = b := congrFun e 0
    have ep : f b' j = p := congrFun e 1
    have ed : d' = d := congrFun e 2
    subst eb ed
    exact ⟨j, Finset.mem_filter.mpr ⟨Finset.mem_univ _, ep⟩, rfl⟩

end Cert.Proof.Ref

end
-- ==== Proof.Own.Ref.Slices.lean ====
module

public import Idealize.ShloMosaic.Lib.Pointwise
public import proofs.«01_k».proof.Proof.Own.Ref.Moves

@[expose] public section

noncomputable section

/-! The rows a trip of the reference slices out at its being and its time. -/
namespace Cert.Proof.Ref

open Cert.ReferenceIdeal Cert.ReferenceIdeal.Gen Cert.ReferenceIdeal.Step
open Idealize.ShloMosaic

/-- The number of the trip at time `t` for being `bi`. -/
abbrev nth (t : Fin 32) (bi : Fin 4) : ℕ := 4 * t.val + bi.val

set_option maxRecDepth 100000 in
theorem div_nth : ∀ (t : Fin 32) (bi : Fin 4), IntOp.divsi .host (BitVec.ofNat 32 (nth t bi)) 4#32 = BitVec.ofNat 32 t.val := by decide

set_option maxRecDepth 100000 in
theorem rem_nth : ∀ (t : Fin 32) (bi : Fin 4), IntOp.remsi .host (BitVec.ofNat 32 (nth t bi)) 4#32 = BitVec.ofNat 32 bi.val := by decide

theorem wrap_t : ∀ t : Fin 32, Scalar.select (IntOp.cmpi .slt (BitVec.ofNat 32 t.val) 0#32) (IntOp.addi (BitVec.ofNat 32 t.val) 32#32) (BitVec.ofNat 32 t.val) = BitVec.ofNat 32 t.val := by decide

theorem wrap_bi : ∀ bi : Fin 4, Scalar.select (IntOp.cmpi .slt (BitVec.ofNat 32 bi.val) 0#32) (IntOp.addi (BitVec.ofNat 32 bi.val) 4#32) (BitVec.ofNat 32 bi.val) = BitVec.ofNat 32 bi.val := by decide

theorem int_t : ∀ t : Fin 32, (BitVec.ofNat 32 t.val).toInt = t.val := by decide
theorem int_bi : ∀ bi : Fin 4, (BitVec.ofNat 32 bi.val).toInt = bi.val := by decide

variable (t : Fin 32) (bi : Fin 4) (s : State Ideal)

theorem b3_at (i : S_.Idx) : b3 (nth t bi) s i = BitVec.ofNat 32 t.val := by
  unfold b3 b2
  pointwise
  exact div_nth t bi

theorem b5_at (i : S_.Idx) : b5 (nth t bi) s i = BitVec.ofNat 32 bi.val := by
  unfold b5 b4
  pointwise
  exact rem_nth t bi

theorem b11_at (i : S_.Idx) : b11 (nth t bi) s i = BitVec.ofNat 32 t.val := by
  pointwise [b11, b10, b9, b8, b7, b6]
  rw [b3_at]
  exact wrap_t t

theorem b25_at (i : S_.Idx) : b25 (nth t bi) s i = BitVec.ofNat 32 bi.val := by
  pointwise [b25, b24, b23, b22, b21, b20]
  rw [b5_at]
  exact wrap_bi bi

theorem b138_at (i : S_.Idx) : b138 (nth t bi) s i = BitVec.ofNat 32 bi.val := by
  pointwise [b138, b137, b136, b135, b134, b133]
  rw [b5_at]
  exact wrap_bi bi

theorem b155_at (i : S_.Idx) : b155 (nth t bi) s i = BitVec.ofNat 32 bi.val := by
  pointwise [b155, b154, b153, b152, b151, b150]
  rw [b5_at]
  exact wrap_bi bi

theorem b180_at (i : S_.Idx) : b180 (nth t bi) s i = BitVec.ofNat 32 bi.val := by
  pointwise [b180, b179, b178, b177, b176, b175]
  rw [b5_at]
  exact wrap_bi bi

theorem b248_at (i : S_.Idx) : b248 (nth t bi) s i = BitVec.ofNat 32 bi.val := by
  pointwise [b248, b247, b246, b245, b244, b243]
  rw [b5_at]
  exact wrap_bi bi

theorem b265_at (i : S_.Idx) : b265 (nth t bi) s i = BitVec.ofNat 32 bi.val := by
  pointwise [b265, b264, b263, b262, b261, b260]
  rw [b5_at]
  exact wrap_bi bi

theorem b310_at (i : S_.Idx) : b310 (nth t bi) s i = BitVec.ofNat 32 bi.val := by
  pointwise [b310, b309, b308, b307, b306, b305]
  rw [b5_at]
  exact wrap_bi bi

/-- The inputs at time `t`. -/
theorem b14_at (b : Fin 128) (i : Fin 8) : b14 (nth t bi) s (ix3 b 0 i) = s.main_v4_0 (ix3 b t i) := by
  unfold b14
  refine slice_at _ _ _ _ _ ![0, t.val, 0] (fun a => ?_) (fun a => ?_) (fun a => ?_)
  · match a with
    | ⟨0, _⟩ => rfl
    | ⟨1, _⟩ => exact (congrArg BitVec.toInt (b11_at t bi s _)).trans (int_t t)
    | ⟨2, _⟩ => rfl
  · have := t.isLt
    match a with
    | ⟨0, _⟩ => exact le_refl 128
    | ⟨1, _⟩ => exact this
    | ⟨2, _⟩ => exact le_refl 8
  · match a with
    | ⟨0, _⟩ => exact (Nat.zero_add _).symm
    | ⟨1, _⟩ => rfl
    | ⟨2, _⟩ => exact (Nat.zero_add _).symm

/-- The pointer row of being `bi`. -/
theorem b34_at (b : Fin 128) : b34 (nth t bi) s (ix2 0 b) = s.main_v4_16 (ix2 bi b) := by
  unfold b34
  refine slice_at _ _ _ _ _ ![bi.val, 0] (fun a => ?_) (fun a => ?_) (fun a => ?_)
  · match a with
    | ⟨0, _⟩ => exact (congrArg BitVec.toInt (b25_at t bi s _)).trans (int_bi bi)
    | ⟨1, _⟩ => rfl
  · have := bi.isLt
    match a with
    | ⟨0, _⟩ => exact this
    | ⟨1, _⟩ => exact le_refl 128
  · match a with
    | ⟨0, _⟩ => rfl
    | ⟨1, _⟩ => exact (Nat.zero_add _).symm

/-- The raw context strength of being `bi`. -/
theorem b139_at  : b139 (nth t bi) s (ix1 0) = s.main_v4_4 (ix1 bi) := by
  unfold b139
  refine slice_at _ _ _ _ _ ![bi.val] (fun a => ?_) (fun a => ?_) (fun a => ?_)
  · match a with
    | ⟨0, _⟩ => exact (congrArg BitVec.toInt (b138_at t bi s _)).trans (int_bi bi)
  · have := bi.isLt
    match a with
    | ⟨0, _⟩ => exact this
  · match a with
    | ⟨0, _⟩ => rfl

/-- The phase row of being `bi`. -/
theorem b164_at (d : Fin 16) : b164 (nth t bi) s (ix2 0 d) = s.main_v4_5 (ix2 bi d) := by
  unfold b164
  refine slice_at _ _ _ _ _ ![bi.val, 0] (fun a => ?_) (fun a => ?_) (fun a => ?_)
  · match a with
    | ⟨0, _⟩ => exact (congrArg BitVec.toInt (b155_at t bi s _)).trans (int_bi bi)
    | ⟨1, _⟩ => rfl
  · have := bi.isLt
    match a with
    | ⟨0, _⟩ => exact this
    | ⟨1, _⟩ => exact le_refl 16
  · match a with
    | ⟨0, _⟩ => rfl
    | ⟨1, _⟩ => exact (Nat.zero_add _).symm

/-- The hidden rows of being `bi`. -/
theorem b197_at (b : Fin 128) (d : Fin 64) : b197 (nth t bi) s (ix3 0 b d) = s.main_v4_17 (ix3 bi b d) := by
  unfold b197
  refine slice_at _ _ _ _ _ ![bi.val, 0, 0] (fun a => ?_) (fun a => ?_) (fun a => ?_)
  · match a with
    | ⟨0, _⟩ => exact (congrArg BitVec.toInt (b180_at t bi s _)).trans (int_bi bi)
    | ⟨1, _⟩ => rfl
    | ⟨2, _⟩ => rfl
  · have := bi.isLt
    match a with
    | ⟨0, _⟩ => exact this
    | ⟨1, _⟩ => exact le_refl 128
    | ⟨2, _⟩ => exact le_refl 64
  · match a with
    | ⟨0, _⟩ => rfl
    | ⟨1, _⟩ => exact (Nat.zero_add _).symm
    | ⟨2, _⟩ => exact (Nat.zero_add _).symm

/-- The jump weights of being `bi`. -/
theorem b257_at (d : Fin 64) : b257 (nth t bi) s (ix2 0 d) = s.main_v4_8 (ix2 bi d) := by
  unfold b257
  refine slice_at _ _ _ _ _ ![bi.val, 0] (fun a => ?_) (fun a => ?_) (fun a => ?_)
  · match a with
    | ⟨0, _⟩ => exact (congrArg BitVec.toInt (b248_at t bi s _)).trans (int_bi bi)
    | ⟨1, _⟩ => rfl
  · have := bi.isLt
    match a with
    | ⟨0, _⟩ => exact this
    | ⟨1, _⟩ => exact le_refl 64
  · match a with
    | ⟨0, _⟩ => rfl
    | ⟨1, _⟩ => exact (Nat.zero_add _).symm

/-- The jump bias of being `bi`. -/
theorem b266_at  : b266 (nth t bi) s (ix1 0) = s.main_v4_9 (ix1 bi) := by
  unfold b266
  refine slice_at _ _ _ _ _ ![bi.val] (fun a => ?_) (fun a => ?_) (fun a => ?_)
  · match a with
    | ⟨0, _⟩ => exact (congrArg BitVec.toInt (b265_at t bi s _)).trans (int_bi bi)
  · have := bi.isLt
    match a with
    | ⟨0, _⟩ => exact this
  · match a with
    | ⟨0, _⟩ => rfl

/-- The destinations of being `bi`. -/
theorem b319_at (y : Fin 2048) : b319 (nth t bi) s (ix2 0 y) = s.main_v4_10 (ix2 bi y) := by
  unfold b319
  refine slice_at _ _ _ _ _ ![bi.val, 0] (fun a => ?_) (fun a => ?_) (fun a => ?_)
  · match a with
    | ⟨0, _⟩ => exact (congrArg BitVec.toInt (b310_at t bi s _)).trans (int_bi bi)
    | ⟨1, _⟩ => rfl
  · have := bi.isLt
    match a with
    | ⟨0, _⟩ => exact this
    | ⟨1, _⟩ => exact le_refl 2048
  · match a with
    | ⟨0, _⟩ => rfl
    | ⟨1, _⟩ => exact (Nat.zero_add _).symm

end Cert.Proof.Ref

end
-- ==== Proof.Own.Ref.Nums.lean ====
module

public import Idealize.ShloMosaic.Lib.Pointwise
public import proofs.«01_k».proof.Proof.Own.Model

@[expose] public section

noncomputable section

/-! The arithmetic of the ring on the reals: positions, distances, weights. -/
namespace Cert.Proof.Ring

open Idealize.ShloMosaic

theorem ringLen_eq : ringLen = ((2048 : ℝ) : EReal) := by
  have : (2048#32 : BitVec 32).toInt = 2048 := by decide
  simp [ringLen, this]

theorem w1024 : Ideal.ofBits .f32 0x44800000#32 = ((1024 : ℝ) : EReal) := by
  simp [Ideal.ofBits, Ideal.ieee, -EReal.coe_mul]; norm_num

theorem w2 : Ideal.ofBits .f32 0x40000000#32 = ((2 : ℝ) : EReal) := by
  simp [Ideal.ofBits, Ideal.ieee, -EReal.coe_mul]; norm_num

theorem w8 : Ideal.ofBits .f32 0x41000000#32 = ((8 : ℝ) : EReal) := by
  simp [Ideal.ofBits, Ideal.ieee, -EReal.coe_mul]; norm_num

theorem w4 : Ideal.ofBits .f32 0x40800000#32 = ((4 : ℝ) : EReal) := by
  simp [Ideal.ofBits, Ideal.ieee, -EReal.coe_mul]; norm_num

theorem wquarter : Ideal.ofBits .f32 0x3E800000#32 = ((1 / 4 : ℝ) : EReal) := by
  simp [Ideal.ofBits, Ideal.ieee, -EReal.coe_mul]; norm_num

theorem wbot : Ideal.ofBits .f32 0xFF800000#32 = ⊥ := by
  simp [Ideal.ofBits, Ideal.ieee]

/-- The nine float words of the small distances. -/
theorem dword_eq (k : ℕ) (hk : k ≤ 8) : Ideal.ofBits .f32 (dword k) = (((k : ℝ) - 4 : ℝ) : EReal) := by
  interval_cases k <;> simp [dword, Ideal.ofBits, Ideal.ieee, -EReal.coe_mul, -EReal.coe_neg, -EReal.coe_sub] <;> norm_num [-EReal.coe_sub]

theorem pick (a b : Bool) (x y : EReal) :
    Scalar.select (IntOp.andi (IntOp.xori (BitVec.ofBool a) (BitVec.ofBool false)) (BitVec.ofBool b)) x y
      = if a = true ∧ b = true then x else y := by
  cases a <;> cases b <;> rfl

/-- On a real the remainder is the one of the floored quotient. -/
theorem pyS_real (r : ℝ) : pyS r = ((r - 2048 * (⌊r / 2048⌋ : ℝ) : ℝ) : EReal) := by
  unfold pyS
  have hL : decide (((2048 : ℝ) : EReal) < 0) = false := by
    rw [decide_eq_false_iff_not]
    exact not_lt.mpr (EReal.coe_nonneg.mpr (by norm_num))
  rw [ringLen_eq, Ideal.remf_coe, if_neg (by norm_num), hL, pick]
  simp only [decide_eq_true_eq, ne_eq, EReal.coe_eq_zero, ← EReal.coe_add, EReal.coe_neg']
  have hf := Int.floor_le (r / 2048)
  have hf' := Int.lt_floor_add_one (r / 2048)
  have hc := Int.le_ceil (r / 2048)
  have hc' := Int.ceil_lt_add_one (r / 2048)
  unfold Ideal.truncInt
  by_cases h : 0 ≤ r / 2048
  · rw [if_pos h, if_neg (by rintro ⟨h1, -⟩; linarith)]
  · rw [if_neg h]
    by_cases h0 : r - 2048 * ((⌈r / 2048⌉ : ℤ) : ℝ) = 0
    · rw [if_neg (fun hh => hh.2 h0)]
      have : r / 2048 = ((⌈r / 2048⌉ : ℤ) : ℝ) := by linarith
      have e : ⌊r / 2048⌋ = ⌈r / 2048⌉ := by
        conv_lhs => rw [this]
        exact Int.floor_intCast _
      rw [e]
    · have hlt : r - 2048 * ((⌈r / 2048⌉ : ℤ) : ℝ) < 0 := lt_of_le_of_ne (by linarith) h0
      rw [if_pos ⟨hlt, h0⟩]
      have e : ⌈r / 2048⌉ = ⌊r / 2048⌋ + 1 := by
        refine Int.ceil_eq_iff.mpr ⟨?_, ?_⟩
        · push_cast
          have : ((⌊r / 2048⌋ : ℤ) : ℝ) ≠ r / 2048 := fun hh => by
            apply h0
            have : ⌈r / 2048⌉ = ⌊r / 2048⌋ := by
              conv_lhs => rw [← hh]
              exact Int.ceil_intCast _
            rw [this, hh]; ring
          have := lt_of_le_of_ne hf this
          linarith
        · push_cast; linarith
      rw [e]
      exact congrArg (fun x : ℝ => (x : EReal)) (by push_cast; ring)

/-- On an integer it is the integer remainder. -/
theorem pyS_int (n : ℤ) : pyS ((n : ℝ) : EReal) = (((n % 2048 : ℤ) : ℝ) : EReal) := by
  rw [pyS_real]
  have : ⌊(n : ℝ) / 2048⌋ = n / 2048 := by
    have := Int.floor_div_natCast (n : ℝ) 2048
    rw [Int.floor_intCast] at this
    exact_mod_cast this
  rw [this, Int.emod_def]
  push_cast
  rfl

theorem circS_real (r : ℝ) : ∃ q : ℝ, circS r = (q : EReal) := by
  unfold circS
  rw [w1024, ← EReal.coe_add, pyS_real, ← EReal.coe_sub]
  exact ⟨_, rfl⟩

theorem circS_int (n : ℤ) : circS ((n : ℝ) : EReal) = ((((n + 1024) % 2048 - 1024 : ℤ) : ℝ) : EReal) := by
  unfold circS
  rw [w1024, ← EReal.coe_add, show ((n : ℝ) + 1024) = (((n + 1024 : ℤ)) : ℝ) by push_cast; rfl, pyS_int, ← EReal.coe_sub]
  push_cast
  rfl

/-- The base is a place of the ring. -/
theorem baseS_range (p : EReal) : 0 ≤ (baseS p).toInt ∧ (baseS p).toInt ≤ 2047 := by
  unfold baseS IntOp.minsi IntOp.maxsi
  have h1 : (2047#32 : BitVec 32).toInt = 2047 := by decide
  have h0 : (0#32 : BitVec 32).toInt = 0 := by decide
  simp only [BitVec.slt, decide_eq_true_eq]
  split_ifs <;> omega

/-- The place of neighbour `j` of a base. -/
def place (v : BitVec 32) (j : Fin 5) : Fin 2048 := ⟨((v.toInt + j.val - 2) % 2048).toNat, by omega⟩

theorem place_val (v : BitVec 32) (j : Fin 5) : ((place v j).val : ℤ) = (v.toInt + j.val - 2) % 2048 := by
  unfold place
  show ((((v.toInt + j.val - 2) % 2048).toNat : ℕ) : ℤ) = _
  omega

/-- The position of neighbour `j` as a float is its place. -/
theorem pos_eq (p : EReal) (j : Fin 5) :
    pyS (intS (baseS p) + (intS (BitVec.ofNat 32 j.val) - Ideal.ofBits .f32 0x40000000#32)) = (((place (baseS p) j).val : ℝ) : EReal) := by
  have hj : (BitVec.ofNat 32 j.val).toInt = j.val := toInt_ofNat _ (by have := j.isLt; omega)
  rw [w2, intS, intS, hj, ← EReal.coe_sub, ← EReal.coe_add,
    show (((baseS p).toInt : ℝ) + (((j.val : ℤ) : ℝ) - 2)) = ((((baseS p).toInt + j.val - 2 : ℤ)) : ℝ) by push_cast; ring, pyS_int,
    ← place_val]
  norm_cast

/-- Two neighbours share a place exactly when the circular distance of their bases is the difference of their offsets. -/
theorem near_iff (p q : EReal) (jp m : Fin 5) :
    circS (intS (baseS p) - intS (baseS q)) = Ideal.ofBits .f32 (dword (jp.val + 4 - m.val)) ↔ place (baseS q) jp = place (baseS p) m := by
  have hj := jp.isLt
  have hm := m.isLt
  have e : (intS (baseS p) - intS (baseS q)) = ((((baseS p).toInt - (baseS q).toInt : ℤ) : ℝ) : EReal) := by
    rw [intS, intS, ← EReal.coe_sub]; push_cast; rfl
  have hr : (((jp.val + 4 - m.val : ℕ) : ℝ) - 4) = (((jp.val : ℤ) - m.val : ℤ) : ℝ) := by
    have : ((jp.val + 4 - m.val : ℕ) : ℝ) = (((jp.val + 4 - m.val : ℕ) : ℤ) : ℝ) := by push_cast; rfl
    rw [this, show (((jp.val + 4 - m.val : ℕ) : ℤ)) = (jp.val : ℤ) - m.val + 4 by omega]
    push_cast; ring
  rw [e, circS_int, dword_eq _ (by omega), hr, EReal.coe_eq_coe_iff, Int.cast_inj]
  have hp := baseS_range p
  have hq := baseS_range q
  rw [Fin.ext_iff, ← Int.natCast_inj, place_val, place_val]
  omega

theorem deS_real (r : ℝ) (j : Fin 5) : ∃ q : ℝ, deS r j = (q : EReal) := by
  unfold deS
  rw [pos_eq, ← EReal.coe_sub]
  exact circS_real _

theorem div_real (a b : ℝ) (hb : b ≠ 0) : Ideal.div (a : EReal) (b : EReal) = ((a * b⁻¹ : ℝ) : EReal) := by
  unfold Ideal.div
  rw [if_neg (by rwa [EReal.coe_eq_zero]), ← EReal.coe_inv, ← EReal.coe_mul]

theorem lgS_real (r : ℝ) : ∃ f : Fin 5 → ℝ, ∀ j, lgS r j = (f j : EReal) := by
  choose f hf using deS_real r
  refine ⟨fun j => (0 - f j * f j) * (8 : ℝ)⁻¹, fun j => ?_⟩
  unfold lgS
  rw [hf j, w8, ← EReal.coe_mul, show (0 : EReal) = ((0 : ℝ) : EReal) from rfl, ← EReal.coe_sub, div_real _ _ (by norm_num)]

theorem max_real (f : Fin 5 → ℝ) (s : Finset (Fin 5)) :
    s.fold max (⊥ : EReal) (fun x => (f x : EReal)) = ⊥ ∧ s = ∅ ∨ ∃ q : ℝ, s.fold max (⊥ : EReal) (fun x => (f x : EReal)) = (q : EReal) := by
  classical
  induction s using Finset.induction_on with
  | empty => exact Or.inl ⟨rfl, rfl⟩
  | insert a s ha ih =>
    right
    rw [Finset.fold_insert ha]
    rcases ih with ⟨h, -⟩ | ⟨q, h⟩
    · rw [h]; exact ⟨f a, max_eq_left bot_le⟩
    · rw [h]; exact ⟨max (f a) q, (EReal.coe_strictMono.monotone.map_max).symm⟩

theorem coe_sum {ι : Type} (s : Finset ι) (f : ι → ℝ) : ((∑ i ∈ s, f i : ℝ) : EReal) = ∑ i ∈ s, (f i : EReal) :=
  map_sum (⟨⟨fun x : ℝ => (x : EReal), rfl⟩, EReal.coe_add⟩ : ℝ →+ EReal) f s

/-- The weights of a real pointer are real. -/
theorem wS_real (r : ℝ) : ∃ f : Fin 5 → ℝ, ∀ j, wS r j = (f j : EReal) := by
  obtain ⟨f, hf⟩ := lgS_real r
  have hm : ∃ q : ℝ, Finset.fold max (Ideal.ofBits .f32 0xFF800000#32) (fun x => lgS r x) Finset.univ = (q : EReal) := by
    rw [wbot, show (fun x => lgS r x) = fun x => (f x : EReal) from funext hf]
    rcases max_real f Finset.univ with ⟨-, h⟩ | h
    · exact absurd h (Finset.univ_nonempty.ne_empty)
    · exact h
  obtain ⟨q, hq⟩ := hm
  have he : ∀ j, exS r j = ((Real.exp (f j - q) : ℝ) : EReal) := fun j => by
    unfold exS
    rw [hq, hf j, ← EReal.coe_sub]
    rfl
  have hs : (0 : ℝ) < ∑ x : Fin 5, Real.exp (f x - q) := Finset.sum_pos (fun x _ => Real.exp_pos _) Finset.univ_nonempty
  refine ⟨fun j => Real.exp (f j - q) * (∑ x : Fin 5, Real.exp (f x - q))⁻¹, fun j => ?_⟩
  unfold wS
  rw [he j, show (∑ x, exS r x) = ∑ x : Fin 5, ((Real.exp (f x - q) : ℝ) : EReal) from Finset.sum_congr rfl fun x _ => he x, ← coe_sum,
    div_real _ _ hs.ne']

theorem tanh_real (x : EReal) : ∃ q : ℝ, Ideal.tanh x = (q : EReal) := by
  induction x using EReal.rec with
  | bot => exact ⟨-1, rfl⟩
  | top => exact ⟨1, rfl⟩
  | coe r => exact ⟨Real.tanh r, rfl⟩

theorem logistic_real (x : EReal) : ∃ q : ℝ, Ideal.logistic x = (q : EReal) := by
  unfold Ideal.logistic
  induction x using EReal.rec with
  | bot => exact ⟨0, by show Ideal.div 1 (1 + ⊤) = _; rw [EReal.add_top_of_ne_bot (by decide)]; simp [Ideal.div]⟩
  | top => exact ⟨1, by
      show Ideal.div 1 (1 + 0) = _
      rw [add_zero, show (1 : EReal) = ((1 : ℝ) : EReal) from rfl, div_real _ _ one_ne_zero]
      norm_num⟩
  | coe r =>
    refine ⟨1 * (1 + Real.exp (-r))⁻¹, ?_⟩
    show Ideal.div ((1 : ℝ) : EReal) (((1 : ℝ) : EReal) + ((Real.exp (-r) : ℝ) : EReal)) = _
    rw [← EReal.coe_add, div_real _ _ (by positivity)]

end Cert.Proof.Ring

end
-- ==== Proof.Own.Ref.Reads.lean ====
module

public import proofs.«01_k».proof.Proof.Own.Ref.Nums

@[expose] public section

noncomputable section

/-! The memory as the sum of what was written to it, and reads of it as reads of the history. -/
namespace Cert.Proof.Ring

open Idealize.ShloMosaic

/-- What the first `n` written rows leave at place `q`. -/
def memS (h : ℕ → Row) (n : ℕ) (q : Fin 2048) (d : Fin 64) : EReal :=
  ∑ e : Fin 128, if e.val < n then ∑ jp : Fin 5, (if place (h e.val).base jp = q then (h e.val).w jp * (h e.val).su d else 0) else 0

theorem memS_zero (h : ℕ → Row) (q : Fin 2048) (d : Fin 64) : memS h 0 q d = 0 := by
  unfold memS
  exact Finset.sum_eq_zero fun e _ => if_neg (Nat.not_lt_zero _)

/-- One more written row adds its five weighted states. -/
theorem memS_succ (h h' : ℕ → Row) (n : ℕ) (hn : n < 128) (hold : ∀ e, e < n → h' e = h e) (q : Fin 2048) (d : Fin 64) :
    memS h' (n + 1) q d
      = memS h n q d + ∑ jp : Fin 5, (if place (h' n).base jp = q then (h' n).w jp * (h' n).su d else 0) := by
  unfold memS
  have : (∑ jp : Fin 5, (if place (h' n).base jp = q then (h' n).w jp * (h' n).su d else 0))
      = ∑ e : Fin 128, if e = ⟨n, hn⟩ then ∑ jp : Fin 5, (if place (h' n).base jp = q then (h' n).w jp * (h' n).su d else 0) else 0 := by
    rw [Finset.sum_ite_eq' Finset.univ (⟨n, hn⟩ : Fin 128), if_pos (Finset.mem_univ _)]
  rw [this, ← Finset.sum_add_distrib]
  refine Finset.sum_congr rfl fun e _ => ?_
  rcases lt_trichotomy e.val n with he | he | he
  · rw [if_pos (by omega), if_pos he, if_neg (fun hh => by rw [hh] at he; exact lt_irrefl _ he), add_zero, hold _ he]
  · rw [if_pos (by omega), if_neg (by omega), if_pos (Fin.ext he), zero_add, he]
  · rw [if_neg (by omega), if_neg (by omega), if_neg (fun hh => by rw [hh] at he; exact lt_irrefl _ he), add_zero]

/-- A row written by a real pointer. -/
def Row.Good (r : Row) : Prop :=
  (∃ p, r.base = baseS p) ∧ (∃ f : Fin 5 → ℝ, ∀ j, r.w j = (f j : EReal)) ∧ ∃ f : Fin 64 → ℝ, ∀ d, r.su d = (f d : EReal)

theorem coe_ite (c : Prop) [Decidable c] (x y : ℝ) : (if c then (x : EReal) else (y : EReal)) = ((if c then x else y : ℝ) : EReal) := by
  split <;> rfl

/-- The weighted read of the memory at the five places of a real pointer is the read of the history. -/
theorem read_eq (r : ℝ) (h : ℕ → Row) (n : ℕ) (hg : ∀ e, e < n → (h e).Good) (d : Fin 64) :
    ∑ j : Fin 5, wS r j * memS h n (place (baseS r) j) d = ctxS h n r d := by
  obtain ⟨f, hf⟩ := wS_real r
  have hW : ∃ W : ℕ → Fin 5 → ℝ, ∀ e, e < n → ∀ j, (h e).w j = (W e j : EReal) :=
    ⟨fun e j => ((h e).w j).toReal, fun e he j => by obtain ⟨-, ⟨g, hg⟩, -⟩ := hg e he; show (h e).w j = (((h e).w j).toReal : EReal); rw [hg j, EReal.toReal_coe]⟩
  have hS : ∃ S : ℕ → ℝ, ∀ e, e < n → (h e).su d = (S e : EReal) :=
    ⟨fun e => ((h e).su d).toReal, fun e he => by obtain ⟨-, -, ⟨g, hg⟩⟩ := hg e he; show (h e).su d = (((h e).su d).toReal : EReal); rw [hg d, EReal.toReal_coe]⟩
  obtain ⟨W, hW⟩ := hW
  obtain ⟨S, hS⟩ := hS
  have hm : ∀ q, memS h n q d = ((∑ e : Fin 128, if e.val < n then ∑ jp : Fin 5, (if place (h e.val).base jp = q then W e.val jp * S e.val else 0) else 0 : ℝ) : EReal) := fun q => by
    unfold memS
    rw [coe_sum]
    refine Finset.sum_congr rfl fun e _ => ?_
    by_cases he : e.val < n
    · rw [if_pos he, if_pos he, coe_sum]
      refine Finset.sum_congr rfl fun jp _ => ?_
      rw [hW _ he, hS _ he, ← EReal.coe_mul]
      exact coe_ite _ _ 0
    · rw [if_neg he, if_neg he]; rfl
  have hc : ctxS h n r d = ((∑ e : Fin 128, if e.val < n then (∑ jp : Fin 5, W e.val jp * ∑ m : Fin 5, if place (h e.val).base jp = place (baseS r) m then f m else 0) * S e.val else 0 : ℝ) : EReal) := by
    unfold ctxS
    rw [coe_sum]
    refine Finset.sum_congr rfl fun e _ => ?_
    by_cases he : e.val < n
    · rw [if_pos he, if_pos he, hS _ he, EReal.coe_mul]
      congr 1
      unfold coef
      rw [coe_sum]
      refine Finset.sum_congr rfl fun jp _ => ?_
      rw [hW _ he, EReal.coe_mul, coe_sum]
      congr 1
      refine Finset.sum_congr rfl fun m _ => ?_
      obtain ⟨⟨p, hp⟩, -⟩ := hg _ he
      rw [hp, ← coe_ite, hf m]
      by_cases hh : place (baseS p) jp = place (baseS r) m
      · rw [if_pos hh, if_pos ((near_iff _ _ _ _).mpr hh)]
      · rw [if_neg hh, if_neg (fun h' => hh ((near_iff _ _ _ _).mp h'))]; rfl
    · rw [if_neg he, if_neg he]; rfl
  rw [hc, show (∑ j : Fin 5, wS r j * memS h n (place (baseS r) j) d)
      = ((∑ j : Fin 5, f j * ∑ e : Fin 128, if e.val < n then ∑ jp : Fin 5, (if place (h e.val).base jp = place (baseS r) j then W e.val jp * S e.val else 0) else 0 : ℝ) : EReal) from by
    rw [coe_sum]
    exact Finset.sum_congr rfl fun j _ => by rw [hf j, hm, EReal.coe_mul]]
  refine congrArg (fun x : ℝ => (x : EReal)) ?_
  simp only [Finset.mul_sum]
  rw [Finset.sum_comm]
  refine Finset.sum_congr rfl fun e _ => ?_
  by_cases he : e.val < n
  · simp only [if_pos he, Finset.mul_sum, Finset.sum_mul]
    rw [Finset.sum_comm]
    refine Finset.sum_congr rfl fun jp _ => Finset.sum_congr rfl fun m _ => ?_
    split <;> ring
  · simp only [if_neg he, mul_zero, Finset.sum_const_zero]

/-- The gate plus the gap to its strength is the gate. -/
theorem gate_eq (x : EReal) : FloatOps.uitofp (F := Ideal) FTy.f32 (BitVec.ofBool (decide (Ideal.ofBits .f32 0x3F000000#32 < Ideal.logistic x))) - Ideal.logistic x
    + Ideal.logistic x = if Ideal.ofBits .f32 0x3F000000#32 < Ideal.logistic x then 1 else 0 := by
  obtain ⟨q, hq⟩ := logistic_real x
  rw [hq]
  have h1 : FloatOps.uitofp (F := Ideal) FTy.f32 (BitVec.ofBool true) = ((1 : ℝ) : EReal) := by
    show (((BitVec.ofBool true).toNat : ℝ) : EReal) = _
    simp
  have h0 : FloatOps.uitofp (F := Ideal) FTy.f32 (BitVec.ofBool false) = ((0 : ℝ) : EReal) := by
    show (((BitVec.ofBool false).toNat : ℝ) : EReal) = _
    simp
  by_cases h : Ideal.ofBits .f32 0x3F000000#32 < (q : EReal)
  · rw [if_pos h, decide_eq_true h, h1, ← EReal.coe_sub, ← EReal.coe_add, sub_add_cancel]; rfl
  · rw [if_neg h, decide_eq_false h, h0, ← EReal.coe_sub, ← EReal.coe_add, sub_add_cancel]; rfl

theorem place_two (p : EReal) : ((place (baseS p) 2).val : ℤ) = (baseS p).toInt := by
  have h := baseS_range p
  rw [place_val]
  show ((baseS p).toInt + 2 - 2) % 2048 = _
  omega

/-- The one-hot sum picks the destination of the base. -/
theorem destS_eq (P : Par) (bi : Fin 4) (p : EReal) : destS P bi p = P.dst bi (place (baseS p) 2) := by
  unfold destS
  have h : ∀ y : Fin 2048, Scalar.select (IntOp.cmpi .eq (BitVec.ofNat 32 y.val) (baseS p)) (P.dst bi y) 0
      = if y = place (baseS p) 2 then P.dst bi y else 0 := fun y => by
    have e : (BitVec.ofNat 32 y.val = baseS p) ↔ y = place (baseS p) 2 := by
      rw [← BitVec.toInt_inj, toInt_ofNat _ (by have := y.isLt; omega), ← place_two, Fin.ext_iff]
      exact Int.natCast_inj
    by_cases hy : y = place (baseS p) 2
    · rw [if_pos hy, show IntOp.cmpi .eq (BitVec.ofNat 32 y.val) (baseS p) = 1#1 by
        rw [e.mpr hy]; simp [IntOp.cmpi]]
      rfl
    · rw [if_neg hy, show IntOp.cmpi .eq (BitVec.ofNat 32 y.val) (baseS p) = 0#1 by
        have : ¬ BitVec.ofNat 32 y.val = baseS p := fun h => hy (e.mp h)
        show BitVec.ofBool (BitVec.ofNat 32 y.val == baseS p) = _
        rw [beq_eq_false_iff_ne.mpr this]; rfl]
      rfl
  rw [Finset.sum_congr rfl fun y _ => h y, Finset.sum_ite_eq', if_pos (Finset.mem_univ _)]

theorem pyS_coe (r : ℝ) : ∃ q : ℝ, pyS r = (q : EReal) := ⟨_, pyS_real r⟩

/-- A real pointer moves to a real pointer. -/
theorem ptrS_real (P : Par) (bi : Fin 4) (hd : ∀ y, ∃ q : ℝ, P.dst bi y = (q : EReal)) (r : ℝ) (su : Fin 64 → EReal) :
    ∃ q : ℝ, ptrS P bi r su = (q : EReal) := by
  unfold ptrS
  rw [destS_eq]
  obtain ⟨a, ha⟩ := hd (place (baseS r) 2)
  obtain ⟨w, hw⟩ := pyS_coe (r + 1)
  have hw' : pyS ((r : EReal) + 1) = (w : EReal) := hw
  have hj : ∃ q : ℝ, jumpS P bi su = (q : EReal) := by
    unfold jumpS
    split
    · exact ⟨1, rfl⟩
    · exact ⟨0, rfl⟩
  obtain ⟨j, hj⟩ := hj
  rw [ha, hw', hj, show (1 : EReal) = ((1 : ℝ) : EReal) from rfl, ← EReal.coe_sub, ← EReal.coe_mul, ← EReal.coe_mul, ← EReal.coe_add]
  exact pyS_coe _

/-- Every step by its time and being. -/
theorem split_step (n : ℕ) (hn : n < 128) : ∃ (t : Fin 32) (bi : Fin 4), n = 4 * t.val + bi.val :=
  ⟨⟨n / 4, by omega⟩, ⟨n % 4, by omega⟩, by show n = 4 * (n / 4) + n % 4; omega⟩

variable (P : Par) (h0 : ∀ k, ∃ q : ℝ, P.ptr0 k = (q : EReal)) (hd : ∀ k y, ∃ q : ℝ, P.dst k y = (q : EReal))
include h0 hd

/-- The pointers stay real. -/
theorem traj_real (n : ℕ) (hn : n ≤ 128) : ∀ k, ∃ q : ℝ, (traj P n).ptr k = (q : EReal) := by
  induction n with
  | zero => exact h0
  | succ n ih =>
    intro k
    have ih := ih (by omega)
    obtain ⟨t, bi, rfl⟩ := split_step n (by omega)
    rw [traj_succ]
    by_cases hk : k = bi
    · subst hk
      rw [ptr_self]
      obtain ⟨q, hq⟩ := ih k
      rw [hq]
      exact ptrS_real P k (hd k) q _
    · have : (stepM P t bi (traj P (4 * t.val + bi.val))).ptr k = (traj P (4 * t.val + bi.val)).ptr k := by
        simp [stepM, hk]
      rw [this]
      exact ih k

omit h0 hd in
theorem rowS_good (t : Fin 32) (bi : Fin 4) (M : MS) (hr : ∃ q : ℝ, M.ptr bi = (q : EReal)) : (rowS P t bi M).Good := by
  obtain ⟨q, hq⟩ := hr
  refine ⟨⟨M.ptr bi, rfl⟩, ?_, ?_⟩
  · obtain ⟨f, hf⟩ := wS_real q
    exact ⟨f, fun j => by show wS (M.ptr bi) j = _; rw [hq, hf]⟩
  · choose f hf using fun d => tanh_real (∑ y, P.pw d y * Ideal.tanh (∑ i, P.iw y i * P.x t i + P.ib y
      + P.cs bi * ctxS M.hist (4 * t.val + bi.val) (M.ptr bi) y
      + Ideal.ofBits .f32 0x3DCCCCCD#32 * P.ph bi y + M.hid bi y) + P.pb d)
    exact ⟨f, hf⟩

omit h0 hd in
theorem hist_old (t : Fin 32) (bi : Fin 4) (M : MS) (e : ℕ) (he : e < 4 * t.val + bi.val) : (stepM P t bi M).hist e = M.hist e := by
  have : e ≠ 4 * t.val + bi.val := by omega
  simp [stepM, this]

/-- Every written row was written by a real pointer. -/
theorem hist_good (n : ℕ) (hn : n ≤ 128) : ∀ e, e < n → ((traj P n).hist e).Good := by
  induction n with
  | zero => intro e he; exact absurd he (Nat.not_lt_zero _)
  | succ n ih =>
    intro e he
    have ih := ih (by omega)
    have hr := traj_real P h0 hd n (by omega)
    obtain ⟨t, bi, rfl⟩ := split_step n (by omega)
    rw [traj_succ]
    by_cases h : e = 4 * t.val + bi.val
    · rw [h, hist_self]
      exact rowS_good P t bi _ (hr bi)
    · have he' : e < 4 * t.val + bi.val := by omega
      rw [hist_old P t bi _ e he']
      exact ih e he'

/-- Every hidden state is real. -/
theorem suAt_real (n : ℕ) (hn : n < 128) : ∃ f : Fin 64 → ℝ, ∀ d, suAt P n d = (f d : EReal) :=
  (hist_good P h0 hd (n + 1) (by omega) n (by omega)).2.2

omit h0 hd

/-- The mean of the four projections is the projection of the mean. -/
theorem mean_eq (t : Fin 32) (o : Fin 8) (ow : Fin 64 → ℝ) (how : ∀ y, P.ow o y = (ow y : EReal)) (S : Fin 4 → Fin 64 → ℝ)
    (hS : ∀ k y, suAt P (4 * t.val + (k : Fin 4).val) y = (S k y : EReal)) :
    Ideal.div (∑ k : Fin 4, (∑ y, suAt P (4 * t.val + k.val) y * P.ow o y + P.ob o)) (Ideal.ofBits .f32 0x40800000#32) = outS P t o := by
  unfold outS
  have h0 := hS 0
  have h1 := hS 1
  have h2 := hS 2
  have h3 := hS 3
  simp only [Fin.val_zero, add_zero, Fin.val_one, Fin.val_two, show ((3 : Fin 4).val) = 3 from rfl] at h0 h1 h2 h3
  have hr : (∑ y, P.ow o y * ((suAt P (4 * t.val) y + suAt P (4 * t.val + 1) y + suAt P (4 * t.val + 2) y + suAt P (4 * t.val + 3) y) * Ideal.ofBits .f32 0x3E800000#32))
      = ((∑ y, ow y * ((S 0 y + S 1 y + S 2 y + S 3 y) * (1 / 4)) : ℝ) : EReal) := by
    rw [coe_sum]
    refine Finset.sum_congr rfl fun y _ => ?_
    rw [how, h0, h1, h2, h3, wquarter]
    simp only [← EReal.coe_add, ← EReal.coe_mul]
  have hl : ∀ k : Fin 4, (∑ y, suAt P (4 * t.val + k.val) y * P.ow o y) = ((∑ y, S k y * ow y : ℝ) : EReal) := fun k => by
    rw [coe_sum]
    exact Finset.sum_congr rfl fun y _ => by rw [hS, how, ← EReal.coe_mul]
  rw [hr, w4]
  simp only [hl]
  rw [Fin.sum_univ_four]
  generalize P.ob o = ob
  have hd : ∀ x : EReal, Ideal.div x ((4 : ℝ) : EReal) = x * (((4 : ℝ)⁻¹ : ℝ) : EReal) := fun x => by
    unfold Ideal.div
    rw [if_neg (by rw [EReal.coe_eq_zero]; norm_num), ← EReal.coe_inv]
  induction ob using EReal.rec with
  | bot => rw [hd]; simp only [EReal.add_bot, EReal.bot_mul_coe_of_pos (show (0 : ℝ) < 4⁻¹ by norm_num)]
  | top => rw [hd]; simp only [EReal.coe_add_top, EReal.top_add_top, EReal.top_mul_coe_of_pos (show (0 : ℝ) < 4⁻¹ by norm_num)]
  | coe b =>
    simp only [← EReal.coe_add]
    rw [div_real _ _ (by norm_num)]
    refine congrArg (fun x : ℝ => (x : EReal)) ?_
    have : (∑ y, ow y * ((S 0 y + S 1 y + S 2 y + S 3 y) * (1 / 4))) = ((∑ y, S 0 y * ow y) + (∑ y, S 1 y * ow y) + (∑ y, S 2 y * ow y) + (∑ y, S 3 y * ow y)) * (1 / 4) := by
      rw [← Finset.sum_add_distrib, ← Finset.sum_add_distrib, ← Finset.sum_add_distrib, Finset.sum_mul]
      exact Finset.sum_congr rfl fun y _ => by ring
    rw [this]
    ring

end Cert.Proof.Ring

end
-- ==== Proof.Own.Ref.Chain.lean ====
module

public import proofs.«01_k».proof.Proof.Own.Ref.Slices
public import proofs.«01_k».proof.Proof.Own.Ref.Reads

@[expose] public section

noncomputable section

/-! A trip of the reference, element by element. -/
namespace Cert.Proof.Ref

open Cert.ReferenceIdeal Cert.ReferenceIdeal.Gen Cert.ReferenceIdeal.Step
open Idealize.ShloMosaic
open Cert.Proof.Ring (pyS circS baseS place intS deS lgS exS wS)

variable (t : Fin 32) (bi : Fin 4) (s : State Ideal)

theorem ne_xor : ∀ a b : BitVec 1, IntOp.cmpi .ne a b = IntOp.xori a b := by decide

/-- The reference's remainder is the model's. -/
theorem pyR_eq (y : EReal) :
    Scalar.select (IntOp.andi (IntOp.cmpi .ne (BitVec.ofBool (decide (Ideal.remf y (FloatOps.sitofp (F := Ideal) FTy.f32 2048#32) < 0)))
        (BitVec.ofBool (decide (FloatOps.sitofp (F := Ideal) FTy.f32 2048#32 < (0 : EReal)))))
        (BitVec.ofBool (decide (Ideal.remf y (FloatOps.sitofp (F := Ideal) FTy.f32 2048#32) ≠ 0))))
      (Ideal.remf y (FloatOps.sitofp (F := Ideal) FTy.f32 2048#32) + (FloatOps.sitofp (F := Ideal) FTy.f32 2048#32 : EReal))
      (Ideal.remf y (FloatOps.sitofp (F := Ideal) FTy.f32 2048#32)) = pyS y := by
  rw [ne_xor]
  rfl

/-- The pointer of being `bi`. -/
theorem b35_at (b : Fin 128) : b35 (nth t bi) s (ix1 b) = s.main_v4_16 (ix2 bi b) := by
  pointwise [b35]
  exact b34_at t bi s b

theorem base_at (b : Fin 128) : b49 (nth t bi) s (ix1 b) = baseS (s.main_v4_16 (ix2 bi b)) := by
  pointwise [b49, b48, b47, b46, b45, b44, b43, b42, b41, b40]
  rw [b35_at]
  rfl

/-- The integer remainder of the shifted base is the neighbour's place. -/
theorem word_place (p : EReal) (j : Fin 5) :
    (IntOp.remsi .host (IntOp.addi (IntOp.addi (baseS p) (IntOp.addi 4294967294#32 (BitVec.ofNat 32 j.val))) 2048#32) 2048#32).toInt
      = ((place (baseS p) j).val : ℤ) := by
  have hb := Ring.baseS_range p
  have hj := j.isLt
  have h2048 : (2048#32 : BitVec 32).toInt = 2048 := by decide
  have hm2 : (4294967294#32 : BitVec 32).toInt = -2 := by decide
  have hjn := Ring.toInt_ofNat j.val (by omega)
  have hx : (IntOp.addi (IntOp.addi (baseS p) (IntOp.addi 4294967294#32 (BitVec.ofNat 32 j.val))) 2048#32).toInt
      = (baseS p).toInt + j.val + 2046 := by
    unfold IntOp.addi
    simp only [BitVec.toInt_add, hjn, h2048, hm2, Int.bmod_def]
    omega
  have hc : ¬ IntOp.SDivCorner (IntOp.addi (IntOp.addi (baseS p) (IntOp.addi 4294967294#32 (BitVec.ofNat 32 j.val))) 2048#32) 2048#32 := by
    unfold IntOp.SDivCorner
    rintro (h | ⟨-, h⟩)
    · exact absurd h (by decide)
    · exact absurd h (by decide)
  unfold IntOp.remsi
  rw [if_neg hc, BitVec.toInt_srem, hx, h2048, Ring.place_val, Int.tmod_eq_emod_of_nonneg (by omega)]
  omega

theorem idx_at (b : Fin 128) (j : Fin 5) : (b60 (nth t bi) s (ix2 b j)).toInt = ((place (baseS (s.main_v4_16 (ix2 bi b))) j).val : ℤ) := by
  pointwise [b60, b59, b58, b57, b56, b55, b54, b53, b52, b51, b50, b39, b38, b37, b36]
  rw [base_at]
  exact word_place _ j

theorem de_at (b : Fin 128) (j : Fin 5) : b88 (nth t bi) s (ix2 b j) = deS (s.main_v4_16 (ix2 bi b)) j := by
  pointwise [b88, b87, b86, b85, b84, b83, b82, b81, b80, b79, b78, b77, b76, b75, b74, b73, b72, b71, b70, b69, b68, b67, b66, b65, b64, b63, b62, b61]
  rw [b35_at, pyR_eq, show FloatOps.sitofp (F := Ideal) FTy.f32 (b60 (nth t bi) s (ix2 b j))
      = (((place (baseS (s.main_v4_16 (ix2 bi b))) j).val : ℝ) : EReal) from by
    show (((b60 (nth t bi) s (ix2 b j)).toInt : ℝ) : EReal) = _
    rw [idx_at]; norm_cast]
  unfold deS circS
  rw [Ring.pos_eq]

theorem lg_at (b : Fin 128) (j : Fin 5) : b93 (nth t bi) s (ix2 b j) = lgS (s.main_v4_16 (ix2 bi b)) j := by
  pointwise [b93, b92, b91, b90, b89]
  rw [de_at]
  unfold lgS
  rw [zero_sub]

/-- The weight of neighbour `j`. -/
theorem w_at (b : Fin 128) (j : Fin 5) : b107 (nth t bi) s (ix2 b j) = wS (s.main_v4_16 (ix2 bi b)) j := by
  pointwise [b107, b106, b105, b104, b103, b102, b101, b100, b99, b98, b97, b96, b95, b94]
  simp only [lg_at]
  rw [max_eq_right (by rw [Ring.wbot]; exact bot_le)]
  rfl

theorem wrap_place (v : BitVec 32) (h : 0 ≤ v.toInt) : Scalar.select (IntOp.cmpi .slt v 0#32) (IntOp.addi v 2048#32) v = v := by
  have : IntOp.cmpi .slt v 0#32 = 0#1 := by
    show BitVec.ofBool (v.slt 0#32) = _
    rw [BitVec.slt, show (0#32 : BitVec 32).toInt = 0 by decide, decide_eq_false (by omega)]
    rfl
  rw [this]
  rfl

theorem wrap_batch : ∀ b : Fin 128, (Scalar.select (IntOp.cmpi .slt (BitVec.ofNat 32 b.val) 0#32) (IntOp.addi (BitVec.ofNat 32 b.val) 128#32) (BitVec.ofNat 32 b.val)).toInt = b.val := by decide

theorem gi0_at (b : Fin 128) (j : Fin 5) : (b126 (nth t bi) s (ix3 b j 0)).toInt = b.val := by
  pointwise [b126, b125, b124, b123, b122, b121, b120, b119, b118, b117, b116, b115, b114, b113, b112, b111, b110, b109, b108, K_main_v0]
  exact wrap_batch b

theorem gi1_at (b : Fin 128) (j : Fin 5) : (b126 (nth t bi) s (ix3 b j 1)).toInt = ((place (baseS (s.main_v4_16 (ix2 bi b))) j).val : ℤ) := by
  pointwise [b126, b125, b124, b123, b122, b121, b120, b119, b118, b117, b116, b115, b114, b113, b112, b111, b110, b109, b108, K_main_v0]
  rw [wrap_place _ (by rw [idx_at]; exact Int.natCast_nonneg _), idx_at]

theorem si0_at (b : Fin 128) (j : Fin 5) : (b231 (nth t bi) s (ix3 b j 0)).toInt = b.val := by
  pointwise [b231, b230, b229, b228, b227, b226, b225, b224, b223, b222, b221, b220, b219, b218, b217, b216, b215, b214, b208, K_main_v0]
  exact wrap_batch b

theorem si1_at (b : Fin 128) (j : Fin 5) : (b231 (nth t bi) s (ix3 b j 1)).toInt = ((place (baseS (s.main_v4_16 (ix2 bi b))) j).val : ℤ) := by
  pointwise [b231, b230, b229, b228, b227, b226, b225, b224, b223, b222, b221, b220, b219, b218, b217, b216, b215, b214, b208, K_main_v0]
  rw [wrap_place _ (by rw [idx_at]; exact Int.natCast_nonneg _), idx_at]

/-- What the pointer reads of the memory. -/
theorem ctx_at (b : Fin 128) (d : Fin 64) : b132 (nth t bi) s (ix2 b d)
    = ∑ j : Fin 5, wS (s.main_v4_16 (ix2 bi b)) j * s.main_v4_15 (ix3 b (place (baseS (s.main_v4_16 (ix2 bi b))) j) d) := by
  pointwise [b132, b131, b130, b129, b128]
  refine Finset.sum_congr rfl fun j _ => ?_
  rw [w_at]
  unfold b127
  rw [gather3 _ _ b j d b _ (gi0_at t bi s b j) (gi1_at t bi s b j)]

/-- The memory after the trip. -/
theorem mem_at (b : Fin 128) (p : Fin 2048) (d : Fin 64) : b232 (nth t bi) s (ix3 b p d)
    = s.main_v4_15 (ix3 b p d) + ∑ j : Fin 5, if place (baseS (s.main_v4_16 (ix2 bi b))) j = p
        then wS (s.main_v4_16 (ix2 bi b)) j * b207 (nth t bi) s (ix2 b d) else 0 := by
  unfold b232
  rw [scatter3 _ _ _ (fun b j => place (baseS (s.main_v4_16 (ix2 bi b))) j) (si0_at t bi s) (si1_at t bi s)]
  refine congrArg (s.main_v4_15 (ix3 b p d) + ·) (Finset.sum_congr rfl fun j _ => ?_)
  have : b213 (nth t bi) s (ix3 b j d) = wS (s.main_v4_16 (ix2 bi b)) j * b207 (nth t bi) s (ix2 b d) := by
    pointwise [b213, b212, b211, b210, b209]
    rw [w_at]
  rw [this]

/-- The hidden state after its first nonlinearity. -/
theorem th_at (b : Fin 128) (d : Fin 64) : b200 (nth t bi) s (ix2 b d)
    = Ideal.tanh (∑ x, s.main_v4_1 (ix2 x d) * s.main_v4_0 (ix3 b t x) + s.main_v4_2 (ix1 d)
        + Ring.sigS (s.main_v4_4 (ix1 bi)) * b132 (nth t bi) s (ix2 b d)
        + Ideal.ofBits .f32 0x3DCCCCCD#32 * (if h : d.val < 16 then s.main_v4_5 (ix2 bi ⟨d.val, h⟩) else 0)
        + s.main_v4_17 (ix3 bi b d)) := by
  pointwise [b200, b199, b198, b174, b173, b172, b171, b170, b169, b168, b167, b166, b165, b149, b148, b147, b146, b145, b144, b143, b142, b141, b140, b19, b18, b17, b16, b15]
  simp only [b14_at, b139_at, b164_at, b197_at]
  unfold Ring.sigS
  rw [Finset.sum_congr rfl fun x _ => mul_comm (s.main_v4_0 (ix3 b t x)) (s.main_v4_1 (ix2 x d))]

theorem su_at (b : Fin 128) (d : Fin 64) : b207 (nth t bi) s (ix2 b d)
    = Ideal.tanh (∑ y, s.main_v4_6 (ix3 0 y d) * b200 (nth t bi) s (ix2 b y) + s.main_v4_7 (ix2 0 d)) := by
  pointwise [b207, b206, b205, b204, b203, b202, b201]
  rw [Finset.sum_congr rfl fun x _ => mul_comm (b200 (nth t bi) s (ix2 b x)) (s.main_v4_6 (ix3 0 x d))]

/-- The gate of the jump. -/
theorem hard_at (b : Fin 128) : b283 (nth t bi) s (ix1 b)
    = if Ideal.ofBits .f32 0x3F000000#32 < Ideal.logistic (∑ y, s.main_v4_8 (ix2 bi y) * b207 (nth t bi) s (ix2 b y) + s.main_v4_9 (ix1 bi)) then 1 else 0 := by
  have h : b277 (nth t bi) s (ix1 b) = Ideal.logistic (∑ y, s.main_v4_8 (ix2 bi y) * b207 (nth t bi) s (ix2 b y) + s.main_v4_9 (ix1 bi)) := by
    pointwise [b277, b276, b275, b274, b273, b272, b271, b270, b269, b268, b267, b259, b258]
    simp only [b257_at, b266_at]
    rw [Finset.sum_congr rfl fun x _ => mul_comm (b207 (nth t bi) s (ix2 b x)) (s.main_v4_8 (ix2 bi x))]
    rfl
  pointwise [b283, b282, b281, b280, b279, b278]
  rw [h]
  exact Ring.gate_eq _

theorem walk_at (b : Fin 128) : b304 (nth t bi) s (ix1 b) = pyS (s.main_v4_16 (ix2 bi b) + 1) := by
  pointwise [b304, b303, b302, b301, b300, b299, b298, b297, b296, b295, b294, b293, b292, b291, b290, b289, b288, b287, b286, b285, b284]
  rw [b35_at]
  exact pyR_eq _

theorem di_at (b : Fin 128) : (b328 (nth t bi) s (ix2 b 0)).toInt = ((place (baseS (s.main_v4_16 (ix2 bi b))) 2).val : ℤ) := by
  pointwise [b328, b327, b326, b325, b324, b323, b322, b321, b242, b241, b240, b239, b238, b237, b236, b235, b234, b233]
  rw [b35_at, show (IntOp.minsi (2047#32) (IntOp.maxsi (0#32) (FloatOps.fptosi (F := Ideal) (φ := .f32) 32 (Ideal.liftRound Int.floor (s.main_v4_16 (ix2 bi b))))))
      = baseS (s.main_v4_16 (ix2 bi b)) from rfl, wrap_place _ (Ring.baseS_range _).1, Ring.place_two]

/-- The destination at the base. -/
theorem dest_at (b : Fin 128) : b329 (nth t bi) s (ix1 b) = s.main_v4_10 (ix2 bi (place (baseS (s.main_v4_16 (ix2 bi b))) 2)) := by
  unfold b329
  rw [gather1 _ _ b _ (di_at t bi s b)]
  pointwise [b320]
  exact b319_at t bi s _

/-- The next pointer. -/
theorem np_at (b : Fin 128) : b353 (nth t bi) s (ix1 b)
    = pyS (b283 (nth t bi) s (ix1 b) * s.main_v4_10 (ix2 bi (place (baseS (s.main_v4_16 (ix2 bi b))) 2))
        + (1 - b283 (nth t bi) s (ix1 b)) * pyS (s.main_v4_16 (ix2 bi b) + 1)) := by
  pointwise [b353, b352, b351, b350, b349, b348, b347, b346, b345, b344, b343, b342, b341, b340, b339, b338, b337, b336, b335, b334, b333, b332, b331, b330]
  rw [dest_at, walk_at]
  exact pyR_eq _

theorem out_at (b : Fin 128) (o : Fin 8) : b357 (nth t bi) s (ix2 b o)
    = ∑ x, b207 (nth t bi) s (ix2 b x) * s.main_v4_11 (ix2 x o) + s.main_v4_12 (ix1 o) := by
  pointwise [b357, b356, b355, b354]

theorem sel_bi : ∀ k bi : Fin 4, IntOp.cmpi .eq (BitVec.ofNat 32 k.val) (BitVec.ofNat 32 bi.val) = if k = bi then 1#1 else 0#1 := by decide
theorem sel_t : ∀ k t : Fin 32, IntOp.cmpi .eq (BitVec.ofNat 32 k.val) (BitVec.ofNat 32 t.val) = if k = t then 1#1 else 0#1 := by decide

theorem ptrs_at (k : Fin 4) (b : Fin 128) : b366 (nth t bi) s (ix2 k b) = if k = bi then b353 (nth t bi) s (ix1 b) else s.main_v4_16 (ix2 k b) := by
  pointwise [b366, b365, b364, b363, b362, b361, b360, b359, b358]
  rw [b5_at, sel_bi]
  by_cases h : k = bi
  · rw [if_pos h, if_pos h]; rfl
  · rw [if_neg h, if_neg h]; rfl

theorem hids_at (k : Fin 4) (b : Fin 128) (d : Fin 64) :
    b371 (nth t bi) s (ix3 k b d) = if k = bi then b207 (nth t bi) s (ix2 b d) else s.main_v4_17 (ix3 k b d) := by
  pointwise [b371, b370, b369, b368, b367, b361, b360, b359, b358]
  rw [b5_at, sel_bi]
  by_cases h : k = bi
  · rw [if_pos h, if_pos h]; rfl
  · rw [if_neg h, if_neg h]; rfl

theorem per_at (k : Fin 4) (b : Fin 128) (u : Fin 32) (o : Fin 8) :
    b384 (nth t bi) s (ix4 k b u o) = if k = bi ∧ u = t then b357 (nth t bi) s (ix2 b o) else s.main_v4_18 (ix4 k b u o) := by
  pointwise [b384, b383, b382, b381, b380, b379, b378, b377, b376, b375, b374, b373, b372, b361, b360, b359, b358]
  rw [b5_at, sel_bi, b3_at, sel_t]
  by_cases h : k = bi <;> by_cases h' : u = t <;> simp only [h, h', if_true, if_false, and_true, and_false] <;> rfl

/-- The result of the last state. -/
theorem fin_at (b : Fin 128) (u : Fin 32) (o : Fin 8) :
    R_main_v7 s (ix3 b u o) = Ideal.div (∑ x : Fin 4, s.main_v4_18 (ix4 x b u o)) (Ideal.ofBits .f32 0x40800000#32) := by
  pointwise [R_main_v7]

end Cert.Proof.Ref

end
-- ==== Proof.Own.Ref.Inv.lean ====
module

public import proofs.«01_k».proof.Proof.Own.Ref.Chain

@[expose] public section

noncomputable section

/-! The reference's loop carries the model's trajectory. -/
namespace Cert.Proof.Ref

open Cert.ReferenceIdeal Cert.ReferenceIdeal.Gen Cert.ReferenceIdeal.Step
open Idealize.ShloMosaic
open Cert.Proof.Ring

/-- The arguments the loop carries, as the batch elements see them. -/
structure Fits (s : State Ideal) (P : Fin 128 → Par) : Prop where
  x : ∀ b t i, s.main_v4_0 (ix3 b t i) = (P b).x t i
  iw : ∀ b d i, s.main_v4_1 (ix2 i d) = (P b).iw d i
  ib : ∀ b d, s.main_v4_2 (ix1 d) = (P b).ib d
  cs : ∀ b k, sigS (s.main_v4_4 (ix1 k)) = (P b).cs k
  ph : ∀ b k (d : Fin 64), (if h : d.val < 16 then s.main_v4_5 (ix2 k ⟨d.val, h⟩) else 0) = (P b).ph k d
  pw : ∀ b d y, s.main_v4_6 (ix3 0 y d) = (P b).pw d y
  pb : ∀ b d, s.main_v4_7 (ix2 0 d) = (P b).pb d
  jw : ∀ b k d, s.main_v4_8 (ix2 k d) = (P b).jw k d
  jb : ∀ b k, s.main_v4_9 (ix1 k) = (P b).jb k
  dst : ∀ b k y, s.main_v4_10 (ix2 k y) = (P b).dst k y
  ow : ∀ b o y, s.main_v4_11 (ix2 y o) = (P b).ow o y
  ob : ∀ b o, s.main_v4_12 (ix1 o) = (P b).ob o

/-- The loop's state before trip `n`. -/
structure Holds (s : State Ideal) (P : Fin 128 → Par) (n : ℕ) : Prop where
  fits : Fits s P
  ptr : ∀ k b, s.main_v4_16 (ix2 k b) = (traj (P b) n).ptr k
  hid : ∀ k b d, s.main_v4_17 (ix3 k b d) = (traj (P b) n).hid k d
  mem : ∀ b p d, s.main_v4_15 (ix3 b p d) = memS (traj (P b) n).hist n p d
  per : ∀ (k : Fin 4) b (u : Fin 32) o, nth u k < n →
    s.main_v4_18 (ix4 k b u o) = ∑ y, suAt (P b) (nth u k) y * (P b).ow o y + (P b).ob o

variable {s : State Ideal} {P : Fin 128 → Par} (t : Fin 32) (bi : Fin 4)
  (h0 : ∀ b k, ∃ q : ℝ, (P b).ptr0 k = (q : EReal)) (hd : ∀ b k y, ∃ q : ℝ, (P b).dst k y = (q : EReal))

theorem nth_lt (t : Fin 32) (bi : Fin 4) : nth t bi < 128 := by
  have := t.isLt; have := bi.isLt; unfold nth; omega

include h0 hd in
/-- The read of the memory is the model's read of the history. -/
theorem ctx_model (h : Holds s P (nth t bi)) (b : Fin 128) (d : Fin 64) :
    b132 (nth t bi) s (ix2 b d) = ctxS (traj (P b) (nth t bi)).hist (nth t bi) ((traj (P b) (nth t bi)).ptr bi) d := by
  have hn := nth_lt t bi
  rw [ctx_at]
  simp only [h.ptr, h.mem]
  obtain ⟨q, hq⟩ := traj_real (P b) (h0 b) (hd b) (nth t bi) hn.le bi
  rw [hq]
  exact read_eq q _ _ (hist_good (P b) (h0 b) (hd b) (nth t bi) hn.le) d

include h0 hd in
/-- The new hidden state is the model's. -/
theorem su_model (h : Holds s P (nth t bi)) (b : Fin 128) (d : Fin 64) :
    b207 (nth t bi) s (ix2 b d) = (rowS (P b) t bi (traj (P b) (nth t bi))).su d := by
  rw [su_at]
  simp only [th_at, ctx_model t bi h0 hd h, h.fits.pw b, h.fits.pb b, h.fits.x b, h.fits.iw b, h.fits.ib b, h.fits.cs b, h.fits.ph b, h.hid]
  rfl

include h0 hd in
/-- The new pointer is the model's. -/
theorem ptr_model (h : Holds s P (nth t bi)) (b : Fin 128) :
    b353 (nth t bi) s (ix1 b) = ptrS (P b) bi ((traj (P b) (nth t bi)).ptr bi) (rowS (P b) t bi (traj (P b) (nth t bi))).su := by
  rw [np_at, hard_at]
  simp only [su_model t bi h0 hd h, h.fits.jw b, h.fits.jb b, h.fits.dst b, h.ptr]
  unfold ptrS
  rw [destS_eq]
  rfl

include h0 hd in
/-- A trip is a step of the model. -/
theorem holds_step (h : Holds s P (nth t bi)) : Holds (step (nth t bi) s) P (nth t bi + 1) := by
  have hsucc : ∀ b, traj (P b) (nth t bi + 1) = stepM (P b) t bi (traj (P b) (nth t bi)) := fun b => traj_succ (P b) t bi
  refine ⟨?_, fun k b => ?_, fun k b d => ?_, fun b p d => ?_, fun k b u o hu => ?_⟩
  · obtain ⟨a, a2, a3, a4, a5, a6, a7, a8, a9, a10, a11, a12⟩ := h.fits
    exact ⟨a, a2, a3, a4, a5, a6, a7, a8, a9, a10, a11, a12⟩
  · rw [step_main_v4_16, ptrs_at, hsucc]
    by_cases hk : k = bi
    · subst hk
      rw [if_pos rfl, ptr_self, ptr_model t k h0 hd h]
    · rw [if_neg hk, h.ptr]
      simp [stepM, hk]
  · rw [step_main_v4_17, hids_at, hsucc]
    by_cases hk : k = bi
    · subst hk
      rw [if_pos rfl, hid_self, su_model t k h0 hd h]
    · rw [if_neg hk, h.hid]
      simp [stepM, hk]
  · rw [step_main_v4_15, mem_at, hsucc, memS_succ (traj (P b) (nth t bi)).hist _ _ (nth_lt t bi) (fun e he => hist_old (P b) t bi _ e he), h.mem]
    refine congrArg (memS _ _ _ _ + ·) (Finset.sum_congr rfl fun j _ => ?_)
    rw [show (stepM (P b) t bi (traj (P b) (nth t bi))).hist (nth t bi) = _ from hist_self (P b) t bi _, su_model t bi h0 hd h, h.ptr]
    rfl
  · rw [step_main_v4_18, per_at]
    by_cases hk : k = bi ∧ u = t
    · obtain ⟨rfl, rfl⟩ := hk
      rw [if_pos ⟨rfl, rfl⟩, out_at, show suAt (P b) (nth u k) = _ from suAt_eq (P b) u k]
      simp only [su_model u k h0 hd h, h.fits.ow b, h.fits.ob b]
    · rw [if_neg hk]
      refine h.per k b u o ?_
      have hne : nth u k ≠ nth t bi := fun e => hk (by
        have := k.isLt; have := bi.isLt
        unfold nth at e
        exact ⟨Fin.ext (by omega), Fin.ext (by omega)⟩)
      omega

/-- The states of the loop. -/
def iter (s0 : State Ideal) : ℕ → State Ideal
  | 0 => s0
  | n + 1 => step n (iter s0 n)

include h0 hd in
theorem holds_iter {s0 : State Ideal} (hs : Holds s0 P 0) (n : ℕ) (hn : n ≤ 128) : Holds (iter s0 n) P n := by
  induction n with
  | zero => exact hs
  | succ n ih =>
    obtain ⟨t, bi, e⟩ := split_step n (by omega)
    have := ih (by omega)
    show Holds (step n (iter s0 n)) P (n + 1)
    have e : n = nth t bi := e
    rw [e] at this ⊢
    exact holds_step t bi h0 hd this

include h0 hd in
/-- The reference's result is the model's. -/
theorem result_eq {s0 : State Ideal} (hs : Holds s0 P 0) (how : ∀ b o y, ∃ q : ℝ, (P b).ow o y = (q : EReal)) (b : Fin 128) (u : Fin 32) (o : Fin 8) :
    R_main_v7 (iter s0 128) (ix3 b u o) = outS (P b) u o := by
  have h := holds_iter h0 hd hs 128 le_rfl
  rw [fin_at]
  choose ow how using how b o
  choose S hS using fun k : Fin 4 => suAt_real (P b) (h0 b) (hd b) (nth u k) (nth_lt u k)
  rw [← mean_eq (P b) u o ow how S hS]
  refine congrArg (Ideal.div · _) (Finset.sum_congr rfl fun k _ => ?_)
  exact h.per k b u o (nth_lt u k)

end Cert.Proof.Ref

end
-- ==== Proof.Own.Ref.Start.lean ====
module

public import proofs.«01_k».proof.Proof.Own.Ref.Inv

@[expose] public section

noncomputable section

/-! The state the reference's loop starts at. -/
namespace Cert.Proof.Ref

open Cert.ReferenceIdeal Cert.ReferenceIdeal.Gen Cert.ReferenceIdeal.Step
open Idealize.ShloMosaic
open Cert.Proof.Ring

/-- The loop starts at the model's initial state: empty memory, hidden states zero, the given pointers. -/
theorem start_holds (x : FVec Ideal S128x32x8 .f32) (iw : FVec Ideal S8x64 .f32) (ib : FVec Ideal S64 .f32)
    (ow : FVec Ideal S64x8 .f32) (ob : FVec Ideal S8 .f32) (pw : FVec Ideal S1x64x64 .f32) (pb : FVec Ideal S1x64 .f32)
    (dst : FVec Ideal S4x2048 .f32) (jw : FVec Ideal S4x64 .f32) (jb : FVec Ideal S4 .f32) (cs : FVec Ideal S4 .f32)
    (ph : FVec Ideal S4x16 .f32) (ptr : FVec Ideal S4x128 .f32) :
    Holds (init (F := Ideal) ptr x iw ib cs ph pw pb jw jb dst ow ob)
      (parOf (fun b t i => x (ix3 b t i)) (fun i d => iw (ix2 i d)) (fun d => ib (ix1 d)) (fun d o => ow (ix2 d o))
        (fun o => ob (ix1 o)) (fun y d => pw (ix3 0 y d)) (fun d => pb (ix2 0 d)) (fun bi y => dst (ix2 bi y))
        (fun bi d => jw (ix2 bi d)) (fun bi => jb (ix1 bi)) (fun bi => cs (ix1 bi)) (fun bi j => ph (ix2 bi j))
        (fun bi b => ptr (ix2 bi b))) 0 where
  fits := by constructor <;> intros <;> rfl
  ptr _ _ := rfl
  hid k b d := by
    show K_main_v2 (F := Ideal) (ix3 k b d) = 0
    pointwise [K_main_v2, K_main_cst_0]
  mem b p d := by
    rw [memS_zero]
    show K_main_v1 (F := Ideal) (ix3 b p d) = 0
    pointwise [K_main_v1, K_main_cst]
  per _ _ _ _ h := absurd h (Nat.not_lt_zero _)

end Cert.Proof.Ref
-- ==== Proof.lean ====
module

public import proofs.«01_k».proof.Defs
public import proofs.«01_k».proof.Proof.Own.Kernel.Run
public import proofs.«01_k».proof.Proof.Own.KernelIdeal.Run
public import proofs.«01_k».proof.Proof.Own.KernelIdeal.Host
public import proofs.«01_k».proof.Proof.Own.Ref.Pre
public import proofs.«01_k».proof.Proof.Own.Ref.Start
public import proofs.«01_k».proof.Proof.Gen.ReferenceIdeal.StepRun
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel at machine words ends with its arguments unchanged and every counter at zero. -/
theorem frame_kernel : Cert.quiescent_Kernel := fun m ρ _ => Cert.Proof.Kernel.frame m ρ

/-- The kernel over the extended reals ends with its arguments unchanged and every counter at zero. -/
theorem frame_kernelIdeal : Cert.quiescent_KernelIdeal := fun m ρ _ => Cert.Proof.KernelIdeal.frame m ρ

/-- The reference over the extended reals ends with its arguments unchanged; it has no counters. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel over the extended reals, launched where the precondition holds, keeps its arguments. -/
theorem frame_kernelIdeal_pre :
    Cert.quiescent_KernelIdeal_pre_finite_pointers (hPre_finite_pointers := Cert.Proof.Pre.facts) :=
  fun m ρ _ => Cert.Proof.KernelIdeal.frame m ρ

/-- The reference, launched where the precondition holds, keeps its arguments. -/
theorem frame_reference_pre :
    Cert.quiescent_ReferenceIdeal_pre_finite_pointers (hPre_finite_pointers := Cert.Proof.Pre.facts) :=
  fun m ρ _ => frame_reference m ρ trivial

/-- THE VALUES: on the same arguments, with real first pointers, destinations and output weights, the kernel and the
    reference both end with the model's outputs, and both keep their arguments. -/
theorem algebraic :
    Cert.algebraic_KernelIdeal_ReferenceIdeal_pre_finite_pointers (hPre_finite_pointers := Cert.Proof.Pre.facts) := by
  haveI := Cert.Proof.Pre.facts
  intro m g m' g' hp he
  refine ⟨Cert.Proof.KernelIdeal.res m, ?_, ?_⟩
  · refine (θ_run Cert.KernelIdeal.defs _ _).mono (fun r h c => ⟨h.1 c, h.2.1 c⟩)
      (θ_run_and (Cert.Proof.KernelIdeal.run_res m g) (Cert.Proof.KernelIdeal.frame m g))
  · refine (θ_run Cert.ReferenceIdeal.defs _ _).mono (fun r h c => ⟨(h c).1.trans ?_, (h c).2⟩)
      (Cert.ReferenceIdeal.StepRun.run_iter m' g' (fun c => Cert.Proof.Ref.iter (Cert.ReferenceIdeal.StepRun.initState m' c))
        (fun _ => rfl) (fun _ _ => rfl))
    have hr := Cert.Proof.Pre.reals (hp c)
    have hs : Cert.Proof.Ref.Holds (Cert.ReferenceIdeal.StepRun.initState m' c) (Cert.Proof.KernelIdeal.parM m c) 0 := by
      obtain ⟨e0, e1, e2, e3, e4, e5, e6, e7, e8, e9, e10, e11, e12⟩ := he c
      unfold Cert.ReferenceIdeal.StepRun.initState
      rw [e0, e1, e2, e3, e4, e5, e6, e7, e8, e9, e10, e11, e12]
      exact Cert.Proof.Ref.start_holds _ _ _ _ _ _ _ _ _ _ _ _ _
    funext i
    have e := Cert.Proof.Ref.result_eq (P := Cert.Proof.KernelIdeal.parM m c) (fun b k => hr.1 _) (fun b k y => hr.2.1 _)
      hs (fun b o y => hr.2.2 _) (i 0) (i 1) (i 2)
    exact (congrArg _ (funext fun a => by fin_cases a <;> rfl)).trans e

theorem claim : Cert.Claim :=
  ⟨Cert.Kernel.Gen.facts, Cert.KernelIdeal.Gen.facts, Cert.ReferenceIdeal.Gen.facts, Cert.Proof.Pre.facts,
    frame_kernel, frame_kernelIdeal, frame_kernelIdeal_pre, frame_reference, frame_reference_pre, trivial, algebraic⟩

end Cert.Proof

end
